-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_in_range : Cert.Pre_in_range.Facts] (m : (ℓ : Loc Cert.Kernel3.nD Cert.Kernel3.τ Cert.Kernel3.sig) → Buf (Elt Bits) ℓ) : Prop :=
  ∀ c : Dev Cert.Kernel3.nD,
    (Cert.Pre_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_in_range : Cert.Pre_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_in_range [hPre_in_range : Cert.Pre_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_in_range : Cert.Pre_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_in_range : Cert.Pre_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_in_range [hReference3Ideal : Cert.Reference3Ideal.Facts] [hPre_in_range : Cert.Pre_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_in_range : Cert.Pre_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts) (hPre_in_range : Cert.Pre_in_range.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_in_range := hPre_in_range)
    ∧ quiescent_Kernel3Ideal (hKernel3Ideal := hKernel3Ideal) (hPre_in_range := hPre_in_range)
    ∧ quiescent_Reference3Ideal (hReference3Ideal := hReference3Ideal)
    ∧ quiescent_Reference3Ideal_pre_in_range (hReference3Ideal := hReference3Ideal) (hPre_in_range := hPre_in_range)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_in_range := hPre_in_range)
    ∧ preserves_Kernel4_Kernel4Ideal
    ∧ algebraic_Kernel4Ideal_Reference4Ideal (hKernel4Ideal := hKernel4Ideal) (hReference4Ideal := hReference4Ideal)
-- ==== Pre_finite_qk.lean ====
abbrev S2x16640x8x64 : Shape := ⟨4, ![2, 16640, 8, 64]⟩
abbrev S2x16640x2x64 : Shape := ⟨4, ![2, 16640, 2, 64]⟩
abbrev S_ : Shape := ⟨0, ![]⟩

class Facts : Prop where
  bcast_S_S2x16640x8x64 : S_.BroadcastsInDim S2x16640x8x64 (![] : Fin 0 → Fin S2x16640x8x64.rank)
  reducesTo_S2x16640x8x64_S_d0_1_2_3 : S2x16640x8x64.ReducesTo [0, 1, 2, 3] S_
  h_S_ : 0 < S_.numel
  bcast_S_S2x16640x2x64 : S_.BroadcastsInDim S2x16640x2x64 (![] : Fin 0 → Fin S2x16640x2x64.rank)
  reducesTo_S2x16640x2x64_S_d0_1_2_3 : S2x16640x2x64.ReducesTo [0, 1, 2, 3] S_

variable [Facts]

def fn {F : FTy → Type} [FloatOps F] (main_arg0 : FVec F S2x16640x8x64 .f32) (main_arg1 : FVec F S2x16640x2x64 .f32) (main_arg2 : FVec F S2x16640x2x64 .f32) : IVec S_ 1 :=
  let main_v0 : FVec F S2x16640x8x64 .f32 := Host.absf main_arg0
  let main_cst : FVec F S_ .f32 := constant S_ .f32 0x7F800000#32
  let main_v1 : FVec F S2x16640x8x64 .f32 := broadcastInDim S2x16640x8x64 ![] bcast_S_S2x16640x8x64 main_cst
  let main_v2 : IVec S2x16640x8x64 1 := cmpf .olt main_v0 main_v1
  let main_c : IVec S_ 1 := constantI S_ 1 1#1
  let main_v3 : IVec S_ 1 := (fun x v => Host.reduce IntOp.andi x v reducesTo_S2x16640x8x64_S_d0_1_2_3 h_S_) main_v2 main_c
  let main_v4 : FVec F S2x16640x2x64 .f32 := Host.absf main_arg1
  let main_cst_0 : FVec F S_ .f32 := constant S_ .f32 0x7F800000#32
  let main_v5 : FVec F S2x16640x2x64 .f32 := broadcastInDim S2x16640x2x64 ![] bcast_S_S2x16640x2x64 main_cst_0
  let main_v6 : IVec S2x16640x2x64 1 := cmpf .olt main_v4 main_v5
  let main_c_1 : IVec S_ 1 := constantI S_ 1 1#1
  let main_v7 : IVec S_ 1 := (fun x v => Host.reduce IntOp.andi x v reducesTo_S2x16640x2x64_S_d0_1_2_3 h_S_) main_v6 main_c_1
  let main_v8 : IVec S_ 1 := andi main_v3 main_v7
  main_v8
-- ==== Pre_in_range.lean ====
abbrev S276 : Shape := ⟨1, ![276]⟩
abbrev S1 : Shape := ⟨1, ![1]⟩
abbrev S70656x1024 : Shape := ⟨2, ![70656, 1024]⟩
abbrev S16x1024x1024 : Shape := ⟨3, ![16, 1024, 1024]⟩
abbrev S_ : Shape := ⟨0, ![]⟩

class Facts : Prop where
  bcast_S_S276 : S_.BroadcastsInDim S276 (![] : Fin 0 → Fin S276.rank)
  reducesTo_S276_S_d0 : S276.ReducesTo [0] S_
  h_S_ : 0 < S_.numel

variable [Facts]

def fn {F : FTy → Type} [FloatOps F] (main_arg0 : IVec S276 32) (main_arg1 : IVec S276 32) (main_arg2 : IVec S1 32) (main_arg3 : FVec F S70656x1024 .f32) (main_arg4 : FVec F S16x1024x1024 .bf16) (main_arg5 : FVec F S16x1024x1024 .bf16) (main_arg6 : FVec F S16x1024x1024 .bf16) : IVec S_ 1 :=
  let main_c : IVec S_ 32 := constantI S_ 32 0#32
  let main_v0 : IVec S276 32 := broadcastInDim S276 ![] bcast_S_S276 main_c
  let main_v1 : IVec S276 1 := cmpi .sge main_arg0 main_v0
  let main_c_0 : IVec S_ 32 := constantI S_ 32 16#32
  let main_v2 : IVec S276 32 := broadcastInDim S276 ![] bcast_S_S276 main_c_0
  let main_v3 : IVec S276 1 := cmpi .slt main_arg0 main_v2
  let main_v4 : IVec S276 1 := andi main_v1 main_v3
  let main_c_1 : IVec S_ 1 := constantI S_ 1 1#1
  let main_v5 : IVec S_ 1 := (fun x v => Host.reduce IntOp.andi x v reducesTo_S276_S_d0 h_S_) main_v4 main_c_1
  let main_c_2 : IVec S_ 32 := constantI S_ 32 0#32
  let main_v6 : IVec S276 32 := broadcastInDim S276 ![] bcast_S_S276 main_c_2
  let main_v7 : IVec S276 1 := cmpi .sge main_arg1 main_v6
  let main_c_3 : IVec S_ 32 := constantI S_ 32 276#32
  let main_v8 : IVec S276 32 := broadcastInDim S276 ![] bcast_S_S276 main_c_3
  let main_v9 : IVec S276 1 := cmpi .slt main_arg1 main_v8
  let main_v10 : IVec S276 1 := andi main_v7 main_v9
  let main_c_4 : IVec S_ 1 := constantI S_ 1 1#1
  let main_v11 : IVec S_ 1 := (fun x v => Host.reduce IntOp.andi x v reducesTo_S276_S_d0 h_S_) main_v10 main_c_4
  let main_v12 : IVec S_ 1 := andi main_v5 main_v11
  main_v12
-- ==== Kernel.lean ====
abbrev S2x16640x8x64 : Shape := ⟨4, ![2, 16640, 8, 64]⟩
abbrev S2x16640x2x64 : Shape := ⟨4, ![2, 16640, 2, 64]⟩
abbrev S33280x512 : Shape := ⟨2, ![33280, 512]⟩
abbrev S_ : Shape := ⟨0, ![]⟩
abbrev S512x33280 : Shape := ⟨2, ![512, 33280]⟩
abbrev S33280x2x64 : Shape := ⟨3, ![33280, 2, 64]⟩
abbrev S2x33280x64 : Shape := ⟨3, ![2, 33280, 64]⟩
abbrev S2x64x33280 : Shape := ⟨3, ![2, 64, 33280]⟩
abbrev S2x16x33280 : Shape := ⟨3, ![2, 16, 33280]⟩
abbrev S2x80x33280 : Shape := ⟨3, ![2, 80, 33280]⟩
abbrev S256x256 : Shape := ⟨2, ![256, 256]⟩
abbrev S1x3328x64 : Shape := ⟨3, ![1, 3328, 64]⟩
abbrev S1x80x3328 : Shape := ⟨3, ![1, 80, 3328]⟩
abbrev S64x1024 : Shape := ⟨2, ![64, 1024]⟩
abbrev S1x1024 : Shape := ⟨2, ![1, 1024]⟩
abbrev S80x1024 : Shape := ⟨2, ![80, 1024]⟩
abbrev S64x256 : Shape := ⟨2, ![64, 256]⟩
abbrev S1x256x64 : Shape := ⟨3, ![1, 256, 64]⟩
abbrev S256x64 : Shape := ⟨2, ![256, 64]⟩
abbrev S256x1024 : Shape := ⟨2, ![256, 1024]⟩
abbrev S1x80x256 : Shape := ⟨3, ![1, 80, 256]⟩
abbrev S80x256 : Shape := ⟨2, ![80, 256]⟩

abbrev nBuf : Space → Nat
  | .hbm => 23
  | .vmem => 11
  | .smem => 0
  | _ => 0

abbrev bufTy : (tb : Table) → Fin (tcTables nBuf tb) → BufTy
  | .hbm, ⟨0, _⟩ => ⟨S2x16640x8x64, .f32⟩
  | .hbm, ⟨1, _⟩ => ⟨S2x16640x2x64, .f32⟩
  | .hbm, ⟨2, _⟩ => ⟨S2x16640x2x64, .f32⟩
  | .hbm, ⟨3, _⟩ => ⟨S33280x512, .f32⟩
  | .hbm, ⟨4, _⟩ => ⟨S_, .f32⟩
  | .hbm, ⟨5, _⟩ => ⟨S33280x512, .f32⟩
  | .hbm, ⟨6, _⟩ => ⟨S33280x512, .f32⟩
  | .hbm, ⟨7, _⟩ => ⟨S_, .f32⟩
  | .hbm, ⟨8, _⟩ => ⟨S_, .f32⟩
  | .hbm, ⟨9, _⟩ => ⟨S33280x512, .f32⟩
  | .hbm, ⟨10, _⟩ => ⟨S33280x512, .f32⟩
  | .hbm, ⟨11, _⟩ => ⟨S512x33280, .f32⟩
  | .hbm, ⟨12, _⟩ => ⟨S512x33280, .bf16⟩
  | .hbm, ⟨13, _⟩ => ⟨S33280x2x64, .f32⟩
  | .hbm, ⟨14, _⟩ => ⟨S2x33280x64, .f32⟩
  | .hbm, ⟨15, _⟩ => ⟨S2x33280x64, .bf16⟩
  | .hbm, ⟨16, _⟩ => ⟨S33280x2x64, .f32⟩
  | .hbm, ⟨17, _⟩ => ⟨S2x64x33280, .f32⟩
  | .hbm, ⟨18, _⟩ => ⟨S2x64x33280, .bf16⟩
  | .hbm, ⟨19, _⟩ => ⟨S_, .bf16⟩
  | .hbm, ⟨20, _⟩ => ⟨S2x16x33280, .bf16⟩
  | .hbm, ⟨21, _⟩ => ⟨S2x80x33280, .bf16⟩
  | .hbm, ⟨22, _⟩ => ⟨S512x33280, .bf16⟩
  | .local _ .vmem, ⟨0, _⟩ => ⟨S256x256, .bf16⟩
  | .local _ .vmem, ⟨1, _⟩ => ⟨S256x256, .bf16⟩
  | .local _ .vmem, ⟨2, _⟩ => ⟨S1x3328x64, .bf16⟩
  | .local _ .vmem, ⟨3, _⟩ => ⟨S1x3328x64, .bf16⟩
  | .local _ .vmem, ⟨4, _⟩ => ⟨S1x80x3328, .bf16⟩
  | .local _ .vmem, ⟨5, _⟩ => ⟨S1x80x3328, .bf16⟩
  | .local _ .vmem, ⟨6, _⟩ => ⟨S256x256, .bf16⟩
  | .local _ .vmem, ⟨7, _⟩ => ⟨S256x256, .bf16⟩
  | .local _ .vmem, ⟨8, _⟩ => ⟨S64x1024, .bf16⟩
  | .local _ .vmem, ⟨9, _⟩ => ⟨S1x1024, .f32⟩
  | .local _ .vmem, ⟨10, _⟩ => ⟨S80x1024, .f32⟩
  | _, _ => ⟨S2x16640x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 2, 65, 5], ![false, false, false, false]⟩

def k0_cond4 (i : grid0.Coords) : BitVec 1 :=
  let arg3 : BitVec 32 := BitVec.ofNat 32 (i 3).val
  let arg2 : BitVec 32 := BitVec.ofNat 32 (i 2).val
  let c0_i32 : BitVec 32 := 0#32
  let v0 : BitVec 1 := Scalar.cmpi .eq arg2 c0_i32
  let c0_i32_5 : BitVec 32 := 0#32
  let c4_i32 : BitVec 32 := 4#32
  let v11 : BitVec 32 := Scalar.select v0 c0_i32_5 c4_i32
  let v12 : BitVec 1 := Scalar.cmpi .eq arg3 v11
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c65_i32 : BitVec 32 := 65#32
  let v0 : BitVec 32 := Scalar.muli arg0 c65_i32
  let v1 : BitVec 32 := Scalar.addi v0 arg2
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c5_i32 : BitVec 32 := 5#32
  let v0 : BitVec 32 := Scalar.muli arg0 c5_i32
  let c0_i32 : BitVec 32 := 0#32
  let v1 : BitVec 1 := Scalar.cmpi .eq arg2 c0_i32
  let c0_i32_0 : BitVec 32 := 0#32
  let v2 : BitVec 32 := Scalar.select v1 c0_i32_0 arg3
  let v3 : BitVec 32 := Scalar.addi v0 v2
  let c0_i32_1 : BitVec 32 := 0#32
  let c0_i32_2 : BitVec 32 := 0#32
  ![arg1.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c5_i32 : BitVec 32 := 5#32
  let v0 : BitVec 32 := Scalar.muli arg0 c5_i32
  let c0_i32 : BitVec 32 := 0#32
  let v1 : BitVec 1 := Scalar.cmpi .eq arg2 c0_i32
  let c0_i32_0 : BitVec 32 := 0#32
  let v2 : BitVec 32 := Scalar.select v1 c0_i32_0 arg3
  let v3 : BitVec 32 := Scalar.addi v0 v2
  let c0_i32_1 : BitVec 32 := 0#32
  let c0_i32_2 : BitVec 32 := 0#32
  ![arg1.toNat, c0_i32_1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c65_i32 : BitVec 32 := 65#32
  let v0 : BitVec 32 := Scalar.muli arg0 c65_i32
  let v1 : BitVec 32 := Scalar.addi v0 arg2
  let c0_i32 : BitVec 32 := 0#32
  ![arg1.toNat, v1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x3328x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x80x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S2x16640x8x64 : Shape := ⟨4, ![2, 16640, 8, 64]⟩
abbrev S2x16640x2x64 : Shape := ⟨4, ![2, 16640, 2, 64]⟩
abbrev S2x256x8x64 : Shape := ⟨4, ![2, 256, 8, 64]⟩
abbrev S2x256x2x64 : Shape := ⟨4, ![2, 256, 2, 64]⟩
abbrev S2x256x2x4x64 : Shape := ⟨5, ![2, 256, 2, 4, 64]⟩
abbrev S2x2x256x256x4 : Shape := ⟨5, ![2, 2, 256, 256, 4]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x64x4x256 : Shape := ⟨5, ![2, 2, 64, 4, 256]⟩
abbrev S2x256x512 : Shape := ⟨3, ![2, 256, 512]⟩
abbrev S2x16384x8x64 : Shape := ⟨4, ![2, 16384, 8, 64]⟩
abbrev S2x16384x2x4x64 : Shape := ⟨5, ![2, 16384, 2, 4, 64]⟩
abbrev S2x2x16640x16384x4 : Shape := ⟨5, ![2, 2, 16640, 16384, 4]⟩
abbrev S2x2x4x16384x16640 : Shape := ⟨5, ![2, 2, 4, 16384, 16640]⟩
abbrev S2x2x4x16384 : Shape := ⟨4, ![2, 2, 4, 16384]⟩
abbrev S2x2x4x16384x1 : Shape := ⟨5, ![2, 2, 4, 16384, 1]⟩
abbrev S2x2x64x4x16384 : Shape := ⟨5, ![2, 2, 64, 4, 16384]⟩
abbrev S2x16384x512 : Shape := ⟨3, ![2, 16384, 512]⟩
abbrev S2x16640x512 : Shape := ⟨3, ![2, 16640, 512]⟩
abbrev S33280x512 : Shape := ⟨2, ![33280, 512]⟩
abbrev S512x33280 : Shape := ⟨2, ![512, 33280]⟩

abbrev nBuf : Space → Nat
  | .hbm => 57
  | .vmem => 0
  | .smem => 0
  | _ => 0

abbrev bufTy : (tb : Table) → Fin (tcTables nBuf tb) → BufTy
  | .hbm, ⟨0, _⟩ => ⟨S2x16640x8x64, .f32⟩
  | .hbm, ⟨1, _⟩ => ⟨S2x16640x2x64, .f32⟩
  | .hbm, ⟨2, _⟩ => ⟨S2x16640x2x64, .f32⟩
  | .hbm, ⟨3, _⟩ => ⟨S2x256x8x64, .f32⟩
  | .hbm, ⟨4, _⟩ => ⟨S2x256x2x64, .f32⟩
  | .hbm, ⟨5, _⟩ => ⟨S2x256x2x64, .f32⟩
  | .hbm, ⟨6, _⟩ => ⟨S2x256x2x4x64, .f32⟩
  | .hbm, ⟨7, _⟩ => ⟨S2x2x256x256x4, .f32⟩
  | .hbm, ⟨8, _⟩ => ⟨S2x2x4x256x256, .f32⟩
  | .hbm, ⟨9, _⟩ => ⟨S_, .f32⟩
  | .hbm, ⟨10, _⟩ => ⟨S2x2x4x256x256, .f32⟩
  | .hbm, ⟨11, _⟩ => ⟨S2x2x4x256x256, .f32⟩
  | .hbm, ⟨12, _⟩ => ⟨S_, .f32⟩
  | .hbm, ⟨13, _⟩ => ⟨S2x2x4x256, .f32⟩
  | .hbm, ⟨14, _⟩ => ⟨S_, .f32⟩
  | .hbm, ⟨15, _⟩ => ⟨S2x2x4x256, .f32⟩
  | .hbm, ⟨16, _⟩ => ⟨S2x2x4x256, .f32⟩
  | .hbm, ⟨17, _⟩ => ⟨S2x2x4x256x1, .f32⟩
  | .hbm, ⟨18, _⟩ => ⟨S2x2x4x256x256, .f32⟩
  | .hbm, ⟨19, _⟩ => ⟨S2x2x4x256x256, .f32⟩
  | .hbm, ⟨20, _⟩ => ⟨S2x2x4x256x256, .f32⟩
  | .hbm, ⟨21, _⟩ => ⟨S_, .f32⟩
  | .hbm, ⟨22, _⟩ => ⟨S2x2x4x256, .f32⟩
  | .hbm, ⟨23, _⟩ => ⟨S2x2x4x256x1, .f32⟩
  | .hbm, ⟨24, _⟩ => ⟨S2x2x4x256x256, .f32⟩
  | .hbm, ⟨25, _⟩ => ⟨S2x2x4x256x256, .f32⟩
  | .hbm, ⟨26, _⟩ => ⟨S2x2x64x4x256, .f32⟩
  | .hbm, ⟨27, _⟩ => ⟨S2x256x2x4x64, .f32⟩
  | .hbm, ⟨28, _⟩ => ⟨S2x256x512, .f32⟩
  | .hbm, ⟨29, _⟩ => ⟨S2x16384x8x64, .f32⟩
  | .hbm, ⟨30, _⟩ => ⟨S2x16384x2x4x64, .f32⟩
  | .hbm, ⟨31, _⟩ => ⟨S2x2x16640x16384x4, .f32⟩
  | .hbm, ⟨32, _⟩ => ⟨S2x2x4x16384x16640, .f32⟩
  | .hbm, ⟨33, _⟩ => ⟨S_, .f32⟩
  | .hbm, ⟨34, _⟩ => ⟨S2x2x4x16384x16640, .f32⟩
  | .hbm, ⟨35, _⟩ => ⟨S2x2x4x16384x16640, .f32⟩
  | .hbm, ⟨36, _⟩ => ⟨S_, .f32⟩
  | .hbm, ⟨37, _⟩ => ⟨S2x2x4x16384, .f32⟩
  | .hbm, ⟨38, _⟩ => ⟨S_, .f32⟩
  | .hbm, ⟨39, _⟩ => ⟨S2x2x4x16384, .f32⟩
  | .hbm, ⟨40, _⟩ => ⟨S2x2x4x16384, .f32⟩
  | .hbm, ⟨41, _⟩ => ⟨S2x2x4x16384x1, .f32⟩
  | .hbm, ⟨42, _⟩ => ⟨S2x2x4x16384x16640, .f32⟩
  | .hbm, ⟨43, _⟩ => ⟨S2x2x4x16384x16640, .f32⟩
  | .hbm, ⟨44, _⟩ => ⟨S2x2x4x16384x16640, .f32⟩
  | .hbm, ⟨45, _⟩ => ⟨S_, .f32⟩
  | .hbm, ⟨46, _⟩ => ⟨S2x2x4x16384, .f32⟩
  | .hbm, ⟨47, _⟩ => ⟨S2x2x4x16384x1, .f32⟩
  | .hbm, ⟨48, _⟩ => ⟨S2x2x4x16384x16640, .f32⟩
  | .hbm, ⟨49, _⟩ => ⟨S2x2x4x16384x16640, .f32⟩
  | .hbm, ⟨50, _⟩ => ⟨S2x2x64x4x16384, .f32⟩
  | .hbm, ⟨51, _⟩ => ⟨S2x16384x2x4x64, .f32⟩
  | .hbm, ⟨52, _⟩ => ⟨S2x16384x512, .f32⟩
  | .hbm, ⟨53, _⟩ => ⟨S2x16640x512, .f32⟩
  | .hbm, ⟨54, _⟩ => ⟨S33280x512, .f32⟩
  | .hbm, ⟨55, _⟩ => ⟨S512x33280, .f32⟩
  | .hbm, ⟨56, _⟩ => ⟨S512x33280, .bf16⟩
  | _, _ => ⟨S2x16640x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x256x1024 : Shape := ⟨3, ![2, 256, 1024]⟩
abbrev S2x2x6x1024 : Shape := ⟨4, ![2, 2, 6, 1024]⟩
abbrev S1024 : Shape := ⟨1, ![1024]⟩
abbrev S1024x7936 : Shape := ⟨2, ![1024, 7936]⟩
abbrev S2x16640x1024 : Shape := ⟨3, ![2, 16640, 1024]⟩
abbrev S33280x1024 : Shape := ⟨2, ![33280, 1024]⟩
abbrev S1x1024 : Shape := ⟨2, ![1, 1024]⟩
abbrev S1024x4864 : Shape := ⟨2, ![1024, 4864]⟩
abbrev S1024x3072 : Shape := ⟨2, ![1024, 3072]⟩
abbrev S_ : Shape := ⟨0, ![]⟩
abbrev S1024x256 : Shape := ⟨2, ![1024, 256]⟩
abbrev S1024x8192 : Shape := ⟨2, ![1024, 8192]⟩
abbrev S33280x8192 : Shape := ⟨2, ![33280, 8192]⟩
abbrev S1280x1024 : Shape := ⟨2, ![1280, 1024]⟩
abbrev S1x2x6x1024 : Shape := ⟨4, ![1, 2, 6, 1024]⟩
abbrev S1024x512 : Shape := ⟨2, ![1024, 512]⟩
abbrev S1280x512 : Shape := ⟨2, ![1280, 512]⟩
abbrev S1280 : Shape := ⟨1, ![1280]⟩
abbrev S1280x1 : Shape := ⟨2, ![1280, 1]⟩
abbrev S1x1x1x1024 : Shape := ⟨4, ![1, 1, 1, 1024]⟩

abbrev nBuf : Space → Nat
  | .hbm => 15
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x2x6x1024, .f32⟩
  | .hbm, ⟨3, _⟩ => ⟨S1024, .f32⟩
  | .hbm, ⟨4, _⟩ => ⟨S1024x7936, .f32⟩
  | .hbm, ⟨5, _⟩ => ⟨S2x16640x1024, .f32⟩
  | .hbm, ⟨6, _⟩ => ⟨S33280x1024, .f32⟩
  | .hbm, ⟨7, _⟩ => ⟨S1x1024, .f32⟩
  | .hbm, ⟨8, _⟩ => ⟨S1024x4864, .f32⟩
  | .hbm, ⟨9, _⟩ => ⟨S1024x3072, .f32⟩
  | .hbm, ⟨10, _⟩ => ⟨S_, .f32⟩
  | .hbm, ⟨11, _⟩ => ⟨S1024x256, .f32⟩
  | .hbm, ⟨12, _⟩ => ⟨S1024x8192, .f32⟩
  | .hbm, ⟨13, _⟩ => ⟨S1024x8192, .bf16⟩
  | .hbm, ⟨14, _⟩ => ⟨S33280x8192, .bf16⟩
  | .local _ .vmem, ⟨0, _⟩ => ⟨S1280x1024, .f32⟩
  | .local _ .vmem, ⟨1, _⟩ => ⟨S1280x1024, .f32⟩
  | .local _ .vmem, ⟨2, _⟩ => ⟨S1x2x6x1024, .f32⟩
  | .local _ .vmem, ⟨3, _⟩ => ⟨S1x2x6x1024, .f32⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S1280x512, .bf16⟩
  | .local _ .vmem, ⟨8, _⟩ => ⟨S1280x512, .bf16⟩
  | .local _ .vmem, ⟨9, _⟩ => ⟨S1280x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![26, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1280_i32 : BitVec 32 := 1280#32
  let v0 : BitVec 32 := Scalar.muli arg0 c1280_i32
  let c16640_i32 : BitVec 32 := 16640#32
  let v1 : BitVec 32 := Scalar.divsi v0 c16640_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16640_i32 c0_i32_1
  let v8 : BitVec 32 := Scalar.extui v7
  let c0_i32_2 : BitVec 32 := 0#32
  let v9 : BitVec 1 := Scalar.cmpi .slt c16640_i32 c0_i32_2
  let v10 : BitVec 32 := Scalar.extui v9
  let v11 : BitVec 32 := Scalar.subi v8 v10
  let v12 : BitVec 1 := Scalar.cmpi .ne v6 v11
  let v13 : BitVec 32 := Scalar.remsi v0 c16640_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x16384x1024 : Shape := ⟨3, ![2, 16384, 1024]⟩
abbrev S2x256x1024 : Shape := ⟨3, ![2, 256, 1024]⟩
abbrev S2x2x6x1024 : Shape := ⟨4, ![2, 2, 6, 1024]⟩
abbrev S1024 : Shape := ⟨1, ![1024]⟩
abbrev S1024x7936 : Shape := ⟨2, ![1024, 7936]⟩
abbrev S2x1x1x1024 : Shape := ⟨4, ![2, 1, 1, 1024]⟩
abbrev S2x1024 : Shape := ⟨2, ![2, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x7936 : Shape := ⟨3, ![2, 16384, 7936]⟩
abbrev S2x256 : Shape := ⟨2, ![2, 256]⟩
abbrev S2x256x1 : Shape := ⟨3, ![2, 256, 1]⟩
abbrev S2x256x7936 : Shape := ⟨3, ![2, 256, 7936]⟩
abbrev S2x16640x7936 : Shape := ⟨3, ![2, 16640, 7936]⟩
abbrev S33280x7936 : Shape := ⟨2, ![33280, 7936]⟩
abbrev S33280x3072 : Shape := ⟨2, ![33280, 3072]⟩
abbrev S33280x4864 : Shape := ⟨2, ![33280, 4864]⟩
abbrev S33280x256 : Shape := ⟨2, ![33280, 256]⟩
abbrev S33280x8192 : Shape := ⟨2, ![33280, 8192]⟩

abbrev nBuf : Space → Nat
  | .hbm => 73
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x2x6x1024, .f32⟩
  | .hbm, ⟨3, _⟩ => ⟨S1024, .f32⟩
  | .hbm, ⟨4, _⟩ => ⟨S1024x7936, .f32⟩
  | .hbm, ⟨5, _⟩ => ⟨S2x1x1x1024, .f32⟩
  | .hbm, ⟨6, _⟩ => ⟨S2x1024, .f32⟩
  | .hbm, ⟨7, _⟩ => ⟨S2x1x1024, .f32⟩
  | .hbm, ⟨8, _⟩ => ⟨S2x1x1x1024, .f32⟩
  | .hbm, ⟨9, _⟩ => ⟨S2x1024, .f32⟩
  | .hbm, ⟨10, _⟩ => ⟨S2x1x1024, .f32⟩
  | .hbm, ⟨11, _⟩ => ⟨S2x1x1x1024, .f32⟩
  | .hbm, ⟨12, _⟩ => ⟨S2x1024, .f32⟩
  | .hbm, ⟨13, _⟩ => ⟨S2x1x1024, .f32⟩
  | .hbm, ⟨14, _⟩ => ⟨S2x1x1x1024, .f32⟩
  | .hbm, ⟨15, _⟩ => ⟨S2x1024, .f32⟩
  | .hbm, ⟨16, _⟩ => ⟨S2x1x1024, .f32⟩
  | .hbm, ⟨17, _⟩ => ⟨S2x16384x1024, .f32⟩
  | .hbm, ⟨18, _⟩ => ⟨S_, .f32⟩
  | .hbm, ⟨19, _⟩ => ⟨S2x16384, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S2x16384x1, .f32⟩
  | .hbm, ⟨28, _⟩ => ⟨S2x16384x1024, .f32⟩
  | .hbm, ⟨29, _⟩ => ⟨S2x16384x1024, .f32⟩
  | .hbm, ⟨30, _⟩ => ⟨S1x1x1024, .f32⟩
  | .hbm, ⟨31, _⟩ => ⟨S2x16384x1024, .f32⟩
  | .hbm, ⟨32, _⟩ => ⟨S2x16384x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x7936, .f32⟩
  | .hbm, ⟨41, _⟩ => ⟨S2x256x1024, .f32⟩
  | .hbm, ⟨42, _⟩ => ⟨S_, .f32⟩
  | .hbm, ⟨43, _⟩ => ⟨S2x256, .f32⟩
  | .hbm, ⟨44, _⟩ => ⟨S2x256x1, .f32⟩
  | .hbm, ⟨45, _⟩ => ⟨S_, .f32⟩
  | .hbm, ⟨46, _⟩ => ⟨S2x256x1, .f32⟩
  | .hbm, ⟨47, _⟩ => ⟨S2x256x1, .f32⟩
  | .hbm, ⟨48, _⟩ => ⟨S_, .f32⟩
  | .hbm, ⟨49, _⟩ => ⟨S2x256x1, .f32⟩
  | .hbm, ⟨50, _⟩ => ⟨S2x256x1, .f32⟩
  | .hbm, ⟨51, _⟩ => ⟨S2x256x1, .f32⟩
  | .hbm, ⟨52, _⟩ => ⟨S2x256x1024, .f32⟩
  | .hbm, ⟨53, _⟩ => ⟨S2x256x1024, .f32⟩
  | .hbm, ⟨54, _⟩ => ⟨S1x1x1024, .f32⟩
  | .hbm, ⟨55, _⟩ => ⟨S2x256x1024, .f32⟩
  | .hbm, ⟨56, _⟩ => ⟨S2x256x1024, .f32⟩
  | .hbm, ⟨57, _⟩ => ⟨S_, .f32⟩
  | .hbm, ⟨58, _⟩ => ⟨S2x1x1024, .f32⟩
  | .hbm, ⟨59, _⟩ => ⟨S2x1x1024, .f32⟩
  | .hbm, ⟨60, _⟩ => ⟨S2x256x1024, .f32⟩
  | .hbm, ⟨61, _⟩ => ⟨S2x256x1024, .f32⟩
  | .hbm, ⟨62, _⟩ => ⟨S2x256x1024, .f32⟩
  | .hbm, ⟨63, _⟩ => ⟨S2x256x1024, .f32⟩
  | .hbm, ⟨64, _⟩ => ⟨S2x256x7936, .f32⟩
  | .hbm, ⟨65, _⟩ => ⟨S2x16640x7936, .f32⟩
  | .hbm, ⟨66, _⟩ => ⟨S33280x7936, .f32⟩
  | .hbm, ⟨67, _⟩ => ⟨S33280x3072, .f32⟩
  | .hbm, ⟨68, _⟩ => ⟨S33280x4864, .f32⟩
  | .hbm, ⟨69, _⟩ => ⟨S_, .f32⟩
  | .hbm, ⟨70, _⟩ => ⟨S33280x256, .f32⟩
  | .hbm, ⟨71, _⟩ => ⟨S33280x8192, .f32⟩
  | .hbm, ⟨72, _⟩ => ⟨S33280x8192, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== Kernel3.lean ====
abbrev S276 : Shape := ⟨1, ![276]⟩
abbrev S1 : Shape := ⟨1, ![1]⟩
abbrev S70656x1024 : Shape := ⟨2, ![70656, 1024]⟩
abbrev S16x1024x1024 : Shape := ⟨3, ![16, 1024, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 5
  | .vmem => 10
  | .smem => 3
  | _ => 0

abbrev bufTy : (tb : Table) → Fin (tcTables nBuf tb) → BufTy
  | .hbm, ⟨0, _⟩ => ⟨S70656x1024, .f32⟩
  | .hbm, ⟨1, _⟩ => ⟨S16x1024x1024, .bf16⟩
  | .hbm, ⟨2, _⟩ => ⟨S16x1024x1024, .bf16⟩
  | .hbm, ⟨3, _⟩ => ⟨S16x1024x1024, .bf16⟩
  | .hbm, ⟨4, _⟩ => ⟨S70656x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S256x1024, .f32⟩
  | .local _ .vmem, ⟨9, _⟩ => ⟨S256x1024, .f32⟩
  | .local _ .smem, ⟨0, _⟩ => ⟨S276, .i32⟩
  | .local _ .smem, ⟨1, _⟩ => ⟨S276, .i32⟩
  | .local _ .smem, ⟨2, _⟩ => ⟨S1, .i32⟩
  | _, _ => ⟨S70656x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![276], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (k0_off1_inb : ∀ i : grid0.Coords, ∀ a, (k0_off1 i) a + S1.size a ≤ S276.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S276) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S276.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S276) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S276.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S276) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S276.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S276) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S276 : Shape := ⟨1, ![276]⟩
abbrev S1 : Shape := ⟨1, ![1]⟩
abbrev S70656x1024 : Shape := ⟨2, ![70656, 1024]⟩
abbrev S16x1024x1024 : Shape := ⟨3, ![16, 1024, 1024]⟩
abbrev S276x256x1024 : Shape := ⟨3, ![276, 256, 1024]⟩
abbrev S_ : Shape := ⟨0, ![]⟩
abbrev S276x1 : Shape := ⟨2, ![276, 1]⟩
abbrev S276x1024x1024 : Shape := ⟨3, ![276, 1024, 1024]⟩
abbrev S276x1x1 : Shape := ⟨3, ![276, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S276, .i32⟩
  | .hbm, ⟨1, _⟩ => ⟨S276, .i32⟩
  | .hbm, ⟨2, _⟩ => ⟨S1, .i32⟩
  | .hbm, ⟨3, _⟩ => ⟨S70656x1024, .f32⟩
  | .hbm, ⟨4, _⟩ => ⟨S16x1024x1024, .bf16⟩
  | .hbm, ⟨5, _⟩ => ⟨S16x1024x1024, .bf16⟩
  | .hbm, ⟨6, _⟩ => ⟨S16x1024x1024, .bf16⟩
  | .hbm, ⟨7, _⟩ => ⟨S276x256x1024, .f32⟩
  | .hbm, ⟨8, _⟩ => ⟨S16x1024x1024, .f32⟩
  | .hbm, ⟨9, _⟩ => ⟨S16x1024x1024, .f32⟩
  | .hbm, ⟨10, _⟩ => ⟨S16x1024x1024, .f32⟩
  | .hbm, ⟨11, _⟩ => ⟨S_, .i32⟩
  | .hbm, ⟨12, _⟩ => ⟨S276, .i32⟩
  | .hbm, ⟨13, _⟩ => ⟨S276, .i1⟩
  | .hbm, ⟨14, _⟩ => ⟨S_, .i32⟩
  | .hbm, ⟨15, _⟩ => ⟨S276, .i32⟩
  | .hbm, ⟨16, _⟩ => ⟨S276, .i32⟩
  | .hbm, ⟨17, _⟩ => ⟨S276, .i32⟩
  | .hbm, ⟨18, _⟩ => ⟨S276x1, .i32⟩
  | .hbm, ⟨19, _⟩ => ⟨S276x256x1024, .f32⟩
  | .hbm, ⟨20, _⟩ => ⟨S_, .i32⟩
  | .hbm, ⟨21, _⟩ => ⟨S276, .i32⟩
  | .hbm, ⟨22, _⟩ => ⟨S276, .i1⟩
  | .hbm, ⟨23, _⟩ => ⟨S_, .i32⟩
  | .hbm, ⟨24, _⟩ => ⟨S276, .i32⟩
  | .hbm, ⟨25, _⟩ => ⟨S276, .i32⟩
  | .hbm, ⟨26, _⟩ => ⟨S276, .i32⟩
  | .hbm, ⟨27, _⟩ => ⟨S276x1, .i32⟩
  | .hbm, ⟨28, _⟩ => ⟨S276x1024x1024, .f32⟩
  | .hbm, ⟨29, _⟩ => ⟨S_, .i32⟩
  | .hbm, ⟨30, _⟩ => ⟨S276, .i32⟩
  | .hbm, ⟨31, _⟩ => ⟨S276, .i1⟩
  | .hbm, ⟨32, _⟩ => ⟨S_, .i32⟩
  | .hbm, ⟨33, _⟩ => ⟨S276, .i32⟩
  | .hbm, ⟨34, _⟩ => ⟨S276, .i32⟩
  | .hbm, ⟨35, _⟩ => ⟨S276, .i32⟩
  | .hbm, ⟨36, _⟩ => ⟨S276x1, .i32⟩
  | .hbm, ⟨37, _⟩ => ⟨S276x1024x1024, .f32⟩
  | .hbm, ⟨38, _⟩ => ⟨S_, .i32⟩
  | .hbm, ⟨39, _⟩ => ⟨S276, .i32⟩
  | .hbm, ⟨40, _⟩ => ⟨S276, .i1⟩
  | .hbm, ⟨41, _⟩ => ⟨S_, .i32⟩
  | .hbm, ⟨42, _⟩ => ⟨S276, .i32⟩
  | .hbm, ⟨43, _⟩ => ⟨S276, .i32⟩
  | .hbm, ⟨44, _⟩ => ⟨S276, .i32⟩
  | .hbm, ⟨45, _⟩ => ⟨S276x1, .i32⟩
  | .hbm, ⟨46, _⟩ => ⟨S276x1024x1024, .f32⟩
  | .hbm, ⟨47, _⟩ => ⟨S276x256x1024, .f32⟩
  | .hbm, ⟨48, _⟩ => ⟨S276x256x1024, .f32⟩
  | .hbm, ⟨49, _⟩ => ⟨S276x256x1024, .f32⟩
  | .hbm, ⟨50, _⟩ => ⟨S_, .f32⟩
  | .hbm, ⟨51, _⟩ => ⟨S276x256x1024, .f32⟩
  | .hbm, ⟨52, _⟩ => ⟨S276x256x1024, .f32⟩
  | .hbm, ⟨53, _⟩ => ⟨S_, .f32⟩
  | .hbm, ⟨54, _⟩ => ⟨S276x256x1024, .f32⟩
  | .hbm, ⟨55, _⟩ => ⟨S276x256x1024, .f32⟩
  | .hbm, ⟨56, _⟩ => ⟨S276x256x1024, .f32⟩
  | .hbm, ⟨57, _⟩ => ⟨S276x256x1024, .f32⟩
  | .hbm, ⟨58, _⟩ => ⟨S276x256x1024, .f32⟩
  | .hbm, ⟨59, _⟩ => ⟨S276x256x1024, .f32⟩
  | .hbm, ⟨60, _⟩ => ⟨S276, .i32⟩
  | .hbm, ⟨61, _⟩ => ⟨S276, .i32⟩
  | .hbm, ⟨62, _⟩ => ⟨S276, .i1⟩
  | .hbm, ⟨63, _⟩ => ⟨S276x1x1, .i1⟩
  | .hbm, ⟨64, _⟩ => ⟨S_, .f32⟩
  | .hbm, ⟨65, _⟩ => ⟨S_, .f32⟩
  | .hbm, ⟨66, _⟩ => ⟨S276x256x1024, .i1⟩
  | .hbm, ⟨67, _⟩ => ⟨S276x256x1024, .f32⟩
  | .hbm, ⟨68, _⟩ => ⟨S276x256x1024, .f32⟩
  | .hbm, ⟨69, _⟩ => ⟨S70656x1024, .f32⟩
  | _, _ => ⟨S276, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]
-- ==== Kernel4.lean ====
abbrev S33280x1024 : Shape := ⟨2, ![33280, 1024]⟩
abbrev S33280x8192 : Shape := ⟨2, ![33280, 8192]⟩
abbrev S33280x512 : Shape := ⟨2, ![33280, 512]⟩
abbrev S512x33280 : Shape := ⟨2, ![512, 33280]⟩
abbrev S3x512 : Shape := ⟨2, ![3, 512]⟩
abbrev S512x1024 : Shape := ⟨2, ![512, 1024]⟩
abbrev S1024x1024 : Shape := ⟨2, ![1024, 1024]⟩
abbrev S2x2x6x1024 : Shape := ⟨4, ![2, 2, 6, 1024]⟩
abbrev S1024 : Shape := ⟨1, ![1024]⟩
abbrev S1024x16 : Shape := ⟨2, ![1024, 16]⟩
abbrev S16 : Shape := ⟨1, ![16]⟩
abbrev S16x1024 : Shape := ⟨2, ![16, 1024]⟩
abbrev S16x1 : Shape := ⟨2, ![16, 1]⟩
abbrev S1x1024 : Shape := ⟨2, ![1, 1024]⟩
abbrev S2x33280 : Shape := ⟨2, ![2, 33280]⟩
abbrev S256x1024 : Shape := ⟨2, ![256, 1024]⟩
abbrev S256x512 : Shape := ⟨2, ![256, 512]⟩
abbrev S16x512 : Shape := ⟨2, ![16, 512]⟩
abbrev S512x256 : Shape := ⟨2, ![512, 256]⟩
abbrev S1x1x6x1024 : Shape := ⟨4, ![1, 1, 6, 1024]⟩
abbrev S2x256 : Shape := ⟨2, ![2, 256]⟩
abbrev S256x1 : Shape := ⟨2, ![256, 1]⟩
abbrev S1x512 : Shape := ⟨2, ![1, 512]⟩
abbrev S128x512 : Shape := ⟨2, ![128, 512]⟩
abbrev S128x1024 : Shape := ⟨2, ![128, 1024]⟩
abbrev S512x128 : Shape := ⟨2, ![512, 128]⟩
abbrev S1x1x1x1024 : Shape := ⟨4, ![1, 1, 1, 1024]⟩
abbrev S128 : Shape := ⟨1, ![128]⟩
abbrev S128x1 : Shape := ⟨2, ![128, 1]⟩
abbrev S16x128 : Shape := ⟨2, ![16, 128]⟩
abbrev S1x128 : Shape := ⟨2, ![1, 128]⟩

abbrev nBuf : Space → Nat
  | .hbm => 24
  | .vmem => 44
  | .smem => 0
  | _ => 0

abbrev bufTy : (tb : Table) → Fin (tcTables nBuf tb) → BufTy
  | .hbm, ⟨0, _⟩ => ⟨S33280x1024, .f32⟩
  | .hbm, ⟨1, _⟩ => ⟨S33280x8192, .bf16⟩
  | .hbm, ⟨2, _⟩ => ⟨S33280x512, .bf16⟩
  | .hbm, ⟨3, _⟩ => ⟨S512x33280, .bf16⟩
  | .hbm, ⟨4, _⟩ => ⟨S3x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S2x2x6x1024, .f32⟩
  | .hbm, ⟨10, _⟩ => ⟨S1024, .f32⟩
  | .hbm, ⟨11, _⟩ => ⟨S1024x16, .f32⟩
  | .hbm, ⟨12, _⟩ => ⟨S16, .f32⟩
  | .hbm, ⟨13, _⟩ => ⟨S16x1024, .f32⟩
  | .hbm, ⟨14, _⟩ => ⟨S16x1, .f32⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1x1024, .f32⟩
  | .hbm, ⟨20, _⟩ => ⟨S33280x1024, .f32⟩
  | .hbm, ⟨21, _⟩ => ⟨S33280x1024, .f32⟩
  | .hbm, ⟨22, _⟩ => ⟨S2x33280, .i32⟩
  | .hbm, ⟨23, _⟩ => ⟨S2x33280, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S16x512, .bf16⟩
  | .local _ .vmem, ⟨19, _⟩ => ⟨S16x512, .bf16⟩
  | .local _ .vmem, ⟨20, _⟩ => ⟨S16x512, .bf16⟩
  | .local _ .vmem, ⟨21, _⟩ => ⟨S16x512, .bf16⟩
  | .local _ .vmem, ⟨22, _⟩ => ⟨S256x512, .bf16⟩
  | .local _ .vmem, ⟨23, _⟩ => ⟨S256x512, .bf16⟩
  | .local _ .vmem, ⟨24, _⟩ => ⟨S512x256, .bf16⟩
  | .local _ .vmem, ⟨25, _⟩ => ⟨S512x256, .bf16⟩
  | .local _ .vmem, ⟨26, _⟩ => ⟨S3x512, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S1024x1024, .bf16⟩
  | .local _ .vmem, ⟨31, _⟩ => ⟨S1x1x6x1024, .f32⟩
  | .local _ .vmem, ⟨32, _⟩ => ⟨S1x1x6x1024, .f32⟩
  | .local _ .vmem, ⟨33, _⟩ => ⟨S1x1024, .f32⟩
  | .local _ .vmem, ⟨34, _⟩ => ⟨S16x1024, .f32⟩
  | .local _ .vmem, ⟨35, _⟩ => ⟨S16x1, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S2x256, .i32⟩
  | .local _ .vmem, ⟨41, _⟩ => ⟨S2x256, .i32⟩
  | .local _ .vmem, ⟨42, _⟩ => ⟨S2x256, .f32⟩
  | .local _ .vmem, ⟨43, _⟩ => ⟨S2x256, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem18_1 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c2079_i32 : BitVec 32 := 2079#32
  let v2 : BitVec 32 := Scalar.minsi v1 c2079_i32
  let c6_i32 : BitVec 32 := 6#32
  let c0_i32 : BitVec 32 := 0#32
  ![v2.toNat, c6_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c2079_i32 : BitVec 32 := 2079#32
  let v2 : BitVec 32 := Scalar.minsi v1 c2079_i32
  let c8_i32 : BitVec 32 := 8#32
  let c0_i32 : BitVec 32 := 0#32
  ![v2.toNat, c8_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let c65_i32 : BitVec 32 := 65#32
  let v0 : BitVec 32 := Scalar.divsi arg0 c65_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c65_i32 c0_i32_1
  let v7 : BitVec 32 := Scalar.extui v6
  let c0_i32_2 : BitVec 32 := 0#32
  let v8 : BitVec 1 := Scalar.cmpi .slt c65_i32 c0_i32_2
  let v9 : BitVec 32 := Scalar.extui v8
  let v10 : BitVec 32 := Scalar.subi v7 v9
  let v11 : BitVec 1 := Scalar.cmpi .ne v5 v10
  let v12 : BitVec 32 := Scalar.remsi arg0 c65_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c65_i32_4 : BitVec 32 := 65#32
  let c0_i32_5 : BitVec 32 := 0#32
  let v17 : BitVec 1 := Scalar.cmpi .eq c65_i32_4 c0_i32_5
  let c1_i32_6 : BitVec 32 := 1#32
  let v18 : BitVec 32 := Scalar.select v17 c1_i32_6 c65_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.minsi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x1x6x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S16x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S16x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2x256 .i32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference4Ideal.lean ====
abbrev S33280x1024 : Shape := ⟨2, ![33280, 1024]⟩
abbrev S33280x8192 : Shape := ⟨2, ![33280, 8192]⟩
abbrev S33280x512 : Shape := ⟨2, ![33280, 512]⟩
abbrev S512x33280 : Shape := ⟨2, ![512, 33280]⟩
abbrev S3x512 : Shape := ⟨2, ![3, 512]⟩
abbrev S512x1024 : Shape := ⟨2, ![512, 1024]⟩
abbrev S1024x1024 : Shape := ⟨2, ![1024, 1024]⟩
abbrev S2x2x6x1024 : Shape := ⟨4, ![2, 2, 6, 1024]⟩
abbrev S1024 : Shape := ⟨1, ![1024]⟩
abbrev S1024x16 : Shape := ⟨2, ![1024, 16]⟩
abbrev S16 : Shape := ⟨1, ![16]⟩
abbrev S2x16640x1024 : Shape := ⟨3, ![2, 16640, 1024]⟩
abbrev S2x16640x8192 : Shape := ⟨3, ![2, 16640, 8192]⟩
abbrev S2x16640x512 : Shape := ⟨3, ![2, 16640, 512]⟩
abbrev S_ : Shape := ⟨0, ![]⟩
abbrev S2x1x512 : Shape := ⟨3, ![2, 1, 512]⟩
abbrev S2x255x512 : Shape := ⟨3, ![2, 255, 512]⟩
abbrev S2x16383x512 : Shape := ⟨3, ![2, 16383, 512]⟩
abbrev S1x512 : Shape := ⟨2, ![1, 512]⟩
abbrev S512 : Shape := ⟨1, ![512]⟩
abbrev S1x1x512 : Shape := ⟨3, ![1, 1, 512]⟩
abbrev S2x16640x3072 : Shape := ⟨3, ![2, 16640, 3072]⟩
abbrev S2x2x3x1024 : Shape := ⟨4, ![2, 2, 3, 1024]⟩
abbrev S2x2x3072 : Shape := ⟨3, ![2, 2, 3072]⟩
abbrev S2x1x3072 : Shape := ⟨3, ![2, 1, 3072]⟩
abbrev S2x256x3072 : Shape := ⟨3, ![2, 256, 3072]⟩
abbrev S2x16384x3072 : Shape := ⟨3, ![2, 16384, 3072]⟩
abbrev S2x16640 : Shape := ⟨2, ![2, 16640]⟩
abbrev S2x16640x1 : Shape := ⟨3, ![2, 16640, 1]⟩
abbrev S1x1x1024 : Shape := ⟨3, ![1, 1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S33280x8192, .bf16⟩
  | .hbm, ⟨2, _⟩ => ⟨S33280x512, .bf16⟩
  | .hbm, ⟨3, _⟩ => ⟨S512x33280, .bf16⟩
  | .hbm, ⟨4, _⟩ => ⟨S3x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S2x2x6x1024, .f32⟩
  | .hbm, ⟨10, _⟩ => ⟨S1024, .f32⟩
  | .hbm, ⟨11, _⟩ => ⟨S1024x16, .f32⟩
  | .hbm, ⟨12, _⟩ => ⟨S16, .f32⟩
  | .hbm, ⟨13, _⟩ => ⟨S2x16640x1024, .f32⟩
  | .hbm, ⟨14, _⟩ => ⟨S33280x8192, .f32⟩
  | .hbm, ⟨15, _⟩ => ⟨S2x16640x8192, .f32⟩
  | .hbm, ⟨16, _⟩ => ⟨S33280x512, .f32⟩
  | .hbm, ⟨17, _⟩ => ⟨S2x16640x512, .f32⟩
  | .hbm, ⟨18, _⟩ => ⟨S512x33280, .f32⟩
  | .hbm, ⟨19, _⟩ => ⟨S33280x512, .f32⟩
  | .hbm, ⟨20, _⟩ => ⟨S2x16640x512, .f32⟩
  | .hbm, ⟨21, _⟩ => ⟨S2x16640x512, .f32⟩
  | .hbm, ⟨22, _⟩ => ⟨S2x16640x512, .f32⟩
  | .hbm, ⟨23, _⟩ => ⟨S2x16640x512, .f32⟩
  | .hbm, ⟨24, _⟩ => ⟨S2x16640x512, .f32⟩
  | .hbm, ⟨25, _⟩ => ⟨S_, .f32⟩
  | .hbm, ⟨26, _⟩ => ⟨S2x1x512, .f32⟩
  | .hbm, ⟨27, _⟩ => ⟨S2x255x512, .f32⟩
  | .hbm, ⟨28, _⟩ => ⟨S2x16383x512, .f32⟩
  | .hbm, ⟨29, _⟩ => ⟨S2x16640x512, .f32⟩
  | .hbm, ⟨30, _⟩ => ⟨S2x255x512, .f32⟩
  | .hbm, ⟨31, _⟩ => ⟨S2x16383x512, .f32⟩
  | .hbm, ⟨32, _⟩ => ⟨S2x16640x512, .f32⟩
  | .hbm, ⟨33, _⟩ => ⟨S1x512, .f32⟩
  | .hbm, ⟨34, _⟩ => ⟨S512, .f32⟩
  | .hbm, ⟨35, _⟩ => ⟨S1x1x512, .f32⟩
  | .hbm, ⟨36, _⟩ => ⟨S2x16640x512, .f32⟩
  | .hbm, ⟨37, _⟩ => ⟨S2x16640x512, .f32⟩
  | .hbm, ⟨38, _⟩ => ⟨S1x512, .f32⟩
  | .hbm, ⟨39, _⟩ => ⟨S512, .f32⟩
  | .hbm, ⟨40, _⟩ => ⟨S1x1x512, .f32⟩
  | .hbm, ⟨41, _⟩ => ⟨S2x16640x512, .f32⟩
  | .hbm, ⟨42, _⟩ => ⟨S2x16640x512, .f32⟩
  | .hbm, ⟨43, _⟩ => ⟨S2x16640x512, .f32⟩
  | .hbm, ⟨44, _⟩ => ⟨S1x512, .f32⟩
  | .hbm, ⟨45, _⟩ => ⟨S512, .f32⟩
  | .hbm, ⟨46, _⟩ => ⟨S1x1x512, .f32⟩
  | .hbm, ⟨47, _⟩ => ⟨S2x16640x512, .f32⟩
  | .hbm, ⟨48, _⟩ => ⟨S2x16640x512, .f32⟩
  | .hbm, ⟨49, _⟩ => ⟨S2x16640x512, .f32⟩
  | .hbm, ⟨50, _⟩ => ⟨S2x16640x512, .f32⟩
  | .hbm, ⟨51, _⟩ => ⟨S2x16640x1024, .f32⟩
  | .hbm, ⟨52, _⟩ => ⟨S2x16640x3072, .f32⟩
  | .hbm, ⟨53, _⟩ => ⟨S2x16640x3072, .f32⟩
  | .hbm, ⟨54, _⟩ => ⟨S2x16640x3072, .f32⟩
  | .hbm, ⟨55, _⟩ => ⟨S_, .f32⟩
  | .hbm, ⟨56, _⟩ => ⟨S2x16640x3072, .f32⟩
  | .hbm, ⟨57, _⟩ => ⟨S2x16640x3072, .f32⟩
  | .hbm, ⟨58, _⟩ => ⟨S_, .f32⟩
  | .hbm, ⟨59, _⟩ => ⟨S2x16640x3072, .f32⟩
  | .hbm, ⟨60, _⟩ => ⟨S2x16640x3072, .f32⟩
  | .hbm, ⟨61, _⟩ => ⟨S2x16640x1024, .f32⟩
  | .hbm, ⟨62, _⟩ => ⟨S2x16640x1024, .f32⟩
  | .hbm, ⟨63, _⟩ => ⟨S2x16640x1024, .f32⟩
  | .hbm, ⟨64, _⟩ => ⟨S2x16640x1024, .f32⟩
  | .hbm, ⟨65, _⟩ => ⟨S2x16640x1024, .f32⟩
  | .hbm, ⟨66, _⟩ => ⟨S2x16640x1024, .f32⟩
  | .hbm, ⟨67, _⟩ => ⟨S2x16640x1024, .f32⟩
  | .hbm, ⟨68, _⟩ => ⟨S2x16640x1024, .f32⟩
  | .hbm, ⟨69, _⟩ => ⟨S2x16640x1024, .f32⟩
  | .hbm, ⟨70, _⟩ => ⟨S2x16640x1024, .f32⟩
  | .hbm, ⟨71, _⟩ => ⟨S2x2x3x1024, .f32⟩
  | .hbm, ⟨72, _⟩ => ⟨S2x2x3072, .f32⟩
  | .hbm, ⟨73, _⟩ => ⟨S2x1x3072, .f32⟩
  | .hbm, ⟨74, _⟩ => ⟨S2x256x3072, .f32⟩
  | .hbm, ⟨75, _⟩ => ⟨S2x1x3072, .f32⟩
  | .hbm, ⟨76, _⟩ => ⟨S2x16384x3072, .f32⟩
  | .hbm, ⟨77, _⟩ => ⟨S2x16640x3072, .f32⟩
  | .hbm, ⟨78, _⟩ => ⟨S2x16640x1024, .f32⟩
  | .hbm, ⟨79, _⟩ => ⟨S2x16640x1024, .f32⟩
  | .hbm, ⟨80, _⟩ => ⟨S2x16640x1024, .f32⟩
  | .hbm, ⟨81, _⟩ => ⟨S2x16640x1024, .f32⟩
  | .hbm, ⟨82, _⟩ => ⟨S2x16640x1024, .f32⟩
  | .hbm, ⟨83, _⟩ => ⟨S2x16640x1024, .f32⟩
  | .hbm, ⟨84, _⟩ => ⟨S2x16640x1024, .f32⟩
  | .hbm, ⟨85, _⟩ => ⟨S_, .f32⟩
  | .hbm, ⟨86, _⟩ => ⟨S2x16640, .f32⟩
  | .hbm, ⟨87, _⟩ => ⟨S2x16640x1, .f32⟩
  | .hbm, ⟨88, _⟩ => ⟨S_, .f32⟩
  | .hbm, ⟨89, _⟩ => ⟨S2x16640x1, .f32⟩
  | .hbm, ⟨90, _⟩ => ⟨S2x16640x1, .f32⟩
  | .hbm, ⟨91, _⟩ => ⟨S_, .f32⟩
  | .hbm, ⟨92, _⟩ => ⟨S2x16640x1, .f32⟩
  | .hbm, ⟨93, _⟩ => ⟨S2x16640x1, .f32⟩
  | .hbm, ⟨94, _⟩ => ⟨S2x16640x1, .f32⟩
  | .hbm, ⟨95, _⟩ => ⟨S2x16640x1024, .f32⟩
  | .hbm, ⟨96, _⟩ => ⟨S2x16640x1024, .f32⟩
  | .hbm, ⟨97, _⟩ => ⟨S1x1x1024, .f32⟩
  | .hbm, ⟨98, _⟩ => ⟨S2x16640x1024, .f32⟩
  | .hbm, ⟨99, _⟩ => ⟨S2x16640x1024, .f32⟩
  | .hbm, ⟨100, _⟩ => ⟨S_, .f32⟩
  | .hbm, ⟨101, _⟩ => ⟨S2x16640x1024, .f32⟩
  | .hbm, ⟨102, _⟩ => ⟨S2x16640x1024, .f32⟩
  | .hbm, ⟨103, _⟩ => ⟨S2x16640x1024, .f32⟩
  | .hbm, ⟨104, _⟩ => ⟨S2x16640x1024, .f32⟩
  | .hbm, ⟨105, _⟩ => ⟨S33280x1024, .f32⟩
  | .hbm, ⟨106, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_0 : Ref sig .tc := ⟨.hbm, 55, rfl⟩
abbrev main_v41 : Ref sig .tc := ⟨.hbm, 56, rfl⟩
abbrev main_v42 : Ref sig .tc := ⟨.hbm, 57, rfl⟩
abbrev main_cst_1 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_2 : Ref sig .tc := ⟨.hbm, 85, rfl⟩
abbrev main_v69 : Ref sig .tc := ⟨.hbm, 86, rfl⟩
abbrev main_v70 : Ref sig .tc := ⟨.hbm, 87, rfl⟩
abbrev main_cst_3 : Ref sig .tc := ⟨.hbm, 88, rfl⟩
abbrev main_v71 : Ref sig .tc := ⟨.hbm, 89, rfl⟩
abbrev main_v72 : Ref sig .tc := ⟨.hbm, 90, rfl⟩
abbrev main_cst_4 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_5 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]
-- ==== Proof.Attention.Kit.lean ====
/- What the runs of the attention kernel's body are stated over: the conditions of its four branches as
   arithmetic of the grid point, the staging and scratch buffers it is called with, and its invariant. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (the first), from the grid coordinates . -/
abbrev cond0_0 (i : grid0.Coords) : Prop := (Scalar.cmpi .ne (Scalar.extui (Scalar.cmpi .eq (BitVec.ofNat 32 (i 3).val) 0#32)) 0#32) = 1#1
/-- It holds at the points ≡ 0 (mod 5) — by arithmetic of the point. -/
theorem hcond0_0 : ∀ t : Fin cfg0.N, cond0_0 (grid0.coords t) ↔ t.val % 5 = 0 :=
  (fun t => by
    have ht : t.val < 1300 := Nat.lt_of_lt_of_eq t.isLt N_0
    have e0 : (grid0.coords t 0).val = t.val / 650 % 2 := Pipeline.Grid.coords_val t 0 (by decide) rfl
    have e1 : (grid0.coords t 1).val = t.val / 325 % 2 := Pipeline.Grid.coords_val t 1 (by decide) rfl
    have e2 : (grid0.coords t 2).val = t.val / 5 % 65 := Pipeline.Grid.coords_val t 2 (by decide) rfl
    have e3 : (grid0.coords t 3).val = t.val / 1 % 5 := Pipeline.Grid.coords_val t 3 (by decide) rfl
    simp only [cond0_0, e0, e1, e2, e3]
    word_cmp
   : ∀ t : Fin grid0.N, cond0_0 (grid0.coords t) ↔ t.val % 5 = 0)

/-- The condition of the body's `scf.if` 1 (`k0_h2`), from the grid coordinates . -/
abbrev cond0_1 (i : grid0.Coords) : Prop := (Scalar.cmpi .ne (Scalar.extui (Scalar.andi (Scalar.cmpi .eq (BitVec.ofNat 32 (i 2).val) 0#32) (Scalar.cmpi .eq (BitVec.ofNat 32 (i 3).val) 0#32))) 0#32) = 1#1
/-- It holds at the points ≡ 0 (mod 325) — by arithmetic of the point. -/
theorem hcond0_1 : ∀ t : Fin cfg0.N, cond0_1 (grid0.coords t) ↔ t.val % 325 = 0 :=
  (fun t => by
    have ht : t.val < 1300 := Nat.lt_of_lt_of_eq t.isLt N_0
    have e0 : (grid0.coords t 0).val = t.val / 650 % 2 := Pipeline.Grid.coords_val t 0 (by decide) rfl
    have e1 : (grid0.coords t 1).val = t.val / 325 % 2 := Pipeline.Grid.coords_val t 1 (by decide) rfl
    have e2 : (grid0.coords t 2).val = t.val / 5 % 65 := Pipeline.Grid.coords_val t 2 (by decide) rfl
    have e3 : (grid0.coords t 3).val = t.val / 1 % 5 := Pipeline.Grid.coords_val t 3 (by decide) rfl
    simp only [cond0_1, e0, e1, e2, e3]
    word_cmp
   : ∀ t : Fin grid0.N, cond0_1 (grid0.coords t) ↔ t.val % 325 = 0)

/-- The condition of the body's `scf.if` 2 (`k0_h3`), from the grid coordinates . -/
abbrev cond0_2 (i : grid0.Coords) : Prop := (Scalar.cmpi .ne (Scalar.extui (Scalar.xori (Scalar.cmpi .eq (BitVec.ofNat 32 (i 2).val) 0#32) 1#1)) 0#32) = 1#1
/-- It holds at the points whose coordinates have 1 ≤ i2 — decided over the grid. -/
theorem hcond0_2 : ∀ t : Fin cfg0.N, cond0_2 (grid0.coords t) ↔ 1 ≤ t.val / 5 % 65 :=
  (by decide +kernel : ∀ t : Fin grid0.N, cond0_2 (grid0.coords t) ↔ 1 ≤ t.val / 5 % 65)

/-- The condition of the body's `scf.if` 3 (`k0_h4`), from the grid coordinates . -/
abbrev cond0_3 (i : grid0.Coords) : Prop := k0_cond4 i = 1#1
/-- It holds at the points whose coordinates do not have both 1 ≤ i2 + 64·i3 and i2 + 64·i3 ≤ 256 — decided over the grid. -/
theorem hcond0_3 : ∀ t : Fin cfg0.N, cond0_3 (grid0.coords t) ↔ ¬(1 ≤ t.val / 5 % 65 + 64 * (t.val % 5) ∧ t.val / 5 % 65 + 64 * (t.val % 5) ≤ 256) :=
  (by decide +kernel : ∀ t : Fin grid0.N, cond0_3 (grid0.coords t) ↔ ¬(1 ≤ t.val / 5 % 65 + 64 * (t.val % 5) ∧ t.val / 5 % 65 + 64 * (t.val % 5) ≤ 256))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3328x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x80x3328 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S64x1024 .bf16 := Memref.whole cc0_scratch0
abbrev scM0_1 : Memref sig .tc .vmem S1x1024 .f32 := Memref.whole cc0_scratch1
abbrev scM0_2 : Memref sig .tc .vmem S80x1024 .f32 := Memref.whole cc0_scratch2
/-- The scratch `arg8` the kernel carries between points, as a view: what it holds is stated through it. -/
abbrev VS0_0 : View sig .tc .vmem S64x1024 .bf16 := scM0_0.view
/-- The scratch `arg10` the kernel carries between points, as a view: what it holds is stated through it. -/
abbrev VS0_2 : View sig .tc .vmem S80x1024 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Where the output window is not idle: the points whose body stores the output block. -/
theorem idle0_3 (t : Fin cfg0.N) : cfg0.idle 3 (grid0.coords t) = false ↔ cond0_3 (grid0.coords t) := by
  show (!(k0_cond4 (grid0.coords t) == 1#1)) = false ↔ k0_cond4 (grid0.coords t) = 1#1
  cases h : (k0_cond4 (grid0.coords t) == 1#1) <;> simp_all

end Cert.KernelIdeal.Att

end
-- ==== Proof.Attention.RunA.lean ====
/- The run of the attention kernel's body at a context tile at its first key block. -/
module

public import proofs.«01_k».proof.Proof.Attention.Kit

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body of a context tile at its first key block: it fills the three scratch buffers, takes the context's keys in and stores the output block. The pieces written to the output, the scaled queries and the accumulator are the witness. -/
noncomputable def kernelRun0_A (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : cond0_1 i) (hc2 : ¬cond0_2 i) (hc3 : cond0_3 i)
    (x0 : Vec F S256x256 .bf16) (x1 : Vec F S1x3328x64 .bf16) (x2 : Vec F S1x80x3328 .bf16) :
    Σ' (LO : List (View.Piece (Elt F) S256x256 .bf16)) (LS0 : List (View.Piece (Elt F) S64x1024 .bf16)), { LS2 : List (View.Piece (Elt F) S80x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS0) ∗ (∃ d, owns (c : Thread nD τ) arg9 fullShare d) ∗ (∃ f, arg10.view.loc (c : Thread nD τ) ↦[arg10.view.set]{fullShare} arg10.view.writes (Elt F) f LS2)) -∗ K ⟨⟩))
          ⊢ wp frame (wpE (defs₀ (F := F)) Variants.none c none) E (cc0_attention i arg4 harg4 arg5 harg5 arg6 harg6 arg7 harg7 arg8 harg8 arg9 harg9 arg10 harg10) K } := by
  refine ⟨?_, ?_, ?_, fun E K => ?run⟩
  case run =>
    simp only [cc0_attention_eq_skeleton]; unfold cc0_attention_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]
    · iexists _, _; isplitr; swap; · iexact HS1
      ipureintro; rfl
    iexists _; iexact HS2

end Cert.KernelIdeal.Att

end
-- ==== Proof.Attention.RunB.lean ====
/- The run of the attention kernel's body at a context tile at a later key block. -/
module

public import proofs.«01_k».proof.Proof.Attention.RunA

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body of a context tile at a later key block does nothing. -/
noncomputable def kernelRun0_B (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : ¬cond0_0 i) (hc1 : ¬cond0_1 i) (hc2 : ¬cond0_2 i) (hc3 : ¬cond0_3 i)
    (x0 : Vec F S256x256 .bf16) (x1 : Vec F S1x3328x64 .bf16) (x2 : Vec F S1x80x3328 .bf16) (xs0 : Vec F S64x1024 .bf16) (xs2 : Vec F S80x1024 .f32) :
    Σ' (LS0 : List (View.Piece (Elt F) S64x1024 .bf16)), { LS2 : List (View.Piece (Elt F) S80x1024 .f32) //
      ∀ (xo : Vec F S256x256 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xo ∗ owns (c : Thread nD τ) arg8 fullShare xs0 ∗ (∃ d, owns (c : Thread nD τ) arg9 fullShare d) ∗ owns (c : Thread nD τ) arg10 fullShare xs2
            ∗ (iprop(owns (c : Thread nD τ) arg4 fullShare x0 ∗ owns (c : Thread nD τ) arg5 fullShare x1 ∗ owns (c : Thread nD τ) arg6 fullShare x2 ∗ owns (c : Thread nD τ) arg7 fullShare xo ∗ owns (c : Thread nD τ) arg8 fullShare xs0 ∗ (∃ d, owns (c : Thread nD τ) arg9 fullShare d) ∗ owns (c : Thread nD τ) arg10 fullShare xs2) -∗ K ⟨⟩))
          ⊢ wp frame (wpE (defs₀ (F := F)) Variants.none c none) E (cc0_attention i arg4 harg4 arg5 harg5 arg6 harg6 arg7 harg7 arg8 harg8 arg9 harg9 arg10 harg10) K } := by
  refine ⟨[], [], fun xo E K => ?run⟩
  case run =>
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hfs0; obtain rfl := harg10.eq_unread hfs2
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]
    · iexists _; isplitr; · ipureintro; exact harg8.read_unread _
      iexact HS0
    isplitl [HS1]
    · iexists _, _; isplitr; swap; · iexact HS1
      ipureintro; rfl
    iexists _; isplitr; · ipureintro; exact harg10.read_unread _
    iexact HS2

end Cert.KernelIdeal.Att

end
-- ==== Proof.Attention.RunC.lean ====
/- The run of the attention kernel's body at a latent tile at its first key block. -/
module

public import proofs.«01_k».proof.Proof.Attention.RunB

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body of a latent tile at its first key block: it fills the scratch buffers and takes the block in; the output block is left alone. -/
noncomputable def kernelRun0_C (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : ¬cond0_1 i) (hc2 : cond0_2 i) (hc3 : ¬cond0_3 i)
    (x0 : Vec F S256x256 .bf16) (x1 : Vec F S1x3328x64 .bf16) (x2 : Vec F S1x80x3328 .bf16) :
    Σ' (LS0 : List (View.Piece (Elt F) S64x1024 .bf16)), { LS2 : List (View.Piece (Elt F) S80x1024 .f32) //
      ∀ (xo : Vec F S256x256 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg4 fullShare x0 ∗ owns (c : Thread nD τ) arg5 fullShare x1 ∗ owns (c : Thread nD τ) arg6 fullShare x2 ∗ owns (c : Thread nD τ) arg7 fullShare xo ∗ (∃ f, arg8.view.loc (c : Thread nD τ) ↦[arg8.view.set]{fullShare} arg8.view.writes (Elt F) f LS0) ∗ (∃ d, owns (c : Thread nD τ) arg9 fullShare d) ∗ (∃ f, arg10.view.loc (c : Thread nD τ) ↦[arg10.view.set]{fullShare} arg10.view.writes (Elt F) f LS2)) -∗ K ⟨⟩))
          ⊢ wp frame (wpE (defs₀ (F := F)) Variants.none c none) E (cc0_attention i arg4 harg4 arg5 harg5 arg6 harg6 arg7 harg7 arg8 harg8 arg9 harg9 arg10 harg10) K } := by
  refine ⟨?_, ?_, fun xo E K => ?run⟩
  case run =>
    simp only [cc0_attention_eq_skeleton]; unfold cc0_attention_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]
    · iexists _, _; isplitr; swap; · iexact HS1
      ipureintro; rfl
    iexists _; iexact HS2

end Cert.KernelIdeal.Att

end
-- ==== Proof.Attention.RunD.lean ====
/- The run of the attention kernel's body at a latent tile at a middle key block. -/
module

public import proofs.«01_k».proof.Proof.Attention.RunC

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body of a latent tile at a middle key block: it takes the block in. -/
noncomputable def kernelRun0_D (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : ¬cond0_0 i) (hc1 : ¬cond0_1 i) (hc2 : cond0_2 i) (hc3 : ¬cond0_3 i)
    (x0 : Vec F S256x256 .bf16) (x1 : Vec F S1x3328x64 .bf16) (x2 : Vec F S1x80x3328 .bf16) (xs0 : Vec F S64x1024 .bf16) (xs2 : Vec F S80x1024 .f32) :
    Σ' (LS0 : List (View.Piece (Elt F) S64x1024 .bf16)), { LS2 : List (View.Piece (Elt F) S80x1024 .f32) //
      ∀ (xo : Vec F S256x256 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xo ∗ owns (c : Thread nD τ) arg8 fullShare xs0 ∗ (∃ d, owns (c : Thread nD τ) arg9 fullShare d) ∗ owns (c : Thread nD τ) arg10 fullShare xs2
            ∗ (iprop(owns (c : Thread nD τ) arg4 fullShare x0 ∗ owns (c : Thread nD τ) arg5 fullShare x1 ∗ owns (c : Thread nD τ) arg6 fullShare x2 ∗ owns (c : Thread nD τ) arg7 fullShare xo ∗ owns (c : Thread nD τ) arg8 fullShare xs0 ∗ (∃ d, owns (c : Thread nD τ) arg9 fullShare d) ∗ (∃ f, arg10.view.loc (c : Thread nD τ) ↦[arg10.view.set]{fullShare} arg10.view.writes (Elt F) f LS2)) -∗ K ⟨⟩))
          ⊢ wp frame (wpE (defs₀ (F := F)) Variants.none c none) E (cc0_attention i arg4 harg4 arg5 harg5 arg6 harg6 arg7 harg7 arg8 harg8 arg9 harg9 arg10 harg10) K } := by
  refine ⟨[], ?_, fun xo E K => ?run⟩
  case run =>
    simp only [cc0_attention_eq_skeleton]; unfold cc0_attention_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hfs0; obtain rfl := harg10.eq_unread hfs2
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]
    · iexists _; isplitr; · ipureintro; exact harg8.read_unread _
      iexact HS0
    isplitl [HS1]
    · iexists _, _; isplitr; swap; · iexact HS1
      ipureintro; rfl
    iexists _; iexact HS2

end Cert.KernelIdeal.Att

end
-- ==== Proof.Attention.RunE.lean ====
/- The run of the attention kernel's body at a latent tile at its last key block. -/
module

public import proofs.«01_k».proof.Proof.Attention.RunD

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body of a latent tile at its last key block: it takes the block in and stores the output block. -/
noncomputable def kernelRun0_E (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : ¬cond0_0 i) (hc1 : ¬cond0_1 i) (hc2 : cond0_2 i) (hc3 : cond0_3 i)
    (x0 : Vec F S256x256 .bf16) (x1 : Vec F S1x3328x64 .bf16) (x2 : Vec F S1x80x3328 .bf16) (xs0 : Vec F S64x1024 .bf16) (xs2 : Vec F S80x1024 .f32) :
    Σ' (LO : List (View.Piece (Elt F) S256x256 .bf16)) (LS0 : List (View.Piece (Elt F) S64x1024 .bf16)), { LS2 : List (View.Piece (Elt F) S80x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ (∃ d, owns (c : Thread nD τ) arg9 fullShare d) ∗ owns (c : Thread nD τ) arg10 fullShare xs2
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f LO) ∗ owns (c : Thread nD τ) arg8 fullShare xs0 ∗ (∃ d, owns (c : Thread nD τ) arg9 fullShare d) ∗ (∃ f, arg10.view.loc (c : Thread nD τ) ↦[arg10.view.set]{fullShare} arg10.view.writes (Elt F) f LS2)) -∗ K ⟨⟩))
          ⊢ wp frame (wpE (defs₀ (F := F)) Variants.none c none) E (cc0_attention i arg4 harg4 arg5 harg5 arg6 harg6 arg7 harg7 arg8 harg8 arg9 harg9 arg10 harg10) K } := by
  refine ⟨?_, [], ?_, fun E K => ?run⟩
  case run =>
    simp only [cc0_attention_eq_skeleton]; unfold cc0_attention_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%ds1, %fs1, -, HS1⟩, ⟨%fs2, %hfs2, HS2⟩, Hk⟩
    obtain rfl := harg4.eq_unread hf0; obtain rfl := harg5.eq_unread hf1; obtain rfl := harg6.eq_unread hf2; obtain rfl := harg8.eq_unread hfs0; obtain rfl := harg10.eq_unread hfs2
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _; isplitr; · ipureintro; exact harg8.read_unread _
      iexact HS0
    isplitl [HS1]
    · iexists _, _; isplitr; swap; · iexact HS1
      ipureintro; rfl
    iexists _; iexact HS2

end Cert.KernelIdeal.Att

end
-- ==== Proof.Attention.State.lean ====
/- What the attention kernel leaves in its scratch and in its output block, point by point. A context tile stores its output
   at its first point, and the four points after it leave the block alone until it is written back; a latent tile gathers
   over five key blocks and stores at the last. -/
module

public import proofs.«01_k».proof.Proof.Attention.RunE
public import Idealize.ShloMosaic.Lib.Claim

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's first buffer as a view: what a run writes to it is read back through it. -/
abbrev VO0_3 : View sig .tc .vmem S256x256 .bf16 := (Memref.whole cc0_stg3_0 : Memref sig .tc .vmem S256x256 .bf16).view

/-- The pieces a context tile writes to the output block cover it. -/
theorem outCover_A (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : cond0_1 i) (hc2 : ¬cond0_2 i) (hc3 : cond0_3 i)
    (x0 : Vec F S256x256 .bf16) (x1 : Vec F S1x3328x64 .bf16) (x2 : Vec F S1x80x3328 .bf16) (y : S256x256.Idx) :
    ∃ pc ∈ (kernelRun0_A c i arg4 harg4 arg5 harg5 arg6 harg6 arg7 harg7 arg8 harg8 arg9 harg9 arg10 harg10 hc0 hc1 hc2 hc3 x0 x1 x2).1, y ∈ pc.1.set :=
  View.cover_of_tiledL (kernelRun0_A c i arg4 harg4 arg5 harg5 arg6 harg6 arg7 harg7 arg8 harg8 arg9 harg9 arg10 harg10 hc0 hc1 hc2 hc3 x0 x1 x2).1 S64x256.size (by sl_kernel_rfl) y

/-- What a context tile leaves in the output block. -/
def out_A (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : cond0_1 i) (hc2 : ¬cond0_2 i) (hc3 : cond0_3 i)
    (x0 : Vec F S256x256 .bf16) (x1 : Vec F S1x3328x64 .bf16) (x2 : Vec F S1x80x3328 .bf16) : Vec F S256x256 .bf16 :=
  VO0_3.read (Elt F) (VO0_3.writes (Elt F) VO0_3.junk (kernelRun0_A c i arg4 harg4 arg5 harg5 arg6 harg6 arg7 harg7 arg8 harg8 arg9 harg9 arg10 harg10 hc0 hc1 hc2 hc3 x0 x1 x2).1)

/-- The pieces a context tile writes to the queries cover it. -/
theorem qsCover_A (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : cond0_1 i) (hc2 : ¬cond0_2 i) (hc3 : cond0_3 i)
    (x0 : Vec F S256x256 .bf16) (x1 : Vec F S1x3328x64 .bf16) (x2 : Vec F S1x80x3328 .bf16) (y : S64x1024.Idx) :
    ∃ pc ∈ (kernelRun0_A c i arg4 harg4 arg5 harg5 arg6 harg6 arg7 harg7 arg8 harg8 arg9 harg9 arg10 harg10 hc0 hc1 hc2 hc3 x0 x1 x2).2.1, y ∈ pc.1.set :=
  View.cover_of_tiledL (kernelRun0_A c i arg4 harg4 arg5 harg5 arg6 harg6 arg7 harg7 arg8 harg8 arg9 harg9 arg10 harg10 hc0 hc1 hc2 hc3 x0 x1 x2).2.1 S64x256.size (by sl_kernel_rfl) y

/-- What a context tile leaves in the queries. -/
def qs_A (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : cond0_1 i) (hc2 : ¬cond0_2 i) (hc3 : cond0_3 i)
    (x0 : Vec F S256x256 .bf16) (x1 : Vec F S1x3328x64 .bf16) (x2 : Vec F S1x80x3328 .bf16) : Vec F S64x1024 .bf16 :=
  VS0_0.read (Elt F) (VS0_0.writes (Elt F) VS0_0.junk (kernelRun0_A c i arg4 harg4 arg5 harg5 arg6 harg6 arg7 harg7 arg8 harg8 arg9 harg9 arg10 harg10 hc0 hc1 hc2 hc3 x0 x1 x2).2.1)

/-- The pieces a context tile writes to the accumulator cover it. -/
theorem accCover_A (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : cond0_1 i) (hc2 : ¬cond0_2 i) (hc3 : cond0_3 i)
    (x0 : Vec F S256x256 .bf16) (x1 : Vec F S1x3328x64 .bf16) (x2 : Vec F S1x80x3328 .bf16) (y : S80x1024.Idx) :
    ∃ pc ∈ (kernelRun0_A c i arg4 harg4 arg5 harg5 arg6 harg6 arg7 harg7 arg8 harg8 arg9 harg9 arg10 harg10 hc0 hc1 hc2 hc3 x0 x1 x2).2.2.1, y ∈ pc.1.set :=
  View.cover_of_tiledL (kernelRun0_A c i arg4 harg4 arg5 harg5 arg6 harg6 arg7 harg7 arg8 harg8 arg9 harg9 arg10 harg10 hc0 hc1 hc2 hc3 x0 x1 x2).2.2.1 S80x1024.size (by sl_kernel_rfl) y

/-- What a context tile leaves in the accumulator. -/
def acc_A (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : cond0_1 i) (hc2 : ¬cond0_2 i) (hc3 : cond0_3 i)
    (x0 : Vec F S256x256 .bf16) (x1 : Vec F S1x3328x64 .bf16) (x2 : Vec F S1x80x3328 .bf16) : Vec F S80x1024 .f32 :=
  VS0_2.read (Elt F) (VS0_2.writes (Elt F) VS0_2.junk (kernelRun0_A c i arg4 harg4 arg5 harg5 arg6 harg6 arg7 harg7 arg8 harg8 arg9 harg9 arg10 harg10 hc0 hc1 hc2 hc3 x0 x1 x2).2.2.1)

/-- The pieces the first key block writes to the queries cover it. -/
theorem qsCover_C (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : ¬cond0_1 i) (hc2 : cond0_2 i) (hc3 : ¬cond0_3 i)
    (x0 : Vec F S256x256 .bf16) (x1 : Vec F S1x3328x64 .bf16) (x2 : Vec F S1x80x3328 .bf16) (y : S64x1024.Idx) :
    ∃ pc ∈ (kernelRun0_C c i arg4 harg4 arg5 harg5 arg6 harg6 arg7 harg7 arg8 harg8 arg9 harg9 arg10 harg10 hc0 hc1 hc2 hc3 x0 x1 x2).1, y ∈ pc.1.set :=
  View.cover_of_tiledL (kernelRun0_C c i arg4 harg4 arg5 harg5 arg6 harg6 arg7 harg7 arg8 harg8 arg9 harg9 arg10 harg10 hc0 hc1 hc2 hc3 x0 x1 x2).1 S64x256.size (by sl_kernel_rfl) y

/-- What the first key block leaves in the queries. -/
def qs_C (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : ¬cond0_1 i) (hc2 : cond0_2 i) (hc3 : ¬cond0_3 i)
    (x0 : Vec F S256x256 .bf16) (x1 : Vec F S1x3328x64 .bf16) (x2 : Vec F S1x80x3328 .bf16) : Vec F S64x1024 .bf16 :=
  VS0_0.read (Elt F) (VS0_0.writes (Elt F) VS0_0.junk (kernelRun0_C c i arg4 harg4 arg5 harg5 arg6 harg6 arg7 harg7 arg8 harg8 arg9 harg9 arg10 harg10 hc0 hc1 hc2 hc3 x0 x1 x2).1)

/-- The pieces the first key block writes to the accumulator cover it. -/
theorem accCover_C (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : ¬cond0_1 i) (hc2 : cond0_2 i) (hc3 : ¬cond0_3 i)
    (x0 : Vec F S256x256 .bf16) (x1 : Vec F S1x3328x64 .bf16) (x2 : Vec F S1x80x3328 .bf16) (y : S80x1024.Idx) :
    ∃ pc ∈ (kernelRun0_C c i arg4 harg4 arg5 harg5 arg6 harg6 arg7 harg7 arg8 harg8 arg9 harg9 arg10 harg10 hc0 hc1 hc2 hc3 x0 x1 x2).2.1, y ∈ pc.1.set :=
  View.cover_of_tiledL (kernelRun0_C c i arg4 harg4 arg5 harg5 arg6 harg6 arg7 harg7 arg8 harg8 arg9 harg9 arg10 harg10 hc0 hc1 hc2 hc3 x0 x1 x2).2.1 S80x1024.size (by sl_kernel_rfl) y

/-- What the first key block leaves in the accumulator. -/
def acc_C (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : ¬cond0_1 i) (hc2 : cond0_2 i) (hc3 : ¬cond0_3 i)
    (x0 : Vec F S256x256 .bf16) (x1 : Vec F S1x3328x64 .bf16) (x2 : Vec F S1x80x3328 .bf16) : Vec F S80x1024 .f32 :=
  VS0_2.read (Elt F) (VS0_2.writes (Elt F) VS0_2.junk (kernelRun0_C c i arg4 harg4 arg5 harg5 arg6 harg6 arg7 harg7 arg8 harg8 arg9 harg9 arg10 harg10 hc0 hc1 hc2 hc3 x0 x1 x2).2.1)

/-- The pieces a middle key block writes to the accumulator cover it. -/
theorem accCover_D (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : ¬cond0_0 i) (hc1 : ¬cond0_1 i) (hc2 : cond0_2 i) (hc3 : ¬cond0_3 i)
    (x0 : Vec F S256x256 .bf16) (x1 : Vec F S1x3328x64 .bf16) (x2 : Vec F S1x80x3328 .bf16) (xs0 : Vec F S64x1024 .bf16) (xs2 : Vec F S80x1024 .f32) (y : S80x1024.Idx) :
    ∃ pc ∈ (kernelRun0_D c i arg4 harg4 arg5 harg5 arg6 harg6 arg7 harg7 arg8 harg8 arg9 harg9 arg10 harg10 hc0 hc1 hc2 hc3 x0 x1 x2 xs0 xs2).2.1, y ∈ pc.1.set :=
  View.cover_of_tiledL (kernelRun0_D c i arg4 harg4 arg5 harg5 arg6 harg6 arg7 harg7 arg8 harg8 arg9 harg9 arg10 harg10 hc0 hc1 hc2 hc3 x0 x1 x2 xs0 xs2).2.1 S80x1024.size (by sl_kernel_rfl) y

/-- What a middle key block leaves in the accumulator. -/
def acc_D (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : ¬cond0_0 i) (hc1 : ¬cond0_1 i) (hc2 : cond0_2 i) (hc3 : ¬cond0_3 i)
    (x0 : Vec F S256x256 .bf16) (x1 : Vec F S1x3328x64 .bf16) (x2 : Vec F S1x80x3328 .bf16) (xs0 : Vec F S64x1024 .bf16) (xs2 : Vec F S80x1024 .f32) : Vec F S80x1024 .f32 :=
  VS0_2.read (Elt F) (VS0_2.writes (Elt F) VS0_2.junk (kernelRun0_D c i arg4 harg4 arg5 harg5 arg6 harg6 arg7 harg7 arg8 harg8 arg9 harg9 arg10 harg10 hc0 hc1 hc2 hc3 x0 x1 x2 xs0 xs2).2.1)

/-- The pieces the last key block writes to the output block cover it. -/
theorem outCover_E (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : ¬cond0_0 i) (hc1 : ¬cond0_1 i) (hc2 : cond0_2 i) (hc3 : cond0_3 i)
    (x0 : Vec F S256x256 .bf16) (x1 : Vec F S1x3328x64 .bf16) (x2 : Vec F S1x80x3328 .bf16) (xs0 : Vec F S64x1024 .bf16) (xs2 : Vec F S80x1024 .f32) (y : S256x256.Idx) :
    ∃ pc ∈ (kernelRun0_E c i arg4 harg4 arg5 harg5 arg6 harg6 arg7 harg7 arg8 harg8 arg9 harg9 arg10 harg10 hc0 hc1 hc2 hc3 x0 x1 x2 xs0 xs2).1, y ∈ pc.1.set :=
  View.cover_of_tiledL (kernelRun0_E c i arg4 harg4 arg5 harg5 arg6 harg6 arg7 harg7 arg8 harg8 arg9 harg9 arg10 harg10 hc0 hc1 hc2 hc3 x0 x1 x2 xs0 xs2).1 S64x256.size (by sl_kernel_rfl) y

/-- What the last key block leaves in the output block. -/
def out_E (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : ¬cond0_0 i) (hc1 : ¬cond0_1 i) (hc2 : cond0_2 i) (hc3 : cond0_3 i)
    (x0 : Vec F S256x256 .bf16) (x1 : Vec F S1x3328x64 .bf16) (x2 : Vec F S1x80x3328 .bf16) (xs0 : Vec F S64x1024 .bf16) (xs2 : Vec F S80x1024 .f32) : Vec F S256x256 .bf16 :=
  VO0_3.read (Elt F) (VO0_3.writes (Elt F) VO0_3.junk (kernelRun0_E c i arg4 harg4 arg5 harg5 arg6 harg6 arg7 harg7 arg8 harg8 arg9 harg9 arg10 harg10 hc0 hc1 hc2 hc3 x0 x1 x2 xs0 xs2).1)

/-- The pieces the last key block writes to the accumulator cover it. -/
theorem accCover_E (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : ¬cond0_0 i) (hc1 : ¬cond0_1 i) (hc2 : cond0_2 i) (hc3 : cond0_3 i)
    (x0 : Vec F S256x256 .bf16) (x1 : Vec F S1x3328x64 .bf16) (x2 : Vec F S1x80x3328 .bf16) (xs0 : Vec F S64x1024 .bf16) (xs2 : Vec F S80x1024 .f32) (y : S80x1024.Idx) :
    ∃ pc ∈ (kernelRun0_E c i arg4 harg4 arg5 harg5 arg6 harg6 arg7 harg7 arg8 harg8 arg9 harg9 arg10 harg10 hc0 hc1 hc2 hc3 x0 x1 x2 xs0 xs2).2.2.1, y ∈ pc.1.set :=
  View.cover_of_tiledL (kernelRun0_E c i arg4 harg4 arg5 harg5 arg6 harg6 arg7 harg7 arg8 harg8 arg9 harg9 arg10 harg10 hc0 hc1 hc2 hc3 x0 x1 x2 xs0 xs2).2.2.1 S80x1024.size (by sl_kernel_rfl) y

/-- What the last key block leaves in the accumulator. -/
def acc_E (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : ¬cond0_0 i) (hc1 : ¬cond0_1 i) (hc2 : cond0_2 i) (hc3 : cond0_3 i)
    (x0 : Vec F S256x256 .bf16) (x1 : Vec F S1x3328x64 .bf16) (x2 : Vec F S1x80x3328 .bf16) (xs0 : Vec F S64x1024 .bf16) (xs2 : Vec F S80x1024 .f32) : Vec F S80x1024 .f32 :=
  VS0_2.read (Elt F) (VS0_2.writes (Elt F) VS0_2.junk (kernelRun0_E c i arg4 harg4 arg5 harg5 arg6 harg6 arg7 harg7 arg8 harg8 arg9 harg9 arg10 harg10 hc0 hc1 hc2 hc3 x0 x1 x2 xs0 xs2).2.2.1)

/-- The queries' scratch and the accumulator after the body at position `n`: a context tile's first point and a latent tile's
    first point fill both; a latent tile's later points keep the queries and add to the accumulator; a context tile's later
    points keep both. -/
def stAt (c : Dev nD) : (n : ℕ) → n < cfg0.N → Vec F S64x1024 .bf16 × Vec F S80x1024 .f32
  | n, hn =>
    let t : Fin cfg0.N := ⟨n, hn⟩
    if h0 : t.val % 5 = 0 then
      if h1 : t.val % 325 = 0 then
        have h2 : ¬1 ≤ t.val / 5 % 65 := by omega
        have h3 : ¬(1 ≤ t.val / 5 % 65 + 64 * (t.val % 5) ∧ t.val / 5 % 65 + 64 * (t.val % 5) ≤ 256) := by omega
        ((qs_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) ((hcond0_3 t).mpr h3) (iblk m c 0 t) (iblk m c 1 t) (iblk m c 2 t)), (acc_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) ((hcond0_3 t).mpr h3) (iblk m c 0 t) (iblk m c 1 t) (iblk m c 2 t)))
      else
        have h2 : 1 ≤ t.val / 5 % 65 := by omega
        have h3 : ¬¬(1 ≤ t.val / 5 % 65 + 64 * (t.val % 5) ∧ t.val / 5 % 65 + 64 * (t.val % 5) ≤ 256) := by omega
        ((qs_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t)), (acc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t)))
    else
      have hlt : n - 1 < n := by have : t.val = n := rfl; omega
      let p := stAt c (n - 1) (Nat.lt_of_le_of_lt (Nat.sub_le _ _) hn)
      have h1 : ¬t.val % 325 = 0 := by omega
      if h2 : 1 ≤ t.val / 5 % 65 then
        if h3 : ¬(1 ≤ t.val / 5 % 65 + 64 * (t.val % 5) ∧ t.val / 5 % 65 + 64 * (t.val % 5) ≤ 256) then
          ((p).1, (acc_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (p).1 (p).2))
        else
          ((p).1, (acc_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (p).1 (p).2))
      else p
termination_by n => n

/-- `stAt` at a context tile. -/
theorem stAt_A (c : Dev nD) (t : Fin cfg0.N) (h0 : t.val % 5 = 0) (h1 : t.val % 325 = 0) (h2 : ¬1 ≤ t.val / 5 % 65) (h3 : ¬(1 ≤ t.val / 5 % 65 + 64 * (t.val % 5) ∧ t.val / 5 % 65 + 64 * (t.val % 5) ≤ 256)) :
    stAt m c t.val t.isLt = ((qs_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) ((hcond0_3 t).mpr h3) (iblk m c 0 t) (iblk m c 1 t) (iblk m c 2 t)), (acc_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) ((hcond0_3 t).mpr h3) (iblk m c 0 t) (iblk m c 1 t) (iblk m c 2 t))) := by
  rw [stAt]; rw [dif_pos h0, dif_pos h1]

/-- `stAt` at a context tile's later point. -/
theorem stAt_B (c : Dev nD) (t : Fin cfg0.N) (h0 : ¬t.val % 5 = 0) (h1 : ¬t.val % 325 = 0) (h2 : ¬1 ≤ t.val / 5 % 65) (h3 : ¬¬(1 ≤ t.val / 5 % 65 + 64 * (t.val % 5) ∧ t.val / 5 % 65 + 64 * (t.val % 5) ≤ 256)) :
    stAt m c t.val t.isLt = stAt m c (t.val - 1) (Nat.lt_of_le_of_lt (Nat.sub_le _ _) t.isLt) := by
  rw [stAt]; rw [dif_neg h0, dif_neg h2]

/-- `stAt` at the first key block. -/
theorem stAt_C (c : Dev nD) (t : Fin cfg0.N) (h0 : t.val % 5 = 0) (h1 : ¬t.val % 325 = 0) (h2 : 1 ≤ t.val / 5 % 65) (h3 : ¬¬(1 ≤ t.val / 5 % 65 + 64 * (t.val % 5) ∧ t.val / 5 % 65 + 64 * (t.val % 5) ≤ 256)) :
    stAt m c t.val t.isLt = ((qs_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t)), (acc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t))) := by
  rw [stAt]; rw [dif_pos h0, dif_neg h1]

/-- `stAt` at a middle key block. -/
theorem stAt_D (c : Dev nD) (t : Fin cfg0.N) (h0 : ¬t.val % 5 = 0) (h1 : ¬t.val % 325 = 0) (h2 : 1 ≤ t.val / 5 % 65) (h3 : ¬¬(1 ≤ t.val / 5 % 65 + 64 * (t.val % 5) ∧ t.val / 5 % 65 + 64 * (t.val % 5) ≤ 256)) :
    stAt m c t.val t.isLt = ((stAt m c (t.val - 1) (Nat.lt_of_le_of_lt (Nat.sub_le _ _) t.isLt)).1, (acc_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (stAt m c (t.val - 1) (Nat.lt_of_le_of_lt (Nat.sub_le _ _) t.isLt)).1 (stAt m c (t.val - 1) (Nat.lt_of_le_of_lt (Nat.sub_le _ _) t.isLt)).2)) := by
  rw [stAt]; rw [dif_neg h0, dif_pos h2, dif_neg h3]

/-- `stAt` at the last key block. -/
theorem stAt_E (c : Dev nD) (t : Fin cfg0.N) (h0 : ¬t.val % 5 = 0) (h1 : ¬t.val % 325 = 0) (h2 : 1 ≤ t.val / 5 % 65) (h3 : ¬(1 ≤ t.val / 5 % 65 + 64 * (t.val % 5) ∧ t.val / 5 % 65 + 64 * (t.val % 5) ≤ 256)) :
    stAt m c t.val t.isLt = ((stAt m c (t.val - 1) (Nat.lt_of_le_of_lt (Nat.sub_le _ _) t.isLt)).1, (acc_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (stAt m c (t.val - 1) (Nat.lt_of_le_of_lt (Nat.sub_le _ _) t.isLt)).1 (stAt m c (t.val - 1) (Nat.lt_of_le_of_lt (Nat.sub_le _ _) t.isLt)).2)) := by
  rw [stAt]; rw [dif_neg h0, dif_pos h2, dif_pos h3]

/-- The first of the five points of `t`'s query tile. -/
abbrev base (t : Fin cfg0.N) : Fin cfg0.N := ⟨t.val - t.val % 5, Nat.lt_of_le_of_lt (Nat.sub_le _ _) t.isLt⟩

/-- What a context tile's first point stores in the output block. -/
def outCtx (c : Dev nD) (t : Fin cfg0.N) (h0 : t.val % 5 = 0) (h1 : t.val % 325 = 0) (h2 : ¬1 ≤ t.val / 5 % 65) (h3 : ¬(1 ≤ t.val / 5 % 65 + 64 * (t.val % 5) ∧ t.val / 5 % 65 + 64 * (t.val % 5) ≤ 256)) : Vec F S256x256 .bf16 :=
  (out_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) ((hcond0_3 t).mpr h3) (iblk m c 0 t) (iblk m c 1 t) (iblk m c 2 t))

theorem outCtx_congr (c : Dev nD) (s t : Fin cfg0.N) (h : s = t) (h0 h1 h2 h3 k0 k1 k2 k3) :
    outCtx m c s h0 h1 h2 h3 = outCtx m c t k0 k1 k2 k3 := by
  subst h; rfl

/-- What the output window's buffer is said to hold after a point: at a context tile's five points what its first point
    stored, at a latent tile's last point what that point stores; elsewhere nothing is written back and any contents do. -/
def outAt (c : Dev nD) (t : Fin cfg0.N) : Vec F S256x256 .bf16 :=
  if hc : t.val % 325 < 5 then
    have h0 : (base t).val % 5 = 0 := by show (t.val - t.val % 5) % 5 = 0; omega
    have h1 : (base t).val % 325 = 0 := by show (t.val - t.val % 5) % 325 = 0; omega
    have h2 : ¬1 ≤ (base t).val / 5 % 65 := by omega
    have h3 : ¬(1 ≤ (base t).val / 5 % 65 + 64 * ((base t).val % 5) ∧ (base t).val / 5 % 65 + 64 * ((base t).val % 5) ≤ 256) := by omega
    outCtx m c (base t) h0 h1 h2 h3
  else if h3 : ¬(1 ≤ t.val / 5 % 65 + 64 * (t.val % 5) ∧ t.val / 5 % 65 + 64 * (t.val % 5) ≤ 256) then
    have h0 : ¬t.val % 5 = 0 := by omega
    have h1 : ¬t.val % 325 = 0 := by omega
    have h2 : 1 ≤ t.val / 5 % 65 := by omega
    (out_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (stAt m c (t.val - 1) (Nat.lt_of_le_of_lt (Nat.sub_le _ _) t.isLt)).1 (stAt m c (t.val - 1) (Nat.lt_of_le_of_lt (Nat.sub_le _ _) t.isLt)).2)
  else Pipeline.Dat.unnamed (cfg := cfg0) 3 t

/-- `outAt` at the first point of a context tile. -/
theorem outAt_A (c : Dev nD) (t : Fin cfg0.N) (h0 : t.val % 5 = 0) (h1 : t.val % 325 = 0) (h2 : ¬1 ≤ t.val / 5 % 65) (h3 : ¬(1 ≤ t.val / 5 % 65 + 64 * (t.val % 5) ∧ t.val / 5 % 65 + 64 * (t.val % 5) ≤ 256)) :
    outAt m c t = (out_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) ((hcond0_3 t).mpr h3) (iblk m c 0 t) (iblk m c 1 t) (iblk m c 2 t)) := by
  have hb : base t = t := Fin.ext (by show t.val - t.val % 5 = t.val; omega)
  unfold outAt; rw [dif_pos (show t.val % 325 < 5 by omega)]
  exact outCtx_congr m c _ _ hb _ _ _ _ h0 h1 h2 h3

/-- `outAt` at the last point of a latent tile. -/
theorem outAt_E (c : Dev nD) (t : Fin cfg0.N) (h0 : ¬t.val % 5 = 0) (h1 : ¬t.val % 325 = 0) (h2 : 1 ≤ t.val / 5 % 65) (h3 : ¬(1 ≤ t.val / 5 % 65 + 64 * (t.val % 5) ∧ t.val / 5 % 65 + 64 * (t.val % 5) ≤ 256)) :
    outAt m c t = (out_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (stAt m c (t.val - 1) (Nat.lt_of_le_of_lt (Nat.sub_le _ _) t.isLt)).1 (stAt m c (t.val - 1) (Nat.lt_of_le_of_lt (Nat.sub_le _ _) t.isLt)).2) := by
  unfold outAt; rw [dif_neg (show ¬t.val % 325 < 5 by omega), dif_pos h3]

/-- `outAt` is the same at all points of one context tile. -/
theorem outAt_ctx (c : Dev nD) (s t : Fin cfg0.N) (hs : s.val % 325 < 5) (ht : t.val % 325 < 5) (h : base s = base t) :
    outAt m c s = outAt m c t := by
  unfold outAt; rw [dif_pos hs, dif_pos ht]
  exact outCtx_congr m c _ _ h _ _ _ _ _ _ _ _

/-- The region invariant before position `n` with a scratch the kernel CARRIES between points: before the first point the
    class's (Lib/Pipeline/Frame.lean `ΦA`: every scratch at anything); afterwards the scoped rest with each carried scratch
    at what the point before left in it (`stAt`), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((stAt m c n hn).1) ∗ (∃ d, owns (c : Thread nD τ) scM0_1 fullShare d) ∗ owns (c : Thread nD τ) scM0_2 fullShare ((stAt m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((stAt m c n hn).1) ∗ (∃ d, owns (c : Thread nD τ) scM0_1 fullShare d) ∗ owns (c : Thread nD τ) scM0_2 fullShare ((stAt m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((stAt m c (n - 1) (by omega)).1) ∗ (∃ d, owns (c : Thread nD τ) scM0_1 fullShare d) ∗ owns (c : Thread nD τ) scM0_2 fullShare ((stAt m c (n - 1) (by omega)).2)) ∗ (∃ r, prngReg c r)) := by
  cases n with
  | zero => exact absurd rfl hz
  | succ n => rfl

end Cert.KernelIdeal.Att

end
-- ==== Proof.Attention.Frame.lean ====
/- The attention kernel's proof data, its body at every point, and its run: the frame. -/
module

public import proofs.«01_k».proof.Proof.Attention.State

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point `t` each
    input's buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a context tile's later points the output's buffer still holds what the tile's first point stored. -/
theorem before0_3_ctx (c : Dev nD) (d) : (k : ℕ) → (t : Fin cfg0.N) → t.val % 5 = k + 1 → t.val % 325 < 5 →
    (dats m 0 c).before 3 t d = outAt m c t := fun k => by
  induction k with
  | zero =>
    intro t hk hctx
    have hp : t.val - 1 < cfg0.N := Nat.lt_of_le_of_lt (Nat.sub_le _ _) t.isLt
    have hfl : (cfg0.win 3).flush ⟨t.val - 1, hp⟩ = false := by
      rw [Bool.eq_false_iff]; intro h; have := (flush0_3 ⟨t.val - 1, hp⟩).mp h; dsimp only at this; omega
    rw [(dats m 0 c).before_of_pos 3 t (by omega) rfl d, hfl, if_neg Bool.false_ne_true]
    have hl : cfg0.idle 3 (grid0.coords ⟨t.val - 1, hp⟩) = false :=
      (idle0_3 _).mpr ((hcond0_3 _).mpr (by dsimp only; omega))
    unfold Dat.left; rw [hl]
    show (dats m 0 c).after 3 ⟨t.val - 1, hp⟩ = _
    rw [after0_3]
    exact outAt_ctx m c _ _ (by show (t.val - 1) % 325 < 5; omega) hctx (Fin.ext (by show t.val - 1 - (t.val - 1) % 5 = t.val - t.val % 5; omega))
  | succ k ih =>
    intro t hk hctx
    have hp : t.val - 1 < cfg0.N := Nat.lt_of_le_of_lt (Nat.sub_le _ _) t.isLt
    have hfl : (cfg0.win 3).flush ⟨t.val - 1, hp⟩ = false := by
      rw [Bool.eq_false_iff]; intro h; have := (flush0_3 ⟨t.val - 1, hp⟩).mp h; dsimp only at this; omega
    rw [(dats m 0 c).before_of_pos 3 t (by omega) rfl d, hfl, if_neg Bool.false_ne_true]
    have hl : cfg0.idle 3 (grid0.coords ⟨t.val - 1, hp⟩) = true := by
      rw [← Bool.not_eq_false, idle0_3, hcond0_3]; dsimp only; omega
    unfold Dat.left; rw [hl]
    show (dats m 0 c).before 3 ⟨t.val - 1, hp⟩ d = _
    rw [ih ⟨t.val - 1, hp⟩ (by show (t.val - 1) % 5 = k + 1; omega) (by show (t.val - 1) % 325 < 5; omega)]
    exact outAt_ctx m c _ _ (by show (t.val - 1) % 325 < 5; omega) hctx (Fin.ext (by show t.val - 1 - (t.val - 1) % 5 = t.val - t.val % 5; omega))

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The output's buffer where the body stores it: at `outAt`. -/
theorem leaves_live (c : Dev nD) (t : Fin cfg0.N) (h : cond0_3 (grid0.coords t)) :
    (dats m 0 c).leavesExact 3 t = owns (c : Thread nD τ) (ms0_3 t) fullShare (outAt m c t) := by
  unfold Dat.leavesExact; rw [(idle0_3 t).mpr h, after0_3]

/-- The output's buffer where the body leaves it alone: as it was found. -/
theorem leaves_idle (c : Dev nD) (t : Fin cfg0.N) (h : ¬cond0_3 (grid0.coords t)) (hctx : t.val % 5 = 4 → t.val % 325 < 5) (d) :
    owns (c : Thread nD τ) (ms0_3 t) fullShare ((dats m 0 c).before 3 t d) ⊢ (dats m 0 c).leavesExact 3 t := by
  have hi : cfg0.idle 3 (grid0.coords t) = true := by rw [← Bool.not_eq_false, idle0_3]; exact h
  unfold Dat.leavesExact; rw [hi]
  by_cases h4 : t.val % 5 = 4
  · rw [(flush0_3 t).mpr h4, before0_3_ctx m c d 3 t h4 (hctx h4), after0_3]
  · rw [Bool.eq_false_iff.mpr (fun hf => h4 ((flush0_3 t).mp hf))]
    iintro H; iexists d; iexact H

set_option maxHeartbeats 4000000 in
/-- The body at a context tile. -/
theorem sound_A (c : Dev nD) (t : Fin cfg0.N) (h0 : t.val % 5 = 0) (h1 : t.val % 325 = 0) (h2 : ¬1 ≤ t.val / 5 % 65) (h3 : ¬(1 ≤ t.val / 5 % 65 + 64 * (t.val % 5) ∧ t.val / 5 % 65 + 64 * (t.val % 5) ≤ 256)) :
    bodyPre m c t ⊢ wp frame (wpE (defs₀ (F := F)) Variants.none c none) Set.univ (bodyAt0 t) (fun _ => bodyPost m c t) := by
  have hN : t.val < 1300 := lt_of_lt_of_eq t.isLt (show cfg0.N = 1300 from N_0)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases hz : t.val = 0
  · rw [PhiS_castSucc m c t, PhiS_zero m c _ _ hz, PhiA0_eq]
    rw [stAt_A m c t h0 h1 h2 h3]
    rw [leaves_live m c t ((hcond0_3 t).mpr h3), outAt_A m c t h0 h1 h2 h3]
    unfold out_A qs_A acc_A; (try dsimp only)
    iintro ⟨⟨⟨HS0, HS1, HS2⟩, Hg⟩, Ho, ⟨%d0, H0⟩, ⟨%d1, H1⟩, ⟨%d2, H2⟩, ⟨%d3, H3⟩⟩
    iapply ((kernelRun0_A c (grid0.coords t) _ _ _ _ _ _ _ _ _ _ _ _ _ _ ((hcond0_0 t).mpr h0) ((hcond0_1 t).mpr h1) (fun h => h2 ((hcond0_2 t).mp h)) ((hcond0_3 t).mpr h3) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%eo, H3⟩, ⟨%es0, HS0⟩, HS1, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (qsCover_A c _ _ _ _ _ _ _ _ _ _ _ _ _ _ _ _ _ _ _ _ _ _)
        isplitl [HS1]; · iexact HS1
        unfold owns; iexists _; isplitr
        swap; · iexact HS2
        ipureintro; exact View.read_writes_of_cover _ _ _ _ _ (accCover_A c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (outCover_A c _ _ _ _ _ _ _ _ _ _ _ _ _ _ _ _ _ _ _ _ _ _)
  · rw [PhiS_castSucc m c t, PhiS_pos m c _ _ hz]
    rw [stAt_A m c t h0 h1 h2 h3]
    rw [leaves_live m c t ((hcond0_3 t).mpr h3), outAt_A m c t h0 h1 h2 h3]
    unfold out_A qs_A acc_A; (try dsimp only)
    iintro ⟨⟨⟨HS0, HS1, HS2⟩, Hg⟩, Ho, ⟨%d0, H0⟩, ⟨%d1, H1⟩, ⟨%d2, H2⟩, ⟨%d3, H3⟩⟩
    iapply ((kernelRun0_A c (grid0.coords t) _ _ _ _ _ _ _ _ _ _ _ _ _ _ ((hcond0_0 t).mpr h0) ((hcond0_1 t).mpr h1) (fun h => h2 ((hcond0_2 t).mp h)) ((hcond0_3 t).mpr h3) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [HS0]; · iexists _; iexact HS0
    isplitl [HS1]; · iexact HS1
    isplitl [HS2]; · iexists _; iexact HS2
    iintro ⟨H0, H1, H2, ⟨%eo, H3⟩, ⟨%es0, HS0⟩, HS1, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (qsCover_A c _ _ _ _ _ _ _ _ _ _ _ _ _ _ _ _ _ _ _ _ _ _)
        isplitl [HS1]; · iexact HS1
        unfold owns; iexists _; isplitr
        swap; · iexact HS2
        ipureintro; exact View.read_writes_of_cover _ _ _ _ _ (accCover_A c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (outCover_A c _ _ _ _ _ _ _ _ _ _ _ _ _ _ _ _ _ _ _ _ _ _)

set_option maxHeartbeats 4000000 in
/-- The body at a context tile's later point. -/
theorem sound_B (c : Dev nD) (t : Fin cfg0.N) (h0 : ¬t.val % 5 = 0) (h1 : ¬t.val % 325 = 0) (h2 : ¬1 ≤ t.val / 5 % 65) (h3 : ¬¬(1 ≤ t.val / 5 % 65 + 64 * (t.val % 5) ∧ t.val / 5 % 65 + 64 * (t.val % 5) ≤ 256)) :
    bodyPre m c t ⊢ wp frame (wpE (defs₀ (F := F)) Variants.none c none) Set.univ (bodyAt0 t) (fun _ => bodyPost m c t) := by
  have hN : t.val < 1300 := lt_of_lt_of_eq t.isLt (show cfg0.N = 1300 from N_0)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [PhiS_castSucc m c t, PhiS_pos m c _ _ (by omega)]
  rw [stAt_B m c t h0 h1 h2 h3]
  iintro ⟨⟨⟨HS0, HS1, HS2⟩, Hg⟩, Ho, ⟨%d0, H0⟩, ⟨%d1, H1⟩, ⟨%d2, H2⟩, ⟨%d3, H3⟩⟩
  iapply ((kernelRun0_B c (grid0.coords t) _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (stAt m c (t.val - 1) (Nat.lt_of_le_of_lt (Nat.sub_le _ _) t.isLt)).1 (stAt m c (t.val - 1) (Nat.lt_of_le_of_lt (Nat.sub_le _ _) t.isLt)).2).2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iapply (leaves_idle m c t (fun h => h3 ((hcond0_3 t).mp h)) (by omega) d3); iexact H3

set_option maxHeartbeats 4000000 in
/-- The body at the first key block. -/
theorem sound_C (c : Dev nD) (t : Fin cfg0.N) (h0 : t.val % 5 = 0) (h1 : ¬t.val % 325 = 0) (h2 : 1 ≤ t.val / 5 % 65) (h3 : ¬¬(1 ≤ t.val / 5 % 65 + 64 * (t.val % 5) ∧ t.val / 5 % 65 + 64 * (t.val % 5) ≤ 256)) :
    bodyPre m c t ⊢ wp frame (wpE (defs₀ (F := F)) Variants.none c none) Set.univ (bodyAt0 t) (fun _ => bodyPost m c t) := by
  have hN : t.val < 1300 := lt_of_lt_of_eq t.isLt (show cfg0.N = 1300 from N_0)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [PhiS_castSucc m c t, PhiS_pos m c _ _ (by omega)]
  rw [stAt_C m c t h0 h1 h2 h3]
  unfold qs_C acc_C; (try dsimp only)
  iintro ⟨⟨⟨HS0, HS1, HS2⟩, Hg⟩, Ho, ⟨%d0, H0⟩, ⟨%d1, H1⟩, ⟨%d2, H2⟩, ⟨%d3, H3⟩⟩
  iapply ((kernelRun0_C c (grid0.coords t) _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t)).2.2 _ Set.univ _)
  isplitl [H0]; · iexact H0
  isplitl [H1]; · iexact H1
  isplitl [H2]; · iexact H2
  isplitl [H3]; · iexact H3
  isplitl [HS0]; · iexists _; iexact HS0
  isplitl [HS1]; · iexact HS1
  isplitl [HS2]; · iexists _; iexact HS2
  iintro ⟨H0, H1, H2, H3, ⟨%es0, HS0⟩, HS1, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (qsCover_C c _ _ _ _ _ _ _ _ _ _ _ _ _ _ _ _ _ _ _ _ _ _)
      isplitl [HS1]; · iexact HS1
      unfold owns; iexists _; isplitr
      swap; · iexact HS2
      ipureintro; exact View.read_writes_of_cover _ _ _ _ _ (accCover_C c _ _ _ _ _ _ _ _ _ _ _ _ _ _ _ _ _ _ _ _ _ _)
    iexact Hg
  isplitl [Ho]; · iexact Ho
  isplitl [H0]; · iexact H0
  isplitl [H1]; · iexact H1
  isplitl [H2]; · iexact H2
  iapply (leaves_idle m c t (fun h => h3 ((hcond0_3 t).mp h)) (by omega) d3); iexact H3

set_option maxHeartbeats 4000000 in
/-- The body at a middle key block. -/
theorem sound_D (c : Dev nD) (t : Fin cfg0.N) (h0 : ¬t.val % 5 = 0) (h1 : ¬t.val % 325 = 0) (h2 : 1 ≤ t.val / 5 % 65) (h3 : ¬¬(1 ≤ t.val / 5 % 65 + 64 * (t.val % 5) ∧ t.val / 5 % 65 + 64 * (t.val % 5) ≤ 256)) :
    bodyPre m c t ⊢ wp frame (wpE (defs₀ (F := F)) Variants.none c none) Set.univ (bodyAt0 t) (fun _ => bodyPost m c t) := by
  have hN : t.val < 1300 := lt_of_lt_of_eq t.isLt (show cfg0.N = 1300 from N_0)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [PhiS_castSucc m c t, PhiS_pos m c _ _ (by omega)]
  rw [stAt_D m c t h0 h1 h2 h3]
  unfold acc_D; (try dsimp only)
  iintro ⟨⟨⟨HS0, HS1, HS2⟩, Hg⟩, Ho, ⟨%d0, H0⟩, ⟨%d1, H1⟩, ⟨%d2, H2⟩, ⟨%d3, H3⟩⟩
  iapply ((kernelRun0_D c (grid0.coords t) _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (stAt m c (t.val - 1) (Nat.lt_of_le_of_lt (Nat.sub_le _ _) t.isLt)).1 (stAt m c (t.val - 1) (Nat.lt_of_le_of_lt (Nat.sub_le _ _) t.isLt)).2).2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, ⟨%es2, HS2⟩⟩
  isplitl [HS0 HS1 HS2 Hg]
  · isplitl [HS0 HS1 HS2]
    · isplitl [HS0]; · iexact HS0
      isplitl [HS1]; · iexact HS1
      unfold owns; iexists _; isplitr
      swap; · iexact HS2
      ipureintro; exact View.read_writes_of_cover _ _ _ _ _ (accCover_D c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  iapply (leaves_idle m c t (fun h => h3 ((hcond0_3 t).mp h)) (by omega) d3); iexact H3

set_option maxHeartbeats 4000000 in
/-- The body at the last key block. -/
theorem sound_E (c : Dev nD) (t : Fin cfg0.N) (h0 : ¬t.val % 5 = 0) (h1 : ¬t.val % 325 = 0) (h2 : 1 ≤ t.val / 5 % 65) (h3 : ¬(1 ≤ t.val / 5 % 65 + 64 * (t.val % 5) ∧ t.val / 5 % 65 + 64 * (t.val % 5) ≤ 256)) :
    bodyPre m c t ⊢ wp frame (wpE (defs₀ (F := F)) Variants.none c none) Set.univ (bodyAt0 t) (fun _ => bodyPost m c t) := by
  have hN : t.val < 1300 := lt_of_lt_of_eq t.isLt (show cfg0.N = 1300 from N_0)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [PhiS_castSucc m c t, PhiS_pos m c _ _ (by omega)]
  rw [stAt_E m c t h0 h1 h2 h3]
  rw [leaves_live m c t ((hcond0_3 t).mpr h3), outAt_E m c t h0 h1 h2 h3]
  unfold out_E acc_E; (try dsimp only)
  iintro ⟨⟨⟨HS0, HS1, HS2⟩, Hg⟩, Ho, ⟨%d0, H0⟩, ⟨%d1, H1⟩, ⟨%d2, H2⟩, ⟨%d3, H3⟩⟩
  iapply ((kernelRun0_E c (grid0.coords t) _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (stAt m c (t.val - 1) (Nat.lt_of_le_of_lt (Nat.sub_le _ _) t.isLt)).1 (stAt m c (t.val - 1) (Nat.lt_of_le_of_lt (Nat.sub_le _ _) t.isLt)).2).2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%eo, H3⟩, HS0, HS1, ⟨%es2, HS2⟩⟩
  isplitl [HS0 HS1 HS2 Hg]
  · isplitl [HS0 HS1 HS2]
    · isplitl [HS0]; · iexact HS0
      isplitl [HS1]; · iexact HS1
      unfold owns; iexists _; isplitr
      swap; · iexact HS2
      ipureintro; exact View.read_writes_of_cover _ _ _ _ _ (accCover_E c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outCover_E c _ _ _ _ _ _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 1300 := lt_of_lt_of_eq t.isLt (show cfg0.N = 1300 from N_0)
  by_cases h0 : t.val % 5 = 0
  · by_cases h1 : t.val % 325 = 0
    · exact sound_A m c t h0 h1 (by omega) (by omega)
    · exact sound_C m c t h0 h1 (by omega) (by omega)
  · by_cases h2 : 1 ≤ t.val / 5 % 65
    · by_cases h3 : ¬(1 ≤ t.val / 5 % 65 + 64 * (t.val % 5) ∧ t.val / 5 % 65 + 64 * (t.val % 5) ≤ 256)
      · exact sound_E m c t h0 (by omega) h2 h3
      · exact sound_D m c t h0 (by omega) h2 h3
    · exact sound_B m c t h0 (by omega) h2 (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region  is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 1300 := N_0; omega)

/-! ## The run and the frame -/

set_option backward.isDefEq.respectTransparency.types false in
/-- The launch: every weakly fair execution of @main terminates with the windows' arrays at what the proof data says, every
    other unscoped buffer as the region found it, and every semaphore counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Att

end
-- ==== Proof.Attention.Bits.lean ====
/- The kernel over the machine's floats is the same text as the kernel over the ideal floats, so its frame is the same. -/
module

public import proofs.«01_k».proof.Proof.Attention.Frame
public import proofs.«01_k».proof.Proof.Gen.Kernel
public import proofs.«01_k».proof.Defs

@[expose] public section

set_option maxRecDepth 16384

noncomputable section

namespace Cert.Kernel.Att

open Idealize.ShloMosaic Idealize.ShloMosaic.TcCoe Idealize.SL.Sem
open Cert.Kernel Cert.Kernel.Gen

/-- The two body tables hold the same body. -/
theorem defs0_eq : (defs₀ (F := Bits)) = Cert.KernelIdeal.defs₀ (F := Bits) := by
  refine congrArg Defs.onTc (funext fun l => ?_)
  match l with
  | ⟨0, _⟩ => exact funext fun a => rfl

/-- The two tables of the regions' bodies are the same. -/
theorem defs_eq : (defs (F := Bits)) = Cert.KernelIdeal.defs (F := Bits) :=
  congrArg (Pipeline.defs (pcfgs (F := Bits))) defs0_eq

/-- So the runs are the same. -/
theorem run_eq (s) (Q) : θ_run (defs (F := Bits)) (onTc (τ := τ) (main (F := Bits))) s Q
    = θ_run (Cert.KernelIdeal.defs (F := Bits)) (onTc (τ := Cert.KernelIdeal.τ) (Cert.KernelIdeal.main (F := Bits))) s Q :=
  congrArg (fun D => θ_run D (onTc (τ := τ) (main (F := Bits))) s Q) defs_eq

/-- The kernel's frame. -/
theorem frame : Cert.quiescent_Kernel := fun m ρ _ => (run_eq _ _).mpr (Cert.KernelIdeal.Att.frame (F := Bits) m ρ)

end Cert.Kernel.Att

end
-- ==== Proof.Attention.Steps.lean ====
/- What a grid point of the attention computes, written with the parts of its blocks: the queries spread over the lanes, the
   thirteen blocks of 256 keys added one after another, and the quotient at the end. -/
module

public import proofs.«01_k».proof.Proof.Attention.State
public import Idealize.ShloMosaic.Lib.Pipeline.ReadBack
public import Idealize.ShloMosaic.Lib.Pipeline.ValueKit

@[expose] public section

set_option maxRecDepth 16384

noncomputable section

namespace Cert.KernelIdeal.Att

open Cert.KernelIdeal.Gen
open Idealize.ShloMosaic Idealize.ShloMosaic.TcCoe Idealize.ShloMosaic.Tactic

variable {F : FTy → Type} [FloatOps F]

/-- The queries of a block spread over the lanes: the four heads' rows stored one beside another. -/
def qsOf (x0 : Vec F S256x256 .bf16) : Vec F S64x1024 .bf16 :=
  View.canon
    [⟨Rect.unit ![0, 768] ![64, 256] inb_S64x1024_S64x256_0_768,
        k0_pay4 (View.ld x0 (Rect.unit ![192, 0] ![64, 256] inb_S256x256_S64x256_192_0))⟩,
      ⟨Rect.unit ![0, 512] ![64, 256] inb_S64x1024_S64x256_0_512,
        k0_pay3 (View.ld x0 (Rect.unit ![128, 0] ![64, 256] inb_S256x256_S64x256_128_0))⟩,
      ⟨Rect.unit ![0, 256] ![64, 256] inb_S64x1024_S64x256_0_256,
        k0_pay2 (View.ld x0 (Rect.unit ![64, 0] ![64, 256] inb_S256x256_S64x256_64_0))⟩,
      ⟨Rect.unit ![0, 0] ![64, 256] inb_S64x1024_S64x256_0_0,
        k0_pay1 (View.ld x0 (Rect.unit ![0, 0] ![64, 256] inb_S256x256_S64x256_0_0))⟩]

/-- The output block from the gathered sums: rows 0 to 63 over row 64, the four heads one below another. -/
def outOf (a : Vec F S80x1024 .f32) : Vec F S256x256 .bf16 :=
  View.canon
    [⟨Rect.unit ![192, 0] ![64, 256] inb_S256x256_S64x256_192_0,
        k0_pay13 (View.ld a (Rect.unit ![0, 0] ![64, 1024] inb_S80x1024_S64x1024_0_0))
          (View.ld a (Rect.unit ![64, 0] ![1, 1024] inb_S80x1024_S1x1024_64_0))⟩,
      ⟨Rect.unit ![128, 0] ![64, 256] inb_S256x256_S64x256_128_0,
        k0_pay12 (View.ld a (Rect.unit ![0, 0] ![64, 1024] inb_S80x1024_S64x1024_0_0))
          (View.ld a (Rect.unit ![64, 0] ![1, 1024] inb_S80x1024_S1x1024_64_0))⟩,
      ⟨Rect.unit ![64, 0] ![64, 256] inb_S256x256_S64x256_64_0,
        k0_pay11 (View.ld a (Rect.unit ![0, 0] ![64, 1024] inb_S80x1024_S64x1024_0_0))
          (View.ld a (Rect.unit ![64, 0] ![1, 1024] inb_S80x1024_S1x1024_64_0))⟩,
      ⟨Rect.unit ![0, 0] ![64, 256] inb_S256x256_S64x256_0_0,
        k0_pay10 (View.ld a (Rect.unit ![0, 0] ![64, 1024] inb_S80x1024_S64x1024_0_0))
          (View.ld a (Rect.unit ![64, 0] ![1, 1024] inb_S80x1024_S1x1024_64_0))⟩]

/-- One block of 256 keys added to the sums: the keys from `o` on. -/
abbrev upd (x1 : Vec F S1x3328x64 .bf16) (x2 : Vec F S1x80x3328 .bf16) (qs : Vec F S64x1024 .bf16) (o : ℕ)
    (h1 : ∀ a, (![0, o, 0] : Fin 3 → ℕ) a + (![1, 256, 64] : Fin 3 → ℕ) a ≤ S1x3328x64.size a)
    (h2 : ∀ a, (![0, 0, o] : Fin 3 → ℕ) a + (![1, 80, 256] : Fin 3 → ℕ) a ≤ S1x80x3328.size a)
    (a : Vec F S80x1024 .f32) : Vec F S80x1024 .f32 :=
  k0_pay7 (View.ld x1 (Rect.unit ![0, o, 0] ![1, 256, 64] h1)) qs (View.ld x2 (Rect.unit ![0, 0, o] ![1, 80, 256] h2)) a

/-- The first block of keys only. -/
def one (x1 : Vec F S1x3328x64 .bf16) (x2 : Vec F S1x80x3328 .bf16) (qs : Vec F S64x1024 .bf16) (a : Vec F S80x1024 .f32) :
    Vec F S80x1024 .f32 :=
  upd x1 x2 qs 0 inb_S1x3328x64_S1x256x64_0_0_0 inb_S1x80x3328_S1x80x256_0_0_0 a

/-- All thirteen blocks of keys. -/
def thirteen (x1 : Vec F S1x3328x64 .bf16) (x2 : Vec F S1x80x3328 .bf16) (qs : Vec F S64x1024 .bf16) (a : Vec F S80x1024 .f32) :
    Vec F S80x1024 .f32 :=
  upd x1 x2 qs 3072 inb_S1x3328x64_S1x256x64_0_3072_0 inb_S1x80x3328_S1x80x256_0_0_3072 (
  upd x1 x2 qs 2816 inb_S1x3328x64_S1x256x64_0_2816_0 inb_S1x80x3328_S1x80x256_0_0_2816 (
  upd x1 x2 qs 2560 inb_S1x3328x64_S1x256x64_0_2560_0 inb_S1x80x3328_S1x80x256_0_0_2560 (
  upd x1 x2 qs 2304 inb_S1x3328x64_S1x256x64_0_2304_0 inb_S1x80x3328_S1x80x256_0_0_2304 (
  upd x1 x2 qs 2048 inb_S1x3328x64_S1x256x64_0_2048_0 inb_S1x80x3328_S1x80x256_0_0_2048 (
  upd x1 x2 qs 1792 inb_S1x3328x64_S1x256x64_0_1792_0 inb_S1x80x3328_S1x80x256_0_0_1792 (
  upd x1 x2 qs 1536 inb_S1x3328x64_S1x256x64_0_1536_0 inb_S1x80x3328_S1x80x256_0_0_1536 (
  upd x1 x2 qs 1280 inb_S1x3328x64_S1x256x64_0_1280_0 inb_S1x80x3328_S1x80x256_0_0_1280 (
  upd x1 x2 qs 1024 inb_S1x3328x64_S1x256x64_0_1024_0 inb_S1x80x3328_S1x80x256_0_0_1024 (
  upd x1 x2 qs 768 inb_S1x3328x64_S1x256x64_0_768_0 inb_S1x80x3328_S1x80x256_0_0_768 (
  upd x1 x2 qs 512 inb_S1x3328x64_S1x256x64_0_512_0 inb_S1x80x3328_S1x80x256_0_0_512 (
  upd x1 x2 qs 256 inb_S1x3328x64_S1x256x64_0_256_0 inb_S1x80x3328_S1x80x256_0_0_256 (
  upd x1 x2 qs 0 inb_S1x3328x64_S1x256x64_0_0_0 inb_S1x80x3328_S1x80x256_0_0_0 a))))))))))))

/-- Reading the whole of the spread queries reads what the pieces stored. -/
theorem read_qs (v : View sig .tc .vmem S64x1024 .bf16) (L : List (View.Piece (Elt F) S64x1024 .bf16)) :
    v.readCov L (Rect.unit ![0, 0] ![64, 1024] inb_S64x1024_S64x1024_0_0).toLoadRect = View.canon L := by
  rw [View.readCov_eq_canon']
  funext j
  exact congrArg _ (funext fun a => Fin.ext (by fin_cases a <;> simp [LoadRect.idx, Rect.unit]))

/-- A context tile spreads its queries. -/
theorem qs_A_eq (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : cond0_1 i) (hc2 : ¬cond0_2 i) (hc3 : cond0_3 i)
    (x0 : Vec F S256x256 .bf16) (x1 : Vec F S1x3328x64 .bf16) (x2 : Vec F S1x80x3328 .bf16) :
    qs_A c i arg4 harg4 arg5 harg5 arg6 harg6 arg7 harg7 arg8 harg8 arg9 harg9 arg10 harg10 hc0 hc1 hc2 hc3 x0 x1 x2 = qsOf x0 := by
  unfold qs_A
  frame_open
  simp (disch := decide) only [↓ View.readCov_skip, ↓ View.readCov_cons_toLoadRect, ↓ View.readCov_fill]
  frame_out [read_qs]

/-- A latent tile spreads its queries at its first key block. -/
theorem qs_C_eq (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : ¬cond0_1 i) (hc2 : cond0_2 i) (hc3 : ¬cond0_3 i)
    (x0 : Vec F S256x256 .bf16) (x1 : Vec F S1x3328x64 .bf16) (x2 : Vec F S1x80x3328 .bf16) :
    qs_C c i arg4 harg4 arg5 harg5 arg6 harg6 arg7 harg7 arg8 harg8 arg9 harg9 arg10 harg10 hc0 hc1 hc2 hc3 x0 x1 x2 = qsOf x0 := by
  unfold qs_C
  frame_open
  simp (disch := decide) only [↓ View.readCov_skip, ↓ View.readCov_cons_toLoadRect, ↓ View.readCov_fill]
  frame_out [read_qs]

/-- A context tile adds the first block of keys to zero. -/
theorem acc_A_eq (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : cond0_1 i) (hc2 : ¬cond0_2 i) (hc3 : cond0_3 i)
    (x0 : Vec F S256x256 .bf16) (x1 : Vec F S1x3328x64 .bf16) (x2 : Vec F S1x80x3328 .bf16) :
    acc_A c i arg4 harg4 arg5 harg5 arg6 harg6 arg7 harg7 arg8 harg8 arg9 harg9 arg10 harg10 hc0 hc1 hc2 hc3 x0 x1 x2 = one x1 x2 (qsOf x0) k0_pay6 := by
  unfold acc_A
  frame_open
  simp (disch := decide) only [↓ View.readCov_skip, ↓ View.readCov_cons_toLoadRect, ↓ View.readCov_fill]
  frame_out [read_qs]
  rfl

/-- The first point of a latent tile adds its keys to zero. -/
theorem acc_C_eq (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : ¬cond0_1 i) (hc2 : cond0_2 i) (hc3 : ¬cond0_3 i)
    (x0 : Vec F S256x256 .bf16) (x1 : Vec F S1x3328x64 .bf16) (x2 : Vec F S1x80x3328 .bf16) :
    acc_C c i arg4 harg4 arg5 harg5 arg6 harg6 arg7 harg7 arg8 harg8 arg9 harg9 arg10 harg10 hc0 hc1 hc2 hc3 x0 x1 x2 = thirteen x1 x2 (qsOf x0) k0_pay6 := by
  unfold acc_C
  frame_open
  simp (disch := decide) only [↓ View.readCov_skip, ↓ View.readCov_cons_toLoadRect, ↓ View.readCov_fill]
  frame_out [read_qs]
  rfl

/-- A middle point adds its keys to what is there. -/
theorem acc_D_eq (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : ¬cond0_0 i) (hc1 : ¬cond0_1 i) (hc2 : cond0_2 i) (hc3 : ¬cond0_3 i)
    (x0 : Vec F S256x256 .bf16) (x1 : Vec F S1x3328x64 .bf16) (x2 : Vec F S1x80x3328 .bf16) (xs0 : Vec F S64x1024 .bf16) (xs2 : Vec F S80x1024 .f32) :
    acc_D c i arg4 harg4 arg5 harg5 arg6 harg6 arg7 harg7 arg8 harg8 arg9 harg9 arg10 harg10 hc0 hc1 hc2 hc3 x0 x1 x2 xs0 xs2 = thirteen x1 x2 xs0 xs2 := by
  unfold acc_D
  frame_open
  simp (disch := decide) only [↓ View.readCov_skip, ↓ View.readCov_cons_toLoadRect, ↓ View.readCov_fill]
  frame_out [read_qs]
  rfl

/-- So does the last point. -/
theorem acc_E_eq (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : ¬cond0_0 i) (hc1 : ¬cond0_1 i) (hc2 : cond0_2 i) (hc3 : cond0_3 i)
    (x0 : Vec F S256x256 .bf16) (x1 : Vec F S1x3328x64 .bf16) (x2 : Vec F S1x80x3328 .bf16) (xs0 : Vec F S64x1024 .bf16) (xs2 : Vec F S80x1024 .f32) :
    acc_E c i arg4 harg4 arg5 harg5 arg6 harg6 arg7 harg7 arg8 harg8 arg9 harg9 arg10 harg10 hc0 hc1 hc2 hc3 x0 x1 x2 xs0 xs2 = thirteen x1 x2 xs0 xs2 := by
  unfold acc_E
  frame_open
  simp (disch := decide) only [↓ View.readCov_skip, ↓ View.readCov_cons_toLoadRect, ↓ View.readCov_fill]
  frame_out [read_qs]
  rfl

/-- A context tile stores its quotient. -/
theorem out_A_eq (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : cond0_0 i) (hc1 : cond0_1 i) (hc2 : ¬cond0_2 i) (hc3 : cond0_3 i)
    (x0 : Vec F S256x256 .bf16) (x1 : Vec F S1x3328x64 .bf16) (x2 : Vec F S1x80x3328 .bf16) :
    out_A c i arg4 harg4 arg5 harg5 arg6 harg6 arg7 harg7 arg8 harg8 arg9 harg9 arg10 harg10 hc0 hc1 hc2 hc3 x0 x1 x2 = outOf (one x1 x2 (qsOf x0) k0_pay6) := by
  unfold out_A
  frame_open
  simp (disch := decide) only [↓ View.readCov_skip, ↓ View.readCov_cons_toLoadRect, ↓ View.readCov_fill]
  frame_out [read_qs]
  rfl

/-- The last point stores the quotient. -/
theorem out_E_eq (c : Dev nD) (i : grid0.Coords) (arg4 : Memref sig .tc .vmem S256x256 .bf16) (harg4 : arg4.IsWhole) (arg5 : Memref sig .tc .vmem S1x3328x64 .bf16) (harg5 : arg5.IsWhole) (arg6 : Memref sig .tc .vmem S1x80x3328 .bf16) (harg6 : arg6.IsWhole) (arg7 : Memref sig .tc .vmem S256x256 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S80x1024 .f32) (harg10 : arg10.IsWhole) (hc0 : ¬cond0_0 i) (hc1 : ¬cond0_1 i) (hc2 : cond0_2 i) (hc3 : cond0_3 i)
    (x0 : Vec F S256x256 .bf16) (x1 : Vec F S1x3328x64 .bf16) (x2 : Vec F S1x80x3328 .bf16) (xs0 : Vec F S64x1024 .bf16) (xs2 : Vec F S80x1024 .f32) :
    out_E c i arg4 harg4 arg5 harg5 arg6 harg6 arg7 harg7 arg8 harg8 arg9 harg9 arg10 harg10 hc0 hc1 hc2 hc3 x0 x1 x2 xs0 xs2 = outOf (thirteen x1 x2 xs0 xs2) := by
  unfold out_E
  frame_open
  simp (disch := decide) only [↓ View.readCov_skip, ↓ View.readCov_cons_toLoadRect, ↓ View.readCov_fill]
  frame_out [read_qs]
  rfl

end Cert.KernelIdeal.Att

end
-- ==== Proof.Attention.Values.lean ====
/- The steps of the attention at one index, over the ideal floats. -/
module

public import proofs.«01_k».proof.Proof.Attention.Steps
public import Idealize.ShloMosaic.Lib.Pipeline.Value
public import Idealize.ShloMosaic.Lib.IdealHost

@[expose] public section

set_option maxRecDepth 16384

noncomputable section

namespace Cert.KernelIdeal.Att

open Cert.KernelIdeal.Gen
open Idealize.ShloMosaic Idealize.ShloMosaic.TcCoe Idealize.ShloMosaic.Tactic

/-- A block of 256 keys adds, at row `r` and lane `c`, the values at row `r` times the powers of the scores at lane `c`. -/
theorem pay7_apply (k : Vec Ideal S1x256x64 .bf16) (qs : Vec Ideal S64x1024 .bf16) (v : Vec Ideal S1x80x256 .bf16)
    (a : Vec Ideal S80x1024 .f32) (y : S80x1024.Idx) :
    k0_pay7 k qs v a y
      = a y + ∑ s : Fin 256, v (ix3 0 (y 0) s) * Ideal.exp2 (∑ d : Fin 64, k (ix3 0 s d) * qs (ix2 d (y 1))) := by
  pointwise [k0_pay7]
  rfl

/-- The same for the keys from `o` on, with the terms given as a function of the key's number. -/
theorem upd_apply (x1 : Vec Ideal S1x3328x64 .bf16) (x2 : Vec Ideal S1x80x3328 .bf16) (qs : Vec Ideal S64x1024 .bf16) (o : ℕ)
    (h1 : ∀ a, (![0, o, 0] : Fin 3 → ℕ) a + (![1, 256, 64] : Fin 3 → ℕ) a ≤ S1x3328x64.size a)
    (h2 : ∀ a, (![0, 0, o] : Fin 3 → ℕ) a + (![1, 80, 256] : Fin 3 → ℕ) a ≤ S1x80x3328.size a)
    (a : Vec Ideal S80x1024 .f32) (y : S80x1024.Idx) (f : ℕ → EReal)
    (hf : ∀ κ : Fin 3328, f κ.val = x2 (ix3 0 (y 0) κ) * Ideal.exp2 (∑ d : Fin 64, x1 (ix3 0 κ d) * qs (ix2 d (y 1)))) :
    upd x1 x2 qs o h1 h2 a y = a y + ∑ s ∈ Finset.range 256, f (o + s) := by
  have ho : o + 256 ≤ 3328 := h1 1
  rw [upd, pay7_apply, Finset.sum_range]
  congr 1
  refine Finset.sum_congr rfl fun s _ => ?_
  rw [hf ⟨o + s.val, by omega⟩]
  pointwise

/-- The queries of lane `c` are the queries of its head, `c / 256`, at its place `c % 256` of the tile. -/
theorem qsOf_apply (x0 : Vec Ideal S256x256 .bf16) (y : S64x1024.Idx) :
    qsOf x0 y = x0 (ix2 ⟨64 * ((y 1).val / 256) + (y 0).val, by have h0 : (y 0).val < 64 := (y 0).isLt; have h1 : (y 1).val < 1024 := (y 1).isLt; omega⟩ ⟨(y 1).val % 256, by omega⟩) := by
  refine View.canon_apply_of_pieces (fun y : S64x1024.Idx => x0 (ix2 ⟨64 * ((y 1).val / 256) + (y 0).val, by have h0 : (y 0).val < 64 := (y 0).isLt; have h1 : (y 1).val < 1024 := (y 1).isLt; omega⟩ ⟨(y 1).val % 256, by omega⟩)) _ (fun p hp j => ?_) y ?_
  · simp only [List.mem_cons, List.not_mem_nil, or_false] at hp
    rcases hp with rfl | rfl | rfl | rfl <;>
    · have h0 : (j 0).val < 64 := (j 0).isLt
      have h1 : (j 1).val < 256 := (j 1).isLt
      pointwise [k0_pay4, k0_pay3, k0_pay2, k0_pay1]
      refine congrArg x0 (funext fun a => Fin.ext ?_)
      fin_cases a <;> simp [Rect.emb_apply, ix2] <;> omega
  · exact View.cover_of_tiledL (s := S64x1024) _ S64x256.size (by sl_kernel_rfl) y

/-- The output of head `g` at row `64 g + d` is the sum of row `d` over the sum of the powers, row 64. -/
theorem outOf_apply (a : Vec Ideal S80x1024 .f32) (y : S256x256.Idx) :
    outOf a y
      = Ideal.div (a (ix2 ⟨(y 0).val % 64, by omega⟩ ⟨256 * ((y 0).val / 64) + (y 1).val, by have h0 : (y 0).val < 256 := (y 0).isLt; have h1 : (y 1).val < 256 := (y 1).isLt; omega⟩))
          (a (ix2 64 ⟨256 * ((y 0).val / 64) + (y 1).val, by have h0 : (y 0).val < 256 := (y 0).isLt; have h1 : (y 1).val < 256 := (y 1).isLt; omega⟩)) := by
  refine View.canon_apply_of_pieces (e := .bf16) (Val := Elt Ideal) (fun y : S256x256.Idx => Ideal.div (a (ix2 ⟨(y 0).val % 64, by omega⟩ ⟨256 * ((y 0).val / 64) + (y 1).val, by have h0 : (y 0).val < 256 := (y 0).isLt; have h1 : (y 1).val < 256 := (y 1).isLt; omega⟩))
          (a (ix2 64 ⟨256 * ((y 0).val / 64) + (y 1).val, by have h0 : (y 0).val < 256 := (y 0).isLt; have h1 : (y 1).val < 256 := (y 1).isLt; omega⟩))) _ (fun p hp j => ?_) y ?_
  · simp only [List.mem_cons, List.not_mem_nil, or_false] at hp
    rcases hp with rfl | rfl | rfl | rfl <;>
    · have h0 : (j 0).val < 64 := (j 0).isLt
      have h1 : (j 1).val < 256 := (j 1).isLt
      pointwise [k0_pay13, k0_pay12, k0_pay11, k0_pay10, k0_pay9]
      refine congrArg₂ Ideal.div (congrArg a (funext fun b => Fin.ext ?_)) (congrArg a (funext fun b => Fin.ext ?_)) <;>
        fin_cases b <;> simp [Rect.emb_apply, ix2] <;> omega
  · exact View.cover_of_tiledL (s := S256x256) _ S64x256.size (by sl_kernel_rfl) y

/-- The first block of keys adds the terms of the first 256 keys. -/
theorem one_apply (x1 : Vec Ideal S1x3328x64 .bf16) (x2 : Vec Ideal S1x80x3328 .bf16) (qs : Vec Ideal S64x1024 .bf16)
    (a : Vec Ideal S80x1024 .f32) (y : S80x1024.Idx) (f : ℕ → EReal)
    (hf : ∀ κ : Fin 3328, f κ.val = x2 (ix3 0 (y 0) κ) * Ideal.exp2 (∑ d : Fin 64, x1 (ix3 0 κ d) * qs (ix2 d (y 1)))) :
    one x1 x2 qs a y = a y + ∑ κ ∈ Finset.range 256, f κ := by
  unfold one
  rw [upd_apply x1 x2 qs 0 _ _ a y f hf]
  simp only [Nat.zero_add]

/-- The thirteen blocks add the terms of all 3328 keys. -/
theorem thirteen_apply (x1 : Vec Ideal S1x3328x64 .bf16) (x2 : Vec Ideal S1x80x3328 .bf16) (qs : Vec Ideal S64x1024 .bf16)
    (a : Vec Ideal S80x1024 .f32) (y : S80x1024.Idx) (f : ℕ → EReal)
    (hf : ∀ κ : Fin 3328, f κ.val = x2 (ix3 0 (y 0) κ) * Ideal.exp2 (∑ d : Fin 64, x1 (ix3 0 κ d) * qs (ix2 d (y 1)))) :
    thirteen x1 x2 qs a y = a y + ∑ κ ∈ Finset.range 3328, f κ := by
  have hS : ∀ o, ∑ κ ∈ Finset.range (o + 256), f κ = ∑ κ ∈ Finset.range o, f κ + ∑ s ∈ Finset.range 256, f (o + s) :=
    fun o => Finset.sum_range_add f o 256
  unfold thirteen
  rw [upd_apply x1 x2 qs 3072 _ _ _ y f hf, upd_apply x1 x2 qs 2816 _ _ _ y f hf, upd_apply x1 x2 qs 2560 _ _ _ y f hf, upd_apply x1 x2 qs 2304 _ _ _ y f hf, upd_apply x1 x2 qs 2048 _ _ _ y f hf, upd_apply x1 x2 qs 1792 _ _ _ y f hf, upd_apply x1 x2 qs 1536 _ _ _ y f hf, upd_apply x1 x2 qs 1280 _ _ _ y f hf, upd_apply x1 x2 qs 1024 _ _ _ y f hf, upd_apply x1 x2 qs 768 _ _ _ y f hf, upd_apply x1 x2 qs 512 _ _ _ y f hf, upd_apply x1 x2 qs 256 _ _ _ y f hf, upd_apply x1 x2 qs 0 _ _ _ y f hf]
  rw [hS 3072, hS 2816, hS 2560, hS 2304, hS 2048, hS 1792, hS 1536, hS 1280, hS 1024, hS 768, hS 512, hS 256, hS 0]
  simp only [Finset.range_zero, Finset.sum_empty, zero_add, ← add_assoc]

end Cert.KernelIdeal.Att

end
-- ==== Proof.Attention.Blocks.lean ====
/- The blocks that the pipeline hands to a grid point, as places of the arrays. Point `t` works on query tile `t / 5`, a tile
   of one batch entry (`t / 650`) and one key head (`t / 5 / 65 % 2`), and on the key block `t % 5`; the first tile of each
   batch entry is the context, which keeps to key block 0. -/
module

public import proofs.«01_k».proof.Proof.Attention.Values

@[expose] public section

set_option maxRecDepth 16384

noncomputable section

namespace Cert.KernelIdeal.Att

open Cert.KernelIdeal.Gen
open Idealize.ShloMosaic Idealize.ShloMosaic.TcCoe Idealize.ShloMosaic.Tactic

variable (m : (ℓ : Loc nD τ sig) → Buf (Elt Ideal) ℓ)

/-- The queries' index map. -/
theorem idx0 : ∀ t : Fin cfg0.N, win0_0.index t = ![t.val / 5 / 65 % 2, t.val / 5 / 130 * 65 + t.val / 5 % 65] := by decide +kernel

/-- The keys' index map. -/
theorem idx1 : ∀ t : Fin cfg0.N, win0_1.index t
    = ![t.val / 5 / 65 % 2, t.val / 5 / 130 * 5 + (if t.val / 5 % 65 = 0 then 0 else t.val % 5), 0] := by decide +kernel

/-- The values' index map. -/
theorem idx2 : ∀ t : Fin cfg0.N, win0_2.index t
    = ![t.val / 5 / 65 % 2, 0, t.val / 5 / 130 * 5 + (if t.val / 5 % 65 = 0 then 0 else t.val % 5)] := by decide +kernel

/-- The output's index map. -/
theorem idx3 : ∀ t : Fin cfg0.N, win0_3.index t = ![t.val / 5 / 65 % 2, t.val / 5 / 130 * 65 + t.val / 5 % 65] := by decide +kernel

/-- A block of queries. -/
theorem blk0 (c : Dev nD) (t : Fin cfg0.N) (y : S256x256.Idx) :
    iblk m c 0 t y = V m c main_v7 (ix2 ⟨(t.val / 5 / 65 % 2) * 256 + (y 0).val, by have : (y 0).val < 256 := (y 0).isLt; omega⟩
      ⟨((t.val / 5 / 130 * 65 + t.val / 5 % 65) * 256 + (y 1).val) % 33280, by omega⟩) := by
  have ht : t.val < 1300 := t.isLt
  blk_ext [iblk, idx0 t]

/-- A block of keys, of a tile that is not the context. -/
theorem blk1 (c : Dev nD) (t : Fin cfg0.N) (y : S1x3328x64.Idx) :
    iblk m c 1 t y = V m c main_v10 (ix3 ⟨t.val / 5 / 65 % 2, by omega⟩
      ⟨(t.val / 5 / 130 * 16640 + ((if t.val / 5 % 65 = 0 then 0 else t.val % 5) * 3328 + (y 1).val)) % 33280, by omega⟩ (y 2)) := by
  have ht : t.val < 1300 := t.isLt
  by_cases h : t.val / 5 % 65 = 0 <;> simp only [h, if_true, if_false] <;> blk_ext [iblk, idx1 t, h, if_true, if_false]

/-- A block of values, of a tile that is not the context. -/
theorem blk2 (c : Dev nD) (t : Fin cfg0.N) (y : S1x80x3328.Idx) :
    iblk m c 2 t y = V m c main_v15 (ix3 ⟨t.val / 5 / 65 % 2, by omega⟩ (y 1)
      ⟨(t.val / 5 / 130 * 16640 + ((if t.val / 5 % 65 = 0 then 0 else t.val % 5) * 3328 + (y 2).val)) % 33280, by omega⟩) := by
  have ht : t.val < 1300 := t.isLt
  by_cases h : t.val / 5 % 65 = 0 <;> simp only [h, if_true, if_false] <;> blk_ext [iblk, idx2 t, h, if_true, if_false]

end Cert.KernelIdeal.Att

end
-- ==== Proof.Attention.Gather.lean ====
/- What the scratch holds as the key blocks of a tile go by, and what the tile's output is: sums over the keys gathered so
   far, written with the arrays that the attention works on. -/
module

public import proofs.«01_k».proof.Proof.Attention.Blocks

@[expose] public section

set_option maxRecDepth 16384

noncomputable section

namespace Cert.KernelIdeal.Att

open Cert.KernelIdeal.Gen
open Idealize.ShloMosaic Idealize.ShloMosaic.TcCoe Idealize.ShloMosaic.Tactic

variable (m : (ℓ : Loc nD τ sig) → Buf (Elt Ideal) ℓ)

/-- The keys as the attention reads them. -/
abbrev arrK (c : Dev nD) : S2x33280x64.Idx → EReal := V m c main_v10

/-- The values as the attention reads them, with rows of ones below. -/
abbrev arrV (c : Dev nD) : S2x80x33280.Idx → EReal := V m c main_v15

/-- Tile `T`'s queries, spread over the lanes. -/
def spread (c : Dev nD) (T : ℕ) : Vec Ideal S64x1024 .bf16 := fun y =>
  V m c main_v7 (ix2 ⟨(T / 65 % 2) * 256 + (64 * ((y 1).val / 256) + (y 0).val),
      by have h0 : (y 0).val < 64 := (y 0).isLt; have h1 : (y 1).val < 1024 := (y 1).isLt; omega⟩
    ⟨((T / 130 * 65 + T % 65) * 256 + (y 1).val % 256) % 33280, by omega⟩)

/-- What key `κ` of the batch entry adds to tile `T`'s sums. -/
def term (c : Dev nD) (T : ℕ) (y : S80x1024.Idx) (κ : ℕ) : EReal :=
  arrV m c (ix3 ⟨T / 65 % 2, by omega⟩ (y 0) ⟨(T / 130 * 16640 + κ) % 33280, by omega⟩)
    * Ideal.exp2 (∑ d : Fin 64, arrK m c (ix3 ⟨T / 65 % 2, by omega⟩ ⟨(T / 130 * 16640 + κ) % 33280, by omega⟩ d)
        * (show EReal from spread m c T (ix2 d (y 1))))

/-- The queries that a point spreads are its tile's. -/
theorem qsOf_blk (c : Dev nD) (t : Fin cfg0.N) : qsOf (iblk m c 0 t) = spread m c (t.val / 5) := by
  funext y
  have h0 : (y 0).val < 64 := (y 0).isLt
  have h1 : (y 1).val < 1024 := (y 1).isLt
  rw [qsOf_apply]
  exact blk0 m c t _

/-- A point's keys. -/
abbrev blkK (c : Dev nD) (t : Fin cfg0.N) : Vec Ideal S1x3328x64 .bf16 := iblk m c 1 t

/-- A point's values. -/
abbrev blkV (c : Dev nD) (t : Fin cfg0.N) : Vec Ideal S1x80x3328 .bf16 := iblk m c 2 t

/-- A point's keys and values give the terms of its key block. -/
theorem terms (c : Dev nD) (t : Fin cfg0.N) (y : S80x1024.Idx) (κ : Fin 3328) :
    term m c (t.val / 5) y ((if t.val / 5 % 65 = 0 then 0 else t.val % 5) * 3328 + κ.val)
      = blkV m c t (ix3 0 (y 0) κ) * Ideal.exp2 (∑ d : Fin 64, blkK m c t (ix3 0 κ d) * spread m c (t.val / 5) (ix2 d (y 1))) := by
  unfold term
  refine congrArg₂ (· * ·) (blk2 m c t (ix3 0 (y 0) κ)).symm (congrArg Ideal.exp2 (Finset.sum_congr rfl fun d _ => ?_))
  exact congrArg₂ (· * ·) (blk1 m c t (ix3 0 κ d)).symm rfl

/-- The sums begin at zero. -/
theorem pay6_apply (y : S80x1024.Idx) : (k0_pay6 (F := Ideal)) y = 0 := by
  pointwise [k0_pay6]

/-- A point's step over all its keys, from sums that hold the keys before. -/
theorem step (c : Dev nD) (t : Fin cfg0.N) (hq : ¬t.val / 5 % 65 = 0) (a : Vec Ideal S80x1024 .f32)
    (ha : ∀ y, a y = ∑ κ ∈ Finset.range (3328 * (t.val % 5)), term m c (t.val / 5) y κ) (y : S80x1024.Idx) :
    thirteen (iblk m c 1 t) (iblk m c 2 t) (spread m c (t.val / 5)) a y
      = ∑ κ ∈ Finset.range (3328 * (t.val % 5 + 1)), term m c (t.val / 5) y κ := by
  rw [thirteen_apply _ _ _ a y (fun κ => term m c (t.val / 5) y (3328 * (t.val % 5) + κ)) fun κ => by
    rw [← terms m c t y κ, if_neg hq, Nat.mul_comm], ha, Nat.mul_add, Nat.mul_one, Finset.sum_range_add]

/-- After a point of a tile that is not the context the scratch holds the tile's queries and the sums over the key blocks so far. -/
theorem gathered (c : Dev nD) : ∀ (n : ℕ) (hn : n < cfg0.N), ¬n / 5 % 65 = 0 →
    (stAt m c n hn).1 = spread m c (n / 5)
      ∧ ∀ y, (stAt m c n hn).2 y = ∑ κ ∈ Finset.range (3328 * (n % 5 + 1)), term m c (n / 5) y κ := by
  intro n
  induction n using Nat.strong_induction_on with
  | _ n ih =>
    intro hn hq
    have hn' : n < 1300 := hn
    have h1 : ¬n % 325 = 0 := by omega
    have h2 : 1 ≤ n / 5 % 65 := by omega
    by_cases h0 : n % 5 = 0
    · have h3 : ¬¬(1 ≤ n / 5 % 65 + 64 * (n % 5) ∧ n / 5 % 65 + 64 * (n % 5) ≤ 256) := by omega
      have e := stAt_C m c ⟨n, hn⟩ h0 h1 h2 h3
      rw [qs_C_eq, acc_C_eq, qsOf_blk] at e
      rw [e]
      refine ⟨rfl, fun y => ?_⟩
      exact step m c ⟨n, hn⟩ hq _ (fun y => by
        rw [pay6_apply]; show _ = ∑ κ ∈ Finset.range (3328 * (n % 5)), _; rw [h0, Nat.mul_zero, Finset.range_zero, Finset.sum_empty]) y
    · have hlt : n - 1 < n := by omega
      have hd : (n - 1) / 5 = n / 5 := by omega
      have hm : (n - 1) % 5 + 1 = n % 5 := by omega
      have I := ih (n - 1) hlt (by omega) (by rw [hd]; exact hq)
      rw [hd, hm] at I
      by_cases h3 : 1 ≤ n / 5 % 65 + 64 * (n % 5) ∧ n / 5 % 65 + 64 * (n % 5) ≤ 256
      · have e := stAt_D m c ⟨n, hn⟩ h0 h1 h2 (fun h => h h3)
        rw [acc_D_eq] at e
        rw [e]
        refine ⟨I.1, fun y => ?_⟩
        show thirteen _ _ (stAt m c (n - 1) _).1 (stAt m c (n - 1) _).2 y = _
        rw [I.1]
        exact step m c ⟨n, hn⟩ hq _ I.2 y
      · have e := stAt_E m c ⟨n, hn⟩ h0 h1 h2 h3
        rw [acc_E_eq] at e
        rw [e]
        refine ⟨I.1, fun y => ?_⟩
        show thirteen _ _ (stAt m c (n - 1) _).1 (stAt m c (n - 1) _).2 y = _
        rw [I.1]
        exact step m c ⟨n, hn⟩ hq _ I.2 y

/-- The place of an output element among the sums: its row `r`, the head of its row and its column for the lane. -/
abbrev place (y : S256x256.Idx) (r : Fin 80) : S80x1024.Idx :=
  ix2 r ⟨256 * ((y 0).val / 64) + (y 1).val, by have h0 : (y 0).val < 256 := (y 0).isLt; have h1 : (y 1).val < 256 := (y 1).isLt; omega⟩

/-- The output block of a tile, written back at its last point: a quotient of two sums over the tile's keys. -/
theorem outAt_last (c : Dev nD) (t : Fin cfg0.N) (h4 : t.val % 5 = 4) (y : S256x256.Idx) :
    outAt m c t y
      = Ideal.div (∑ κ ∈ Finset.range (if t.val / 5 % 65 = 0 then 256 else 16640), term m c (t.val / 5) (place y ⟨(y 0).val % 64, by omega⟩) κ)
          (∑ κ ∈ Finset.range (if t.val / 5 % 65 = 0 then 256 else 16640), term m c (t.val / 5) (place y 64) κ) := by
  have ht : t.val < 1300 := t.isLt
  by_cases hq : t.val / 5 % 65 = 0
  · have hb : (base t).val = t.val - 4 := by show t.val - t.val % 5 = _; rw [h4]
    have hb' : base (base t) = base t := Fin.ext (by show (base t).val - (base t).val % 5 = (base t).val; omega)
    have ht5 : t.val / 5 = (base t).val / 5 := by omega
    rw [outAt_ctx m c t (base t) (by omega) (by omega) hb'.symm]
    rw [outAt_A m c (base t) (by omega) (by omega) (by omega) (by omega), out_A_eq, outOf_apply, qsOf_blk]
    have hf : ∀ (z : S80x1024.Idx), one (iblk m c 1 (base t)) (iblk m c 2 (base t)) (spread m c ((base t).val / 5)) (k0_pay6 (F := Ideal)) z
        = ∑ κ ∈ Finset.range 256, term m c (t.val / 5) z κ := fun z => by
      rw [ht5, one_apply _ _ _ _ z (fun κ => term m c ((base t).val / 5) z κ) fun κ => by
        rw [← terms m c (base t) z κ, if_pos (by rw [← ht5]; exact hq), Nat.zero_mul, Nat.zero_add], pay6_apply, zero_add]
    rw [hf, hf, if_pos hq]
  · have h1 : ¬t.val % 325 = 0 := by omega
    have e := outAt_E m c t (by omega) h1 (by omega) (by omega)
    rw [e, out_E_eq, outOf_apply]
    have hd : (t.val - 1) / 5 = t.val / 5 := by omega
    have hm : (t.val - 1) % 5 + 1 = t.val % 5 := by omega
    have I := gathered m c (t.val - 1) (Nat.lt_of_le_of_lt (Nat.sub_le _ _) t.isLt) (by rw [hd]; exact hq)
    rw [hd, hm] at I
    have hf : ∀ z, thirteen (iblk m c 1 t) (iblk m c 2 t) (stAt m c (t.val - 1) (Nat.lt_of_le_of_lt (Nat.sub_le _ _) t.isLt)).1
        (stAt m c (t.val - 1) (Nat.lt_of_le_of_lt (Nat.sub_le _ _) t.isLt)).2 z = ∑ κ ∈ Finset.range 16640, term m c (t.val / 5) z κ := fun z => by
      rw [I.1, step m c t hq _ I.2 z, h4]
    rw [hf, hf, if_neg hq]

end Cert.KernelIdeal.Att

end
-- ==== Proof.Attention.Softmax.lean ====
/- The softmax average over the extended reals. With real scores `x` and any values `v`, the reference weighs each value by
   `exp (x - M) / ∑ exp (x - M)`, `M` real; the kernel divides the sum of `2^(x / ln 2) · v` by the sum of `2^(x / ln 2)`.
   Both are `∑ v · (exp x / ∑ exp x)`. -/
module

public import Idealize.ShloMosaic.Lib.ValueIdx
public import Idealize.ShloMosaic.Lib.IdealHost

@[expose] public section

noncomputable section

namespace Cert.SoftmaxAvg

open Idealize.ShloMosaic

/-- A sum of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor passes through a sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The softmax average of the values `v` under the scores `x`. -/
def avg {ι : Type} [Fintype ι] (x : ι → ℝ) (v : ι → EReal) : EReal :=
  ∑ i, v i * ((Real.exp (x i) / ∑ j, Real.exp (x j) : ℝ) : EReal)

variable {ι : Type} [Fintype ι] [Nonempty ι]

theorem total_pos (x : ι → ℝ) : 0 < ∑ j, Real.exp (x j) :=
  Finset.sum_pos (fun _ _ => Real.exp_pos _) Finset.univ_nonempty

/-- The reference's weights, the scores lowered by a real `M` first. -/
theorem shifted (x : ι → ℝ) (v : ι → EReal) (M : ℝ) :
    ∑ i, v i * Ideal.div (Ideal.exp ((x i : EReal) - (M : EReal))) (∑ j, Ideal.exp ((x j : EReal) - (M : EReal))) = avg x v := by
  have he : ∀ i, Ideal.exp ((x i : EReal) - (M : EReal)) = ((Real.exp (x i - M) : ℝ) : EReal) := fun i => by
    rw [← EReal.coe_sub, Ideal.exp_coe]
  simp only [he, coe_sum]
  have hp : (∑ j, Real.exp (x j - M)) ≠ 0 := (total_pos fun j => x j - M).ne'
  refine Finset.sum_congr rfl fun i _ => ?_
  rw [Ideal.div_coe hp, ← EReal.coe_mul]
  congr 2
  simp only [Real.exp_sub]
  rw [← Finset.sum_div]
  have := (total_pos x).ne'
  have := (Real.exp_pos M).ne'
  field_simp

/-- The kernel's: a sum of weighted values over the sum of the weights, the weights powers of two. -/
theorem powers (x : ι → ℝ) (v : ι → EReal) :
    Ideal.div (∑ i, v i * Ideal.exp2 ((x i / Real.log 2 : ℝ) : EReal)) (∑ i, 1 * Ideal.exp2 ((x i / Real.log 2 : ℝ) : EReal)) = avg x v := by
  have he : ∀ i, Ideal.exp2 ((x i / Real.log 2 : ℝ) : EReal) = ((Real.exp (x i) : ℝ) : EReal) := fun i => by
    rw [Ideal.exp2_coe]
    congr 1
    show (2 : ℝ) ^ (x i / Real.log 2) = _
    have h2 : Real.log 2 ≠ 0 := (Real.log_pos (by norm_num)).ne'
    rw [Real.rpow_def_of_pos (by norm_num)]
    congr 1; field_simp
  simp only [he, one_mul, coe_sum]
  have hp := total_pos x
  rw [Ideal.div_coe hp.ne', sum_mul_coe _ _ (by positivity)]
  refine Finset.sum_congr rfl fun i _ => ?_
  rw [mul_assoc, ← EReal.coe_mul]
  congr 2
  field_simp

/-- The greatest of finitely many reals, started at minus infinity, is real. -/
theorem fold_max_real {κ : Type} (s : Finset κ) (hs : s.Nonempty) (x : κ → ℝ) :
    ∃ M : ℝ, s.fold max (⊥ : EReal) (fun i => (x i : EReal)) = (M : EReal) := by
  classical
  induction hs using Finset.Nonempty.cons_induction with
  | singleton a => exact ⟨x a, by simp⟩
  | cons a s ha hs ih =>
    obtain ⟨M, hM⟩ := ih
    exact ⟨max (x a) M, by rw [Finset.fold_cons, hM]; exact (EReal.coe_strictMono.monotone.map_max).symm⟩

/-- An extended real whose absolute value is below plus infinity is real. -/
theorem real_of_abs_lt (x : EReal) (h : max x (-x) < ⊤) : ∃ r : ℝ, x = (r : EReal) := by
  induction x with
  | bot => simp at h
  | top => simp at h
  | coe r => exact ⟨r, rfl⟩

end Cert.SoftmaxAvg

end
-- ==== Proof.Attention.Ref.lean ====
/- The reference's result at an index: the softmax average of the values under the scaled scores, over the first 256 keys
   for a context token and over all 16640 for a latent one. -/
module

public import proofs.«01_k».proof.Proof.Gen.ReferenceIdeal.Read
public import proofs.«01_k».proof.Proof.Attention.Softmax
public import Idealize.ShloMosaic.PureOps.Reduce
public import Idealize.ShloMosaic.Lib.Pipeline.Value

@[expose] public section

set_option maxRecDepth 16384

noncomputable section

namespace Cert.AttRef

open Idealize.ShloMosaic Idealize.ShloMosaic.ValueIdx
open Cert.ReferenceIdeal Cert.ReferenceIdeal.Gen Cert.ReferenceIdeal.Read Cert.SoftmaxAvg

/-- Queries, and keys or values: real arrays. -/
abbrev Q := S2x16640x8x64.Idx → ℝ
abbrev K := S2x16640x2x64.Idx → ℝ

/-- The scaled score of key `κ` for token `s` of batch `b`, head `g` of group `h`. -/
def score (q : Q) (k : K) (b : Fin 2) (s : Fin 16640) (h : Fin 2) (g : Fin 4) (κ : Fin 16640) : ℝ :=
  (∑ d : Fin 64, k (ix4 b κ h d) * q (ix4 b s ⟨4 * h.val + g.val, by omega⟩ d)) * (1 / 8)

/-- Attention over the first `n` keys. -/
def attn (q : Q) (k : K) (v : S2x16640x2x64.Idx → EReal) (n : ℕ) (hn : n ≤ 16640) (b : Fin 2) (s : Fin 16640) (h : Fin 2) (g : Fin 4)
    (d : Fin 64) : EReal :=
  avg (fun κ : Fin n => score q k b s h g (κ.castLE hn)) (fun κ => v (ix4 b (κ.castLE hn) h d))

theorem ofBits_neg_inf : Ideal.ofBits .f32 0xFF800000#32 = ⊥ := by simp [Ideal.ofBits, Ideal.ieee]

theorem ofBits_eighth : Ideal.ofBits .f32 0x3E000000#32 = ((1 / 8 : ℝ) : EReal) := by
  simp [Ideal.ofBits, Ideal.ieee, -EReal.coe_mul]; norm_num

/-- The row maximum, in one piece: the fold, then the maximum with minus infinity. -/
theorem rowMax_real {s t u : Shape} {a : Fin s.rank} (x : s.Idx → EReal) (hx : ∀ i, ∃ r : ℝ, x i = (r : EReal)) (init : u.Idx → EReal)
    (h' : s.ReducesTo [a] t) (h : s.Reduces [a] t) (hu : 0 < u.numel) (hne : 0 < s.size a) (hi : init (Shape.Idx.first hu) = ⊥) (j : t.Idx) :
    ∃ M : ℝ, Host.reduce (FloatOps.maximumf (F := Ideal) (φ := .f32)) x init h' hu j = (M : EReal) := by
  choose r hr using hx
  obtain rfl : x = fun i => ((r i : ℝ) : EReal) := funext hr
  haveI : Nonempty (Fin (s.size a)) := ⟨⟨0, hne⟩⟩
  obtain ⟨M, hM⟩ := fold_max_real (Finset.univ : Finset (Fin (s.size a))) Finset.univ_nonempty (fun k => r (h.lift j k))
  refine ⟨M, ?_⟩
  show Host.reduce (max : EReal → EReal → EReal) _ init h' hu j = _
  rw [Host.reduce_eq_fold_single (max : EReal → EReal → EReal) _ init h' h hu j, hi]
  exact hM

variable (q : Q) (k : K) (v : S2x16640x2x64.Idx → EReal)

local notation "qE" => (fun i => ((q i : ℝ) : EReal))
local notation "kE" => (fun i => ((k i : ℝ) : EReal))

/-! ## Context tokens -/

theorem ctx_score (b h : Fin 2) (g : Fin 4) (s : Fin 256) (κ : Fin 256) :
    val_main_v7 (F := Ideal) qE kE (ix5 b h g s κ) = ((score q k b (s.castLE (by decide)) h g (κ.castLE (by decide)) : ℝ) : EReal) := by
  have hb := b.isLt; have hh := h.isLt; have hg := g.isLt; have hs := s.isLt
  rw [val_main_v7_apply, val_main_v5_apply, val_main_v4_apply, val_main_v6_apply, val_main_cst_apply]
  simp only [val_main_v1_apply, val_main_v3_apply, val_main_v0_apply]
  show (∑ d : Fin 64, ((k _ : ℝ) : EReal) * ((q _ : ℝ) : EReal)) * Ideal.ofBits .f32 0x3E000000#32 = _
  rw [ofBits_eighth]
  simp only [← EReal.coe_mul, coe_sum]
  unfold score
  congr 2
  refine Finset.sum_congr rfl fun d _ => ?_
  have hd := d.isLt
  congr 2
  · funext a
    match a with
    | ⟨0, _⟩ => rfl
    | ⟨1, _⟩ => rfl
    | ⟨2, _⟩ => rfl
    | ⟨3, _⟩ => rfl
  · funext a
    match a with
    | ⟨0, _⟩ => exact Fin.ext (by show ((((b.val * 256 + s.val) * 2 + h.val) * 4 + g.val) * 64 + d.val) / 131072 = b.val; omega)
    | ⟨1, _⟩ => exact Fin.ext (by show ((((b.val * 256 + s.val) * 2 + h.val) * 4 + g.val) * 64 + d.val) / 512 % 256 = s.val; omega)
    | ⟨2, _⟩ => exact Fin.ext (by show ((((b.val * 256 + s.val) * 2 + h.val) * 4 + g.val) * 64 + d.val) / 64 % 8 = 4 * h.val + g.val; omega)
    | ⟨3, _⟩ => exact Fin.ext (by show ((((b.val * 256 + s.val) * 2 + h.val) * 4 + g.val) * 64 + d.val) % 64 = d.val; omega)

/-- The number the scores of a row are lowered by is real. -/
theorem ctx_max (b h : Fin 2) (g : Fin 4) (s : Fin 256) :
    ∃ M : ℝ, val_main_v10 (F := Ideal) qE kE (ix4 b h g s) = (M : EReal) := by
  obtain ⟨M, hM⟩ := rowMax_real (val_main_v7 (F := Ideal) qE kE) (fun i => by rw [eq_ix5 i]; exact ⟨_, ctx_score q k _ _ _ _ _⟩)
    (val_main_cst_0 (F := Ideal)) reducesTo_S2x2x4x256x256_S2x2x4x256_d4 (by decide) h_S_ (by decide)
    (by rw [val_main_cst_0_apply]; exact ofBits_neg_inf) (ix4 b h g s)
  refine ⟨M, ?_⟩
  rw [val_main_v10_apply, val_main_v9_apply, val_main_cst_1_apply]
  show max (Ideal.ofBits .f32 0xFF800000#32) (val_main_v8 (F := Ideal) qE kE (ix4 b h g s)) = _
  rw [ofBits_neg_inf, show val_main_v8 (F := Ideal) qE kE (ix4 b h g s) = (M : EReal) from hM]
  exact max_eq_right bot_le

theorem ctx_exp (b h : Fin 2) (g : Fin 4) (s : Fin 256) (κ : Fin 256) :
    val_main_v14 (F := Ideal) qE kE (ix5 b h g s κ)
      = Ideal.exp (((score q k b (s.castLE (by decide)) h g (κ.castLE (by decide)) : ℝ) : EReal) - val_main_v10 (F := Ideal) qE kE (ix4 b h g s)) := by
  have e : idx_main_v11 (idx_main_v12 (ix5 b h g s κ)) = ix4 b h g s := by
    funext a
    match a with
    | ⟨0, _⟩ => rfl
    | ⟨1, _⟩ => rfl
    | ⟨2, _⟩ => rfl
    | ⟨3, _⟩ => rfl
  rw [val_main_v14_apply, val_main_v13_apply, ctx_score, val_main_v12_apply, val_main_v11_apply, e,
    Ideal.hostUnary_exp_def, Ideal.subf_def]

theorem ctx_total (b h : Fin 2) (g : Fin 4) (s : Fin 256) (κ : Fin 256) :
    val_main_v17 (F := Ideal) qE kE (ix5 b h g s κ)
      = ∑ j : Fin 256, Ideal.exp (((score q k b (s.castLE (by decide)) h g (j.castLE (by decide)) : ℝ) : EReal) - val_main_v10 (F := Ideal) qE kE (ix4 b h g s)) := by
  rw [val_main_v17_apply, val_main_v16_apply, val_main_v15_apply, val_main_cst_2_apply]
  show Ideal.ofBits .f32 0x00000000#32 + _ = _
  rw [Ideal.ofBits_zero_f32, zero_add]
  refine Finset.sum_congr rfl fun j _ => ?_
  have e : idx_main_v15 (idx_main_v16 (idx_main_v17 (ix5 b h g s κ))) j = ix5 b h g s j := by
    funext a
    match a with
    | ⟨0, _⟩ => rfl
    | ⟨1, _⟩ => rfl
    | ⟨2, _⟩ => rfl
    | ⟨3, _⟩ => rfl
    | ⟨4, _⟩ => rfl
  rw [← ctx_exp, e]

/-- Context tokens: the output is the softmax average. -/
theorem ctx_out (b : Fin 2) (s : Fin 256) (h : Fin 2) (g : Fin 4) (d : Fin 64) :
    val_main_v20 (F := Ideal) qE kE v (ix5 b s h g d) = attn q k v 256 (by decide) b (s.castLE (by decide)) h g d := by
  rw [val_main_v20_apply, val_main_v19_apply]
  obtain ⟨M, hM⟩ := ctx_max q k b h g s
  unfold attn
  rw [← shifted _ _ M]
  refine Finset.sum_congr rfl fun κ _ => ?_
  have e : ridx_main_v19 (idx_main_v20 (ix5 b s h g d)) κ = ix5 b h g s κ := by
    funext a
    match a with
    | ⟨0, _⟩ => rfl
    | ⟨1, _⟩ => rfl
    | ⟨2, _⟩ => rfl
    | ⟨3, _⟩ => rfl
    | ⟨4, _⟩ => rfl
  have e' : idx_main_v2 (lidx_main_v19 (idx_main_v20 (ix5 b s h g d)) κ) = ix4 b (κ.castLE (by decide)) h d := by
    funext a
    match a with
    | ⟨0, _⟩ => rfl
    | ⟨1, _⟩ => rfl
    | ⟨2, _⟩ => rfl
    | ⟨3, _⟩ => rfl
  rw [e, val_main_v18_apply, ctx_exp, ctx_total, hM, val_main_v2_apply, e']
  rfl

/-! ## Latent tokens -/

theorem lat_score (b h : Fin 2) (g : Fin 4) (s : Fin 16384) (κ : Fin 16640) :
    val_main_v27 (F := Ideal) qE kE (ix5 b h g s κ) = ((score q k b ⟨256 + s.val, by have := s.isLt; omega⟩ h g κ : ℝ) : EReal) := by
  have hb := b.isLt; have hh := h.isLt; have hg := g.isLt; have hs := s.isLt
  rw [val_main_v27_apply, val_main_v25_apply, val_main_v24_apply, val_main_v26_apply, val_main_cst_3_apply]
  simp only [val_main_v23_apply, val_main_v22_apply]
  show (∑ d : Fin 64, ((k _ : ℝ) : EReal) * ((q _ : ℝ) : EReal)) * Ideal.ofBits .f32 0x3E000000#32 = _
  rw [ofBits_eighth]
  simp only [← EReal.coe_mul, coe_sum]
  unfold score
  congr 2
  refine Finset.sum_congr rfl fun d _ => ?_
  have hd := d.isLt
  congr 2
  · funext a
    match a with
    | ⟨0, _⟩ => rfl
    | ⟨1, _⟩ => rfl
    | ⟨2, _⟩ => rfl
    | ⟨3, _⟩ => rfl
  · funext a
    match a with
    | ⟨0, _⟩ => exact Fin.ext (by show ((((b.val * 16384 + s.val) * 2 + h.val) * 4 + g.val) * 64 + d.val) / 8388608 = b.val; omega)
    | ⟨1, _⟩ => exact Fin.ext (by show 256 + ((((b.val * 16384 + s.val) * 2 + h.val) * 4 + g.val) * 64 + d.val) / 512 % 16384 = 256 + s.val; omega)
    | ⟨2, _⟩ => exact Fin.ext (by show ((((b.val * 16384 + s.val) * 2 + h.val) * 4 + g.val) * 64 + d.val) / 64 % 8 = 4 * h.val + g.val; omega)
    | ⟨3, _⟩ => exact Fin.ext (by show ((((b.val * 16384 + s.val) * 2 + h.val) * 4 + g.val) * 64 + d.val) % 64 = d.val; omega)

/-- The number the scores of a row are lowered by is real. -/
theorem lat_max (b h : Fin 2) (g : Fin 4) (s : Fin 16384) :
    ∃ M : ℝ, val_main_v30 (F := Ideal) qE kE (ix4 b h g s) = (M : EReal) := by
  obtain ⟨M, hM⟩ := rowMax_real (val_main_v27 (F := Ideal) qE kE) (fun i => by rw [eq_ix5 i]; exact ⟨_, lat_score q k _ _ _ _ _⟩)
    (val_main_cst_4 (F := Ideal)) reducesTo_S2x2x4x16384x16640_S2x2x4x16384_d4 (by decide) h_S_ (by decide)
    (by rw [val_main_cst_4_apply]; exact ofBits_neg_inf) (ix4 b h g s)
  refine ⟨M, ?_⟩
  rw [val_main_v30_apply, val_main_v29_apply, val_main_cst_5_apply]
  show max (Ideal.ofBits .f32 0xFF800000#32) (val_main_v28 (F := Ideal) qE kE (ix4 b h g s)) = _
  rw [ofBits_neg_inf, show val_main_v28 (F := Ideal) qE kE (ix4 b h g s) = (M : EReal) from hM]
  exact max_eq_right bot_le

theorem lat_exp (b h : Fin 2) (g : Fin 4) (s : Fin 16384) (κ : Fin 16640) :
    val_main_v34 (F := Ideal) qE kE (ix5 b h g s κ)
      = Ideal.exp (((score q k b ⟨256 + s.val, by have := s.isLt; omega⟩ h g κ : ℝ) : EReal) - val_main_v30 (F := Ideal) qE kE (ix4 b h g s)) := by
  have e : idx_main_v31 (idx_main_v32 (ix5 b h g s κ)) = ix4 b h g s := by
    funext a
    match a with
    | ⟨0, _⟩ => rfl
    | ⟨1, _⟩ => rfl
    | ⟨2, _⟩ => rfl
    | ⟨3, _⟩ => rfl
  rw [val_main_v34_apply, val_main_v33_apply, lat_score, val_main_v32_apply, val_main_v31_apply, e,
    Ideal.hostUnary_exp_def, Ideal.subf_def]

theorem lat_total (b h : Fin 2) (g : Fin 4) (s : Fin 16384) (κ : Fin 16640) :
    val_main_v37 (F := Ideal) qE kE (ix5 b h g s κ)
      = ∑ j : Fin 16640, Ideal.exp (((score q k b ⟨256 + s.val, by have := s.isLt; omega⟩ h g j : ℝ) : EReal) - val_main_v30 (F := Ideal) qE kE (ix4 b h g s)) := by
  rw [val_main_v37_apply, val_main_v36_apply, val_main_v35_apply, val_main_cst_6_apply]
  show Ideal.ofBits .f32 0x00000000#32 + _ = _
  rw [Ideal.ofBits_zero_f32, zero_add]
  refine Finset.sum_congr rfl fun j _ => ?_
  have e : idx_main_v35 (idx_main_v36 (idx_main_v37 (ix5 b h g s κ))) j = ix5 b h g s j := by
    funext a
    match a with
    | ⟨0, _⟩ => rfl
    | ⟨1, _⟩ => rfl
    | ⟨2, _⟩ => rfl
    | ⟨3, _⟩ => rfl
    | ⟨4, _⟩ => rfl
  rw [← lat_exp, e]

/-- Latent tokens: the output is the softmax average. -/
theorem lat_out (b : Fin 2) (s : Fin 16384) (h : Fin 2) (g : Fin 4) (d : Fin 64) :
    val_main_v40 (F := Ideal) qE kE v (ix5 b s h g d) = attn q k v 16640 (by decide) b ⟨256 + s.val, by have := s.isLt; omega⟩ h g d := by
  rw [val_main_v40_apply, val_main_v39_apply]
  obtain ⟨M, hM⟩ := lat_max q k b h g s
  unfold attn
  rw [← shifted _ _ M]
  refine Finset.sum_congr rfl fun κ _ => ?_
  have e : ridx_main_v39 (idx_main_v40 (ix5 b s h g d)) κ = ix5 b h g s κ := by
    funext a
    match a with
    | ⟨0, _⟩ => rfl
    | ⟨1, _⟩ => rfl
    | ⟨2, _⟩ => rfl
    | ⟨3, _⟩ => rfl
    | ⟨4, _⟩ => rfl
  have e' : (lidx_main_v39 (idx_main_v40 (ix5 b s h g d)) κ) = ix4 b κ h d := by
    funext a
    match a with
    | ⟨0, _⟩ => rfl
    | ⟨1, _⟩ => rfl
    | ⟨2, _⟩ => rfl
    | ⟨3, _⟩ => rfl
  rw [e, val_main_v38_apply, lat_exp, lat_total, hM, e']
  rfl

/-! ## The whole result -/

/-- What the reference computes, row `h·256 + g·64 + d` and column `b·16640 + s`. -/
def goal (i : S512x33280.Idx) : EReal :=
  let r : Fin 512 := i 0
  let n : Fin 33280 := i 1
  attn q k v (if n.val % 16640 < 256 then 256 else 16640) (by split <;> decide)
    ⟨n.val / 16640, by omega⟩ ⟨n.val % 16640, by omega⟩ ⟨r.val / 256, by omega⟩ ⟨r.val / 64 % 4, by omega⟩ ⟨r.val % 64, by omega⟩

theorem attn_congr {n n' : ℕ} (hn : n ≤ 16640) (hn' : n' ≤ 16640) (e : n = n') {b b' : Fin 2} (eb : b = b') {s s' : Fin 16640} (es : s = s')
    {h h' : Fin 2} (eh : h = h') {g g' : Fin 4} (eg : g = g') {d d' : Fin 64} (ed : d = d') :
    attn q k v n hn b s h g d = attn q k v n' hn' b' s' h' g' d' := by
  subst e eb es eh eg ed; rfl

theorem result (i : S512x33280.Idx) : val_main_v45 (F := Ideal) qE kE v i = goal q k v i := by
  obtain ⟨r, n, rfl⟩ : ∃ (r : Fin 512) (n : Fin 33280), i = ix2 r n := ⟨i 0, i 1, eq_ix2 i⟩
  have hr := r.isLt; have hn := n.isLt
  rw [val_main_v45_apply]
  show val_main_v44 (F := Ideal) qE kE v (ix2 r n) = _
  rw [val_main_v44_apply, val_main_v43_apply]
  have e : idx_main_v43 (idx_main_v44 (ix2 r n)) = ix3 (⟨n.val / 16640, by omega⟩ : Fin 2) (⟨n.val % 16640, by omega⟩ : Fin 16640) r := by
    funext a
    match a with
    | ⟨0, _⟩ => exact Fin.ext (by show (n.val * 512 + r.val) / 8519680 = n.val / 16640; omega)
    | ⟨1, _⟩ => exact Fin.ext (by show (n.val * 512 + r.val) / 512 % 16640 = n.val % 16640; omega)
    | ⟨2, _⟩ => exact Fin.ext (by show (n.val * 512 + r.val) % 512 = r.val; omega)
  rw [e]
  unfold val_main_v42
  by_cases hc : n.val % 16640 < 256
  · rw [concatenate_pair_apply_left (t := S2x16640x512) (s₁ := S2x256x512) (s₂ := S2x16384x512) 1 _ _ _ _ rfl (ix3 (⟨n.val / 16640, by omega⟩ : Fin 2) (⟨n.val % 16640, hc⟩ : Fin 256) r)
      (fun b => by match b with | ⟨0, _⟩ => rfl | ⟨1, _⟩ => rfl | ⟨2, _⟩ => rfl), val_main_v21_apply]
    have e' : idx_main_v21 (ix3 (⟨n.val / 16640, by omega⟩ : Fin 2) (⟨n.val % 16640, hc⟩ : Fin 256) r)
        = ix5 (⟨n.val / 16640, by omega⟩ : Fin 2) (⟨n.val % 16640, hc⟩ : Fin 256) (⟨r.val / 256, by omega⟩ : Fin 2) (⟨r.val / 64 % 4, by omega⟩ : Fin 4) (⟨r.val % 64, by omega⟩ : Fin 64) := by
      funext a
      match a with
      | ⟨0, _⟩ => exact Fin.ext (by show ((n.val / 16640 * 256 + n.val % 16640) * 512 + r.val) / 131072 = n.val / 16640; omega)
      | ⟨1, _⟩ => exact Fin.ext (by show ((n.val / 16640 * 256 + n.val % 16640) * 512 + r.val) / 512 % 256 = n.val % 16640; omega)
      | ⟨2, _⟩ => exact Fin.ext (by show ((n.val / 16640 * 256 + n.val % 16640) * 512 + r.val) / 256 % 2 = r.val / 256; omega)
      | ⟨3, _⟩ => exact Fin.ext (by show ((n.val / 16640 * 256 + n.val % 16640) * 512 + r.val) / 64 % 4 = r.val / 64 % 4; omega)
      | ⟨4, _⟩ => exact Fin.ext (by show ((n.val / 16640 * 256 + n.val % 16640) * 512 + r.val) % 64 = r.val % 64; omega)
    rw [e', ctx_out]
    exact attn_congr q k v _ _ (if_pos hc).symm rfl rfl rfl rfl rfl
  · rw [concatenate_pair_apply_right (t := S2x16640x512) (s₁ := S2x256x512) (s₂ := S2x16384x512) 1 _ _ _ _ rfl rfl (ix3 (⟨n.val / 16640, by omega⟩ : Fin 2) (⟨n.val % 16640 - 256, by omega⟩ : Fin 16384) r)
      (fun b hb => by match b, hb with | ⟨0, _⟩, _ => rfl | ⟨1, _⟩, hb => exact absurd rfl hb | ⟨2, _⟩, _ => rfl)
      (by show n.val % 16640 - 256 + 256 = n.val % 16640; omega), val_main_v41_apply]
    have e' : idx_main_v41 (ix3 (⟨n.val / 16640, by omega⟩ : Fin 2) (⟨n.val % 16640 - 256, by omega⟩ : Fin 16384) r)
        = ix5 (⟨n.val / 16640, by omega⟩ : Fin 2) (⟨n.val % 16640 - 256, by omega⟩ : Fin 16384) (⟨r.val / 256, by omega⟩ : Fin 2) (⟨r.val / 64 % 4, by omega⟩ : Fin 4) (⟨r.val % 64, by omega⟩ : Fin 64) := by
      funext a
      match a with
      | ⟨0, _⟩ => exact Fin.ext (by show ((n.val / 16640 * 16384 + (n.val % 16640 - 256)) * 512 + r.val) / 8388608 = n.val / 16640; omega)
      | ⟨1, _⟩ => exact Fin.ext (by show ((n.val / 16640 * 16384 + (n.val % 16640 - 256)) * 512 + r.val) / 512 % 16384 = n.val % 16640 - 256; omega)
      | ⟨2, _⟩ => exact Fin.ext (by show ((n.val / 16640 * 16384 + (n.val % 16640 - 256)) * 512 + r.val) / 256 % 2 = r.val / 256; omega)
      | ⟨3, _⟩ => exact Fin.ext (by show ((n.val / 16640 * 16384 + (n.val % 16640 - 256)) * 512 + r.val) / 64 % 4 = r.val / 64 % 4; omega)
      | ⟨4, _⟩ => exact Fin.ext (by show ((n.val / 16640 * 16384 + (n.val % 16640 - 256)) * 512 + r.val) % 64 = r.val % 64; omega)
    rw [e', lat_out]
    exact attn_congr q k v _ _ (if_neg hc).symm rfl (Fin.ext (by show 256 + (n.val % 16640 - 256) = n.val % 16640; omega)) rfl rfl rfl

end Cert.AttRef

end
-- ==== Proof.Attention.Entry.lean ====
/- The arrays that the attention works on, from the arguments: the queries scaled by an eighth over the logarithm of two and
   laid head by head along the rows, the keys head by head, and the values head by head along the rows with ones below them. -/
module

public import proofs.«01_k».proof.Proof.Attention.Gather
public import proofs.«01_k».proof.Proof.Attention.Ref
public import Idealize.ShloMosaic.Lib.StableHlo.ReadAt

@[expose] public section

set_option maxRecDepth 16384

noncomputable section

namespace Cert.KernelIdeal.Att

open Cert.KernelIdeal.Gen
open Idealize.ShloMosaic Idealize.ShloMosaic.TcCoe Idealize.ShloMosaic.Tactic
open Cert.AttRef Cert.SoftmaxAvg

variable (m : (ℓ : Loc nD τ sig) → Buf (Elt Ideal) ℓ)

/-- The queries, keys and values as launched. -/
abbrev argQ (c : Dev nD) : S2x16640x8x64.Idx → EReal := m ((c : Thread nD τ).loc main_arg0)
abbrev argK (c : Dev nD) : S2x16640x2x64.Idx → EReal := m ((c : Thread nD τ).loc main_arg1)
abbrev argV (c : Dev nD) : S2x16640x2x64.Idx → EReal := m ((c : Thread nD τ).loc main_arg2)

/-- The queries as the attention reads them. -/
abbrev arrQ (c : Dev nD) : S512x33280.Idx → EReal := V m c main_v7

theorem ofBits_two : Ideal.ofBits .f32 0x40000000#32 = ((2 : ℝ) : EReal) := by
  simp [Ideal.ofBits, Ideal.ieee, -EReal.coe_mul]; norm_num

theorem arrQ_apply (c : Dev nD) (y : S512x33280.Idx) (q : ℝ)
    (hq : argQ m c (ix4 ⟨(y 1).val / 16640, by have h : (y 1).val < 33280 := (y 1).isLt; omega⟩ ⟨(y 1).val % 16640, by omega⟩
      ⟨(y 0).val / 64, by have h : (y 0).val < 512 := (y 0).isLt; omega⟩ ⟨(y 0).val % 64, by omega⟩) = (q : EReal)) :
    arrQ m c y = ((q * (1 / 8) / Real.log 2 : ℝ) : EReal) := by
  have h2 : Real.log 2 ≠ 0 := (Real.log_pos (by norm_num)).ne'
  have e : Ideal.div (argQ m c (ix4 ⟨(y 1).val / 16640, by have h : (y 1).val < 33280 := (y 1).isLt; omega⟩ ⟨(y 1).val % 16640, by omega⟩
      ⟨(y 0).val / 64, by have h : (y 0).val < 512 := (y 0).isLt; omega⟩ ⟨(y 0).val % 64, by omega⟩) * Ideal.ofBits .f32 0x3E000000#32)
      (Ideal.log (Ideal.ofBits .f32 0x40000000#32)) = ((q * (1 / 8) / Real.log 2 : ℝ) : EReal) := by
    rw [hq, ofBits_eighth, ofBits_two, Ideal.log_coe, if_neg (by norm_num), Ideal.div_coe h2, ← EReal.coe_mul, ← EReal.coe_mul]
    congr 1
    ring
  rw [← e]
  show V m c main_v7 y = _
  entry_read
  pointwise

theorem arrK_apply (c : Dev nD) (y : S2x33280x64.Idx) :
    arrK m c y = argK m c (ix4 ⟨(y 1).val / 16640, by have h : (y 1).val < 33280 := (y 1).isLt; omega⟩ ⟨(y 1).val % 16640, by omega⟩ (y 0) (y 2)) := by
  show V m c main_v10 y = _
  entry_read
  pointwise

theorem arrV_apply (c : Dev nD) (y : S2x80x33280.Idx) :
    arrV m c y = if h : (y 1).val < 64 then
      argV m c (ix4 ⟨(y 2).val / 16640, by have h : (y 2).val < 33280 := (y 2).isLt; omega⟩ ⟨(y 2).val % 16640, by omega⟩ (y 0) ⟨(y 1).val, h⟩)
      else 1 := by
  show V m c main_v15 y = _
  entry_read
  pointwise

end Cert.KernelIdeal.Att

end
-- ==== Proof.Attention.Tile.lean ====
/- The output block of a tile is the attention of the tile's queries: over the context keys for the context tile, over all keys
   of the batch entry for the others. -/
module

public import proofs.«01_k».proof.Proof.Attention.Entry

@[expose] public section

set_option maxRecDepth 16384

noncomputable section

namespace Cert.KernelIdeal.Att

open Cert.KernelIdeal.Gen
open Idealize.ShloMosaic Idealize.ShloMosaic.TcCoe Idealize.ShloMosaic.Tactic
open Cert.AttRef Cert.SoftmaxAvg

variable (m : (ℓ : Loc nD τ sig) → Buf (Elt Ideal) ℓ)

/-- The exponent of key `κ` in a tile's lane: its scaled score over the logarithm of two. -/
theorem exponent (c : Dev nD) (q : Q) (k : K) (hq : argQ m c = fun i => (q i : EReal)) (hk : argK m c = fun i => (k i : EReal))
    (T : ℕ) (hT : T < 260) (l : Fin 1024) (κ : ℕ) (hκ : κ < 16640) :
    (∑ d : Fin 64, arrK m c (ix3 ⟨T / 65 % 2, by omega⟩ ⟨(T / 130 * 16640 + κ) % 33280, by omega⟩ d)
        * (show EReal from spread m c T (ix2 d l)))
      = ((score q k ⟨T / 130, by omega⟩ ⟨T % 65 * 256 + l.val % 256, by omega⟩ ⟨T / 65 % 2, by omega⟩ ⟨l.val / 256, by omega⟩ ⟨κ, hκ⟩
          / Real.log 2 : ℝ) : EReal) := by
  have hl := l.isLt
  unfold score
  rw [Finset.sum_mul, Finset.sum_div, ← coe_sum]
  refine Finset.sum_congr rfl fun d _ => ?_
  have hd := d.isLt
  have e0 : arrQ m c (ix2 ⟨(T / 65 % 2) * 256 + (64 * (l.val / 256) + d.val), by omega⟩ ⟨((T / 130 * 65 + T % 65) * 256 + l.val % 256) % 33280, by omega⟩)
      = ((q (ix4 ⟨T / 130, by omega⟩ ⟨T % 65 * 256 + l.val % 256, by omega⟩ ⟨4 * (T / 65 % 2) + l.val / 256, by omega⟩ d) * (1 / 8) / Real.log 2 : ℝ) : EReal) := by
    refine arrQ_apply m c _ _ ?_
    rw [hq]
    refine congrArg (fun i => ((q i : ℝ) : EReal)) (funext fun a => Fin.ext ?_)
    match a with
    | ⟨0, _⟩ => show ((T / 130 * 65 + T % 65) * 256 + l.val % 256) % 33280 / 16640 = T / 130; omega
    | ⟨1, _⟩ => show ((T / 130 * 65 + T % 65) * 256 + l.val % 256) % 33280 % 16640 = T % 65 * 256 + l.val % 256; omega
    | ⟨2, _⟩ => show ((T / 65 % 2) * 256 + (64 * (l.val / 256) + d.val)) / 64 = 4 * (T / 65 % 2) + l.val / 256; omega
    | ⟨3, _⟩ => show ((T / 65 % 2) * 256 + (64 * (l.val / 256) + d.val)) % 64 = d.val; omega
  have e1 : arrK m c (ix3 ⟨T / 65 % 2, by omega⟩ ⟨(T / 130 * 16640 + κ) % 33280, by omega⟩ d)
      = ((k (ix4 ⟨T / 130, by omega⟩ ⟨κ, hκ⟩ ⟨T / 65 % 2, by omega⟩ d) : ℝ) : EReal) := by
    rw [arrK_apply, hk]
    refine congrArg (fun i => ((k i : ℝ) : EReal)) (funext fun a => Fin.ext ?_)
    match a with
    | ⟨0, _⟩ => show (T / 130 * 16640 + κ) % 33280 / 16640 = T / 130; omega
    | ⟨1, _⟩ => show (T / 130 * 16640 + κ) % 33280 % 16640 = κ; omega
    | ⟨2, _⟩ => rfl
    | ⟨3, _⟩ => rfl
  refine (congrArg₂ (· * ·) e1 e0).trans ?_
  rw [← EReal.coe_mul]
  refine congrArg _ ?_
  show k (ix4 _ _ _ _) * (q (ix4 _ _ _ _) * (1 / 8) / Real.log 2) = k (ix4 _ _ _ _) * q (ix4 _ _ _ _) * (1 / 8) / Real.log 2
  ring

/-- A value row of the terms. -/
theorem value_row (c : Dev nD) (T : ℕ) (hT : T < 260) (r : Fin 80) (hr : r.val < 64) (κ : ℕ) (hκ : κ < 16640) :
    arrV m c (ix3 ⟨T / 65 % 2, by omega⟩ r ⟨(T / 130 * 16640 + κ) % 33280, by omega⟩)
      = argV m c (ix4 ⟨T / 130, by omega⟩ ⟨κ, hκ⟩ ⟨T / 65 % 2, by omega⟩ ⟨r.val, hr⟩) := by
  rw [arrV_apply]
  refine (dif_pos hr).trans (congrArg (argV m c) (funext fun a => Fin.ext ?_))
  match a with
  | ⟨0, _⟩ => show (T / 130 * 16640 + κ) % 33280 / 16640 = T / 130; omega
  | ⟨1, _⟩ => show (T / 130 * 16640 + κ) % 33280 % 16640 = κ; omega
  | ⟨2, _⟩ => rfl
  | ⟨3, _⟩ => rfl

/-- The row of ones. -/
theorem ones_row (c : Dev nD) (h : Fin 2) (n : Fin 33280) : arrV m c (ix3 h 64 n) = 1 := by
  rw [arrV_apply]
  exact dif_neg (show ¬(64 : ℕ) < 64 by decide)

/-- The quotient of the two sums over the first `n` keys is the attention over them. -/
theorem quotient (c : Dev nD) (q : Q) (k : K) (hq : argQ m c = fun i => (q i : EReal)) (hk : argK m c = fun i => (k i : EReal))
    (T : ℕ) (hT : T < 260) (r : Fin 80) (hr : r.val < 64) (l : Fin 1024) (n : ℕ) (hn : n ≤ 16640) (hn0 : 0 < n) :
    Ideal.div (∑ κ ∈ Finset.range n, term m c T (ix2 r l) κ) (∑ κ ∈ Finset.range n, term m c T (ix2 64 l) κ)
      = attn q k (argV m c) n hn ⟨T / 130, by omega⟩ ⟨T % 65 * 256 + l.val % 256, by omega⟩ ⟨T / 65 % 2, by omega⟩
          ⟨l.val / 256, by omega⟩ ⟨r.val, hr⟩ := by
  haveI : Nonempty (Fin n) := ⟨⟨0, hn0⟩⟩
  rw [attn, ← powers, Finset.sum_range, Finset.sum_range]
  refine congrArg₂ Ideal.div (Finset.sum_congr rfl fun κ _ => ?_) (Finset.sum_congr rfl fun κ _ => ?_)
  · have hκ : κ.val < 16640 := Nat.lt_of_lt_of_le κ.isLt hn
    exact congrArg₂ (· * ·) (value_row m c T hT r hr κ.val hκ) (congrArg Ideal.exp2 (exponent m c q k hq hk T hT l κ.val hκ))
  · have hκ : κ.val < 16640 := Nat.lt_of_lt_of_le κ.isLt hn
    exact congrArg₂ (· * ·) (ones_row m c _ _) (congrArg Ideal.exp2 (exponent m c q k hq hk T hT l κ.val hκ))

/-- What a tile writes back is the goal at the tile's place. -/
theorem outAt_goal (c : Dev nD) (q : Q) (k : K) (hq : argQ m c = fun i => (q i : EReal)) (hk : argK m c = fun i => (k i : EReal))
    (t : Fin cfg0.N) (h4 : t.val % 5 = 4) (y : S256x256.Idx) (i : S512x33280.Idx)
    (hi0 : (i 0).val = (t.val / 5 / 65 % 2) * 256 + (y 0).val)
    (hi1 : (i 1).val = (t.val / 5 / 130 * 65 + t.val / 5 % 65) * 256 + (y 1).val) :
    outAt m c t y = goal q k (argV m c) i := by
  have ht : t.val < 1300 := t.isLt
  have h0 : (y 0).val < 256 := (y 0).isLt
  have h1 : (y 1).val < 256 := (y 1).isLt
  refine (outAt_last m c t h4 y).trans ((quotient m c q k hq hk (t.val / 5) (by omega) _ (by show (y 0).val % 64 < 64; omega) _ _
    (by split <;> decide) (by split <;> decide)).trans ?_)
  unfold goal
  refine attn_congr q k (argV m c) _ _ ?_ (Fin.ext ?_) (Fin.ext ?_) (Fin.ext ?_) (Fin.ext ?_) (Fin.ext ?_)
  · show _ = if (i 1).val % 16640 < 256 then 256 else 16640
    rw [hi1]
    by_cases h : t.val / 5 % 65 = 0
    · rw [if_pos h, if_pos (by omega)]
    · rw [if_neg h, if_neg (by omega)]
  · show t.val / 5 / 130 = (i 1).val / 16640; omega
  · show t.val / 5 % 65 * 256 + (256 * ((y 0).val / 64) + (y 1).val) % 256 = (i 1).val % 16640; omega
  · show t.val / 5 / 65 % 2 = (i 0).val / 256; omega
  · show (256 * ((y 0).val / 64) + (y 1).val) / 256 = (i 0).val / 64 % 4; omega
  · show (y 0).val % 64 = (i 0).val % 64; omega

end Cert.KernelIdeal.Att

end
-- ==== Proof.Attention.Result.lean ====
/- The kernel's result array: the attention at every place, when queries and keys are real. -/
module

public import proofs.«01_k».proof.Proof.Attention.Tile
public import proofs.«01_k».proof.Proof.Attention.Frame
public import proofs.«01_k».proof.Defs
public import proofs.«01_k».proof.Proof.Gen.ReferenceIdeal.Run
public import proofs.«01_k».proof.Proof.Gen.Pre_finite_qk
public import Idealize.ShloMosaic.Lib.ReduceAll
public import Idealize.ShloMosaic.Lib.Claim

@[expose] public section

set_option maxRecDepth 16384

noncomputable section

namespace Cert.KernelIdeal.Att

open Cert.KernelIdeal.Gen
open Idealize.ShloMosaic Idealize.ShloMosaic.TcCoe Idealize.ShloMosaic.Tactic Idealize.SL.Sem
open Cert.AttRef Cert.SoftmaxAvg

variable (m : (ℓ : Loc nD τ sig) → Buf (Elt Ideal) ℓ)

/-- The array after the run: every block that is written back is the goal there, and the blocks cover the array. -/
theorem arr_goal (c : Dev nD) (q : Q) (k : K) (hq : argQ m c = fun i => (q i : EReal)) (hk : argK m c = fun i => (k i : EReal)) :
    (dats m 0 c).arrAt 3 (cfgs 0).N = goal q k (argV m c) := by
  refine (dats m 0 c).arrAt_eq_of_covers 3 _ (by decide +kernel) fun t hf y => ?_
  have h4 : t.val % 5 = 4 := (flush0_3 t).mp hf
  blk_simp
  rw [after0_3]
  refine outAt_goal m c q k hq hk t h4 y _ ?_ ?_ <;> blk_simp [idx3 t]

theorem ofBits_inf : Ideal.ofBits .f32 0x7F800000#32 = ⊤ := by
  simp [Ideal.ofBits, Ideal.ieee]

/-- A comparison of a magnitude with infinity, as the precondition makes it, says that the number is real. -/
theorem real_of_cmp (x : EReal) (e : Ideal.cmp .olt (max x (-x)) (Ideal.ofBits .f32 0x7F800000#32) = 1) : ∃ r : ℝ, x = (r : EReal) := by
  rw [ofBits_inf] at e
  exact real_of_abs_lt _ ((Ideal.cmp_olt_eq_one _ _).mp e)

/-- The precondition says that queries and keys are real. -/
theorem real_of_pre (h : Cert.Pre_KernelIdeal_finite_qk m) (c : Dev nD) :
    (∃ q : Q, argQ m c = fun i => (q i : EReal)) ∧ (∃ k : K, argK m c = fun i => (k i : EReal)) := by
  have e := congrFun (h c) (fun a => a.elim0)
  obtain ⟨e0, e1⟩ := IntOp.andi_eq_one.mp e
  refine ⟨?_, ?_⟩
  · have hr : ∀ i, ∃ r : ℝ, argQ m c i = (r : EReal) := fun i =>
      real_of_cmp (argQ m c i) (Host.reduce_andi_all _ _ _ _ _ e0 i)
    choose q hq using hr
    exact ⟨q, funext hq⟩
  · have hr : ∀ i, ∃ r : ℝ, argK m c i = (r : EReal) := fun i =>
      real_of_cmp (argK m c i) (Host.reduce_andi_all _ _ _ _ _ e1 i)
    choose k hk using hr
    exact ⟨k, funext hk⟩

end Cert.KernelIdeal.Att

namespace Cert.Proof

open Idealize.ShloMosaic Idealize.ShloMosaic.TcCoe Idealize.ShloMosaic.Tactic Idealize.SL.Sem

/-- The kernel and the reference agree over the reals. -/
theorem algebraic : Cert.algebraic_KernelIdeal_ReferenceIdeal_pre_finite_qk := by
  pair_intro
  · run_from Cert.KernelIdeal.Att.run_main m g
  · run_from Cert.ReferenceIdeal.Value.run m' g'
    obtain ⟨⟨q, hq⟩, ⟨k, hk⟩⟩ := Cert.KernelIdeal.Att.real_of_pre m hpre c
    rw [Cert.KernelIdeal.Att.arr_goal m c q k hq hk, Cert.ReferenceIdeal.Read.val_main_v45_eq]
    obtain ⟨h0, h1, h2⟩ := hagree c
    rw [h0, h1, h2]
    funext i
    have := Cert.AttRef.result q k (Cert.KernelIdeal.Att.argV m c) i
    rw [← hq, ← hk] at this
    exact this

/-- The reference runs and keeps its arguments; it has no counter. -/
theorem frameRef : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Projection.Bits.lean ====
/- The projection over the machine's floats is the same text as the projection over the ideal floats, so its frame is the same. -/
module

public import proofs.«01_k».proof.Proof.Gen.Kernel2Ideal.Frame
public import proofs.«01_k».proof.Proof.Gen.Kernel2
public import proofs.«01_k».proof.Defs

@[expose] public section

set_option maxRecDepth 16384

noncomputable section

namespace Cert.Kernel2.Proj

open Idealize.ShloMosaic Idealize.ShloMosaic.TcCoe Idealize.SL.Sem
open Cert.Kernel2 Cert.Kernel2.Gen

/-- The two body tables hold the same body. -/
theorem defs0_eq : (defs₀ (F := Bits)) = Cert.Kernel2Ideal.defs₀ (F := Bits) := by
  refine congrArg Defs.onTc (funext fun l => ?_)
  match l with
  | ⟨0, _⟩ => exact funext fun a => rfl

/-- The two tables of the regions' bodies are the same. -/
theorem defs_eq : (defs (F := Bits)) = Cert.Kernel2Ideal.defs (F := Bits) :=
  congrArg (Pipeline.defs (pcfgs (F := Bits))) defs0_eq

/-- So the runs are the same. -/
theorem run_eq (s) (Q) : θ_run (defs (F := Bits)) (onTc (τ := τ) (main (F := Bits))) s Q
    = θ_run (Cert.Kernel2Ideal.defs (F := Bits)) (onTc (τ := Cert.Kernel2Ideal.τ) (Cert.Kernel2Ideal.main (F := Bits))) s Q :=
  congrArg (fun D => θ_run D (onTc (τ := τ) (main (F := Bits))) s Q) defs_eq

/-- The projection's frame. -/
theorem frame : Cert.quiescent_Kernel2 := fun m ρ _ => (run_eq _ _).mpr (Cert.Kernel2Ideal.Gen.frame (F := Bits) m ρ)

end Cert.Kernel2.Proj

end
-- ==== Proof.Projection.Steps.lean ====
/- What a grid point of the projection computes: the normed and modulated rows at the first column block, their product with
   the column block at every one. -/
module

public import proofs.«01_k».proof.Proof.Gen.Kernel2Ideal.Frame
public import Idealize.ShloMosaic.Lib.Pipeline.ReadBack
public import Idealize.ShloMosaic.Lib.Pipeline.ValueKit
public import Idealize.ShloMosaic.Lib.Pipeline.Value

@[expose] public section

set_option maxRecDepth 16384

noncomputable section

namespace Cert.Kernel2Ideal.Proj

open Cert.Kernel2Ideal.Gen
open Idealize.ShloMosaic Idealize.ShloMosaic.TcCoe Idealize.ShloMosaic.Tactic

variable {F : FTy → Type} [FloatOps F]

/-- The rows of a block after the norm and the modulation. -/
def rowsOf (a : BitVec 32) (x0 : Vec F S1280x1024 .f32) (x1 : Vec F S1x2x6x1024 .f32) (x2 : Vec F S1x1024 .f32) : FVec F S1280x1024 .bf16 :=
  k0_pay1 (k0_pay3 x0 x2) (k0_pay4 a)
    (k0_pay5 (View.ld x1 (Rect.unit ![0, 0, 0, 0] ![1, 1, 1, 1024] inb_S1x2x6x1024_S1x1x1x1024_0_0_0_0)))
    (k0_pay6 (View.ld x1 (Rect.unit ![0, 1, 0, 0] ![1, 1, 1, 1024] inb_S1x2x6x1024_S1x1x1x1024_0_1_0_0)))
    (k0_pay7 a)
    (View.ld x1 (Rect.unit ![0, 0, 1, 0] ![1, 1, 1, 1024] inb_S1x2x6x1024_S1x1x1x1024_0_0_1_0))
    (View.ld x1 (Rect.unit ![0, 1, 1, 0] ![1, 1, 1, 1024] inb_S1x2x6x1024_S1x1x1x1024_0_1_1_0))

/-- At a first column block the rows are left in the scratch. -/
theorem rows_A (c : Dev nD) (i : grid0.Coords) (arg2 : Memref sig .tc .vmem S1280x1024 .f32) (harg2 : arg2.IsWhole) (arg3 : Memref sig .tc .vmem S1x2x6x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1280x512 .bf16) (harg6 : arg6.IsWhole) (arg7 : Memref sig .tc .vmem S1280x1024 .bf16) (harg7 : arg7.IsWhole) (hc0 : cond0_0 i)
    (x0 : Vec F S1280x1024 .f32) (x1 : Vec F S1x2x6x1024 .f32) (x2 : Vec F S1x1024 .f32) (x3 : Vec F S1024x512 .bf16) :
    sout0_A_0 c i arg2 harg2 arg3 harg3 arg4 harg4 arg5 harg5 arg6 harg6 arg7 harg7 hc0 x0 x1 x2 x3 = rowsOf (BitVec.ofNat 32 (i 0).val) x0 x1 x2 := by
  unfold sout0_A_0
  frame_open
  simp (disch := decide) only [↓ View.readCov_skip, ↓ View.readCov_cons_toLoadRect, ↓ View.readCov_fill]
  frame_out [rowsOf]

/-- and their product with the column block is written. -/
theorem out_A (c : Dev nD) (i : grid0.Coords) (arg2 : Memref sig .tc .vmem S1280x1024 .f32) (harg2 : arg2.IsWhole) (arg3 : Memref sig .tc .vmem S1x2x6x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1280x512 .bf16) (harg6 : arg6.IsWhole) (arg7 : Memref sig .tc .vmem S1280x1024 .bf16) (harg7 : arg7.IsWhole) (hc0 : cond0_0 i)
    (x0 : Vec F S1280x1024 .f32) (x1 : Vec F S1x2x6x1024 .f32) (x2 : Vec F S1x1024 .f32) (x3 : Vec F S1024x512 .bf16) :
    out0_A_4 c i arg2 harg2 arg3 harg3 arg4 harg4 arg5 harg5 arg6 harg6 arg7 harg7 hc0 x0 x1 x2 x3 = k0_pay2 (rowsOf (BitVec.ofNat 32 (i 0).val) x0 x1 x2) x3 := by
  unfold out0_A_4
  frame_open
  simp (disch := decide) only [↓ View.readCov_skip, ↓ View.readCov_cons_toLoadRect, ↓ View.readCov_fill]
  frame_out [rowsOf]

/-- At another column block it is the product with the rows that the scratch holds. -/
theorem out_B (c : Dev nD) (i : grid0.Coords) (arg2 : Memref sig .tc .vmem S1280x1024 .f32) (harg2 : arg2.IsWhole) (arg3 : Memref sig .tc .vmem S1x2x6x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1280x512 .bf16) (harg6 : arg6.IsWhole) (arg7 : Memref sig .tc .vmem S1280x1024 .bf16) (harg7 : arg7.IsWhole) (hc0 : ¬cond0_0 i)
    (x0 : Vec F S1280x1024 .f32) (x1 : Vec F S1x2x6x1024 .f32) (x2 : Vec F S1x1024 .f32) (x3 : Vec F S1024x512 .bf16) (xs0 : Vec F S1280x1024 .bf16) :
    out0_B_4 c i arg2 harg2 arg3 harg3 arg4 harg4 arg5 harg5 arg6 harg6 arg7 harg7 hc0 x0 x1 x2 x3 xs0 = k0_pay2 xs0 x3 := by
  unfold out0_B_4
  frame_open
  simp (disch := decide) only [↓ View.readCov_skip, ↓ View.readCov_cons_toLoadRect, ↓ View.readCov_fill]
  frame_out

end Cert.Kernel2Ideal.Proj

end
-- ==== Proof.Projection.Ref.lean ====
/- The reference's result at an index: the normed and modulated row of a token times a column of the weights. -/
module

public import proofs.«01_k».proof.Proof.Gen.Reference2Ideal.Read
public import Idealize.ShloMosaic.PureOps.Reduce
public import Idealize.ShloMosaic.Lib.Pipeline.Value
public import Idealize.ShloMosaic.Lib.IdealHost
public import Idealize.ShloMosaic.Lib.Pipeline.ValueKit
public import Idealize.ShloMosaic.Lib.Pointwise

@[expose] public section

set_option maxRecDepth 16384

noncomputable section

namespace Cert.ProjRef

open Cert.Reference2Ideal Cert.Reference2Ideal.Read
open Idealize.ShloMosaic Idealize.ShloMosaic.TcCoe Idealize.ShloMosaic.Tactic

/-- A row after the norm with weights `g` and the modulation by `sc` and `sh`. -/
def row (r g sc sh : Fin 1024 → EReal) (d : Fin 1024) : EReal :=
  r d * Ideal.rsqrt (Ideal.div (∑ e, r e * r e) (Ideal.ofBits .f32 0x44800000#32) + Ideal.ofBits .f32 0x358637BD#32) * g d
    * (Ideal.ofBits .f32 0x3F800000#32 + sc d) + sh d

variable (x : S2x16384x1024.Idx → EReal) (ctx : S2x256x1024.Idx → EReal) (mods : S2x2x6x1024.Idx → EReal) (g : S1024.Idx → EReal)
  (w : S1024x7936.Idx → EReal)

/-- The row of token `s` of batch entry `b`: a context token up to 256, then the latent tokens. -/
def token (b : Fin 2) (s : Fin 16640) (d : Fin 1024) : EReal :=
  if h : s.val < 256 then ctx (ix3 b ⟨s.val, h⟩ d) else x (ix3 b ⟨s.val - 256, by omega⟩ d)

/-- Which of the two sets of vectors modulates it. -/
def which (s : Fin 16640) : Fin 2 := if s.val < 256 then 0 else 1

/-- Token `s` of batch entry `b` projected to column `c`. -/
def proj (b : Fin 2) (s : Fin 16640) (c : Fin 7936) : EReal :=
  ∑ d : Fin 1024, row (token x ctx b s) (fun d => g (ix1 d)) (fun d => mods (ix4 b (which s) 1 d)) (fun d => mods (ix4 b (which s) 0 d)) d
    * w (ix2 d c)

/-- What the reference computes: the gates' columns, the others, and zeros. -/
def goal (i : S33280x8192.Idx) : EReal :=
  let n : Fin 33280 := i 0
  let c : Fin 8192 := i 1
  if h : c.val < 3072 then proj x ctx mods g w ⟨n.val / 16640, by omega⟩ ⟨n.val % 16640, by omega⟩ ⟨c.val + 4864, by omega⟩
  else if h' : c.val < 7936 then proj x ctx mods g w ⟨n.val / 16640, by omega⟩ ⟨n.val % 16640, by omega⟩ ⟨c.val - 3072, by omega⟩
  else 0

theorem lat (b : Fin 2) (s : Fin 16384) (c : Fin 7936) :
    val_main_v31 (F := Ideal) x mods g w (ix3 b s c) = ∑ d : Fin 1024, row (fun d => x (ix3 b s d)) (fun d => g (ix1 d)) (fun d => mods (ix4 b 1 1 d)) (fun d => mods (ix4 b 1 0 d)) d
    * w (ix2 d c) := by
  unfold row
  pointwise [val_main_v31, val_main_v30, val_main_v29, val_main_v28, val_main_v27, val_main_v26, val_main_v25, val_main_cst_2, val_main_v24, val_main_v23, val_main_v22, val_main_v21, val_main_v20, val_main_v19, val_main_v18, val_main_v17, val_main_v16, val_main_v15, val_main_v14, val_main_v13, val_main_v12, val_main_cst, val_main_cst_0, val_main_cst_1, val_main_v11, val_main_v10, val_main_v9, val_main_v8, val_main_v7, val_main_v6]

theorem con (b : Fin 2) (s : Fin 256) (c : Fin 7936) :
    val_main_v51 (F := Ideal) ctx mods g w (ix3 b s c) = ∑ d : Fin 1024, row (fun d => ctx (ix3 b s d)) (fun d => g (ix1 d)) (fun d => mods (ix4 b 0 1 d)) (fun d => mods (ix4 b 0 0 d)) d
    * w (ix2 d c) := by
  unfold row
  pointwise [val_main_v51, val_main_v50, val_main_v49, val_main_v48, val_main_v47, val_main_v46, val_main_v45, val_main_cst_6, val_main_v44, val_main_v43, val_main_v42, val_main_v41, val_main_v40, val_main_v39, val_main_v38, val_main_v37, val_main_v36, val_main_v35, val_main_v34, val_main_v33, val_main_v32, val_main_cst_3, val_main_cst_4, val_main_cst_5, val_main_v5, val_main_v4, val_main_v3, val_main_v2, val_main_v1, val_main_v0]

/-- All tokens. -/
theorem all (b : Fin 2) (s : Fin 16640) (c : Fin 7936) :
    val_main_v52 (F := Ideal) x ctx mods g w (ix3 b s c) = proj x ctx mods g w b s c := by
  unfold proj token which
  by_cases h : s.val < 256
  · simp only [dif_pos h, if_pos h]
    refine Eq.trans ?_ (con ctx mods g w b ⟨s.val, h⟩ c)
    pointwise [val_main_v52]
    rw [dif_pos h]
  · simp only [dif_neg h, if_neg h]
    refine Eq.trans ?_ (lat x mods g w b ⟨s.val - 256, by omega⟩ c)
    pointwise [val_main_v52]
    rw [dif_neg h]

/-- The whole result. -/
theorem result (i : S33280x8192.Idx) : val_main_v58 (F := Ideal) x ctx mods g w i = goal x ctx mods g w i := by
  have h0 : (i 0).val < 33280 := (i 0).isLt
  have h1 : (i 1).val < 8192 := (i 1).isLt
  unfold goal
  simp only [← all]
  pointwise [val_main_v58, val_main_v57, val_main_v56, val_main_v55, val_main_v54, val_main_v53, val_main_cst_7]
  by_cases ha : (i 1).val < 3072
  · simp only [dif_pos ha, Nat.add_comm 4864]
  · simp only [dif_neg ha]
    by_cases hb : (i 1).val < 7936
    · rw [dif_pos hb, dif_pos (by omega)]
    · rw [dif_neg hb, dif_neg (by omega)]

end Cert.ProjRef

end
-- ==== Proof.Projection.Values.lean ====
/- What a grid point of the projection computes, at one index over the ideal floats. -/
module

public import proofs.«01_k».proof.Proof.Projection.Steps
public import proofs.«01_k».proof.Proof.Projection.Ref
public import Idealize.ShloMosaic.Lib.IdealHost
public import Idealize.ShloMosaic.Lib.WordCmp

@[expose] public section

set_option maxRecDepth 16384

noncomputable section

namespace Cert.Kernel2Ideal.Proj

open Cert.Kernel2Ideal.Gen
open Idealize.ShloMosaic Idealize.ShloMosaic.TcCoe Idealize.ShloMosaic.Tactic
open Cert.ProjRef

/-- A product block. -/
theorem pay2_apply (u : Vec Ideal S1280x1024 .bf16) (x3 : Vec Ideal S1024x512 .bf16) (y : S1280x512.Idx) :
    k0_pay2 u x3 y = ∑ d : Fin 1024, u (ix2 (y 0) d) * x3 (ix2 d (y 1)) := by
  pointwise [k0_pay2]

/-- The number of a row block's first token in its batch entry, as the words compute it. -/
def firstToken (a : BitVec 32) : BitVec 32 :=
  Scalar.select
    (Scalar.andi
      (Scalar.xori
        (Scalar.cmpi .slt (Scalar.remsi (Scalar.muli a 1280#32) (Scalar.select (Scalar.cmpi .eq 16640#32 0#32) 1#32 16640#32)) 0#32)
        (Scalar.cmpi .slt (Scalar.select (Scalar.cmpi .eq 16640#32 0#32) 1#32 16640#32) 0#32))
      (Scalar.cmpi .ne (Scalar.remsi (Scalar.muli a 1280#32) (Scalar.select (Scalar.cmpi .eq 16640#32 0#32) 1#32 16640#32)) 0#32))
    (Scalar.addi (Scalar.remsi (Scalar.muli a 1280#32) (Scalar.select (Scalar.cmpi .eq 16640#32 0#32) 1#32 16640#32))
      (Scalar.select (Scalar.cmpi .eq 16640#32 0#32) 1#32 16640#32))
    (Scalar.remsi (Scalar.muli a 1280#32) (Scalar.select (Scalar.cmpi .eq 16640#32 0#32) 1#32 16640#32))

theorem firstToken_eq : ∀ n : Fin 26, firstToken (BitVec.ofNat 32 n.val) = BitVec.ofNat 32 (n.val * 1280 % 16640) := by decide +kernel

theorem below (k j : ℕ) (hk : k < 16640) (hj : j < 1280) :
    IntOp.cmpi .slt (IntOp.addi (BitVec.ofNat 32 k) (BitVec.ofNat 32 j)) 256#32 = if k + j < 256 then 1#1 else 0#1 := by
  have e : IntOp.addi (BitVec.ofNat 32 k) (BitVec.ofNat 32 j) = BitVec.ofNat 32 (k + j) := by
    simp [IntOp.addi, BitVec.ofNat_add]
  rw [e]
  have h : (IntOp.cmpi .slt (BitVec.ofNat 32 (k + j)) 256#32 = 1#1) ↔ k + j < 256 := by word_cmp
  by_cases h' : k + j < 256
  · rw [if_pos h', h.mpr h']
  · rw [if_neg h']
    have : ¬ IntOp.cmpi .slt (BitVec.ofNat 32 (k + j)) 256#32 = 1#1 := fun e => h' (h.mp e)
    revert this
    generalize IntOp.cmpi .slt (BitVec.ofNat 32 (k + j)) 256#32 = b
    revert b
    decide

/-- The test for a context token, in row block `n`. -/
theorem pay4_apply (n : ℕ) (hn : n < 26) (y : S1280x1.Idx) :
    k0_pay4 (BitVec.ofNat 32 n) y = if n * 1280 % 16640 + (y 0).val < 256 then 1#1 else 0#1 := by
  have h0 : (y 0).val < 1280 := (y 0).isLt
  rw [← below _ _ (by omega) h0, ← firstToken_eq ⟨n, hn⟩]
  pointwise [k0_pay4]
  rfl

/-- The rows of row block `n`. -/
theorem rowsOf_apply (n : ℕ) (hn : n < 26) (x0 : Vec Ideal S1280x1024 .f32) (x1 : Vec Ideal S1x2x6x1024 .f32) (x2 : Vec Ideal S1x1024 .f32)
    (y : S1280x1024.Idx) :
    rowsOf (BitVec.ofNat 32 n) x0 x1 x2 y
      = row (fun d => x0 (ix2 (y 0) d)) (fun d => x2 (ix2 0 d))
          (fun d => x1 (ix4 0 (if n * 1280 % 16640 + (y 0).val < 256 then 0 else 1) 1 d))
          (fun d => x1 (ix4 0 (if n * 1280 % 16640 + (y 0).val < 256 then 0 else 1) 0 d)) (y 1) := by
  have h0 : (y 0).val < 1280 := (y 0).isLt
  unfold row rowsOf
  pointwise [k0_pay1, k0_pay3, k0_pay5, k0_pay6, k0_pay7]
  rw [pay4_apply n hn]
  show _ = x0 y * _ * _ * (1 + x1 (ix4 0 (if n * 1280 % 16640 + (y 0).val < 256 then 0 else 1) 1 (y 1))) + _
  by_cases h : n * 1280 % 16640 + (y 0).val < 256
  · simp only [show (ix2 (y 0) 0 : S1280x1.Idx) 0 = y 0 from rfl, h, if_true]; rfl
  · simp only [show (ix2 (y 0) 0 : S1280x1.Idx) 0 = y 0 from rfl, h, if_false]; rfl

end Cert.Kernel2Ideal.Proj

end
-- ==== Proof.Projection.Blocks.lean ====
/- The blocks that the pipeline hands to a grid point, from the arguments. Point `t` works on row block `t / 16`, 13 of which
   make a batch entry, and on column block `t % 16`. -/
module

public import proofs.«01_k».proof.Proof.Projection.Values
public import Idealize.ShloMosaic.Lib.StableHlo.ReadAt

@[expose] public section

set_option maxRecDepth 16384

noncomputable section

namespace Cert.Kernel2Ideal.Proj

open Cert.Kernel2Ideal.Gen
open Idealize.ShloMosaic Idealize.ShloMosaic.TcCoe Idealize.ShloMosaic.Tactic
open Cert.ProjRef

variable (m : (ℓ : Loc nD τ sig) → Buf (Elt Ideal) ℓ)

/-- The arguments as launched. -/
abbrev argX (c : Dev nD) : S2x16384x1024.Idx → EReal := m ((c : Thread nD τ).loc main_arg0)
abbrev argCtx (c : Dev nD) : S2x256x1024.Idx → EReal := m ((c : Thread nD τ).loc main_arg1)
abbrev argMods (c : Dev nD) : S2x2x6x1024.Idx → EReal := m ((c : Thread nD τ).loc main_arg2)
abbrev argG (c : Dev nD) : S1024.Idx → EReal := m ((c : Thread nD τ).loc main_arg3)
abbrev argW (c : Dev nD) : S1024x7936.Idx → EReal := m ((c : Thread nD τ).loc main_arg4)

/-- The rows are the tokens of the one batch entry after those of the other. -/
theorem arr0 (c : Dev nD) (y : S33280x1024.Idx) :
    V m c main_v1 y = token (argX m c) (argCtx m c) ⟨(y 0).val / 16640, by have h : (y 0).val < 33280 := (y 0).isLt; omega⟩
      ⟨(y 0).val % 16640, by omega⟩ (y 1) := by
  unfold token
  entry_read
  pointwise

theorem arr2 (c : Dev nD) (y : S1x1024.Idx) : V m c main_v2 y = argG m c (ix1 (y 1)) := by
  entry_read
  pointwise

/-- The weights' columns as the kernel reads them: the gates' columns first, and zeros after the last. -/
def col (w : S1024x7936.Idx → EReal) (d : Fin 1024) (n : Fin 8192) : EReal :=
  if h : n.val < 3072 then w (ix2 d ⟨n.val + 4864, by omega⟩)
  else if h' : n.val < 7936 then w (ix2 d ⟨n.val - 3072, by omega⟩)
  else 0

/-- The weights' columns as the host lays them: a slice, another and zeros. -/
def cols (w : FVec Ideal S1024x7936 .f32) : FVec Ideal S1024x8192 .f32 :=
  concatenate S1024x8192 1
    [⟨S1024x3072, extractStridedSlice S1024x3072 ![0, 4864] w slices_S1024x7936_S1024x3072_0_4864⟩,
      ⟨S1024x4864, extractStridedSlice S1024x4864 ![0, 0] w slices_S1024x7936_S1024x4864_0_0⟩,
      ⟨S1024x256, broadcastInDim S1024x256 ![] bcast_S_S1024x256 (constant (F := Ideal) S_ .f32 0x00000000#32)⟩]
    concatenates_S1024x3072_S1024x4864_S1024x256_S1024x8192_d1

theorem arr3_eq (c : Dev nD) : (V m c main_v7 : S1024x8192.Idx → EReal) = truncf (F := Ideal) .bf16 (cols (argW m c)) bitsLt_bf16_f32 := by
  unfold V
  after_reads_simp
  rfl

theorem arr3 (c : Dev nD) (y : S1024x8192.Idx) : V m c main_v7 y = col (argW m c) (y 0) (y 1) := by
  have h1 : (y 1).val < 8192 := (y 1).isLt
  refine (congrFun (arr3_eq m c) y).trans ?_
  unfold col
  pointwise [cols]
  by_cases ha : (y 1).val < 3072
  · simp only [dif_pos ha, Nat.add_comm 4864]
  · simp only [dif_neg ha]
    by_cases hb : (y 1).val < 7936
    · rw [dif_pos hb, dif_pos (by omega)]
    · rw [dif_neg hb, dif_neg (by omega)]

/-- The index maps. -/
theorem idx0 : ∀ t : Fin cfg0.N, win0_0.index t = ![t.val / 16, 0] := by decide +kernel
theorem idx1 : ∀ t : Fin cfg0.N, win0_1.index t = ![t.val / 16 / 13, 0, 0, 0] := by decide +kernel
theorem idx2 : ∀ t : Fin cfg0.N, win0_2.index t = ![0, 0] := by decide +kernel
theorem idx3 : ∀ t : Fin cfg0.N, win0_3.index t = ![0, t.val % 16] := by decide +kernel
theorem idx4 : ∀ t : Fin cfg0.N, win0_4.index t = ![t.val / 16, t.val % 16] := by decide +kernel

theorem blk0 (c : Dev nD) (t : Fin cfg0.N) (y : S1280x1024.Idx) :
    iblk m c 0 t y = V m c main_v1 (ix2 ⟨(t.val / 16 * 1280 + (y 0).val) % 33280, by omega⟩ (y 1)) := by
  have ht : t.val < 416 := t.isLt
  blk_ext [iblk, idx0 t]

theorem blk1 (c : Dev nD) (t : Fin cfg0.N) (y : S1x2x6x1024.Idx) :
    iblk m c 1 t y = V m c main_arg2 (ix4 ⟨t.val / 16 / 13, by have ht : t.val < 416 := t.isLt; omega⟩ (y 1) (y 2) (y 3)) := by
  have ht : t.val < 416 := t.isLt
  blk_ext [iblk, idx1 t]

theorem blk2 (c : Dev nD) (t : Fin cfg0.N) (y : S1x1024.Idx) :
    iblk m c 2 t y = V m c main_v2 y := by
  have ht : t.val < 416 := t.isLt
  blk_ext [iblk, idx2 t]

theorem blk3 (c : Dev nD) (t : Fin cfg0.N) (y : S1024x512.Idx) :
    iblk m c 3 t y = V m c main_v7 (ix2 (y 0) ⟨t.val % 16 * 512 + (y 1).val, by have h : (y 1).val < 512 := (y 1).isLt; omega⟩) := by
  have ht : t.val < 416 := t.isLt
  blk_ext [iblk, idx3 t]

end Cert.Kernel2Ideal.Proj

end
-- ==== Proof.Projection.Result.lean ====
/- The projection's result array: the scratch holds the normed and modulated rows of the row block, and every block that is
   written back holds their product with a column block. -/
module

public import proofs.«01_k».proof.Proof.Projection.Blocks
public import proofs.«01_k».proof.Defs
public import proofs.«01_k».proof.Proof.Gen.Reference2Ideal.Run
public import Idealize.ShloMosaic.Lib.Claim

@[expose] public section

set_option maxRecDepth 16384

noncomputable section

namespace Cert.Kernel2Ideal.Proj

open Cert.Kernel2Ideal.Gen
open Idealize.ShloMosaic Idealize.ShloMosaic.TcCoe Idealize.ShloMosaic.Tactic
open Cert.ProjRef

variable (m : (ℓ : Loc nD τ sig) → Buf (Elt Ideal) ℓ)

/-- The row block of a grid point. -/
theorem coord0 : ∀ t : Fin cfg0.N, ((grid0.coords t) 0).val = t.val / 16 := by decide +kernel

/-- Row `r` of the rows of row block `n`: the token's row after the norm and the modulation. -/
def rowAt (c : Dev nD) (n : ℕ) (hn : n < 26) (r : Fin 1280) (d : Fin 1024) : EReal :=
  row (token (argX m c) (argCtx m c) ⟨(n * 1280 + r.val) / 16640, by omega⟩ ⟨(n * 1280 + r.val) % 16640, by omega⟩)
    (fun d => argG m c (ix1 d))
    (fun d => argMods m c (ix4 ⟨(n * 1280 + r.val) / 16640, by omega⟩ (which ⟨(n * 1280 + r.val) % 16640, by omega⟩) 1 d))
    (fun d => argMods m c (ix4 ⟨(n * 1280 + r.val) / 16640, by omega⟩ (which ⟨(n * 1280 + r.val) % 16640, by omega⟩) 0 d)) d

/-- The rows that a point computes from its blocks. -/
theorem rowsOf_blk (c : Dev nD) (t : Fin cfg0.N) (y : S1280x1024.Idx) :
    rowsOf (BitVec.ofNat 32 ((grid0.coords t) 0).val) (iblk m c 0 t) (iblk m c 1 t) (iblk m c 2 t) y
      = rowAt m c (t.val / 16) (by have ht : t.val < 416 := t.isLt; omega) (y 0) (y 1) := by
  have ht : t.val < 416 := t.isLt
  have h0 : (y 0).val < 1280 := (y 0).isLt
  rw [coord0 t, rowsOf_apply _ (by omega)]
  have e1 : t.val / 16 / 13 = (t.val / 16 * 1280 + (y 0).val) / 16640 := by omega
  have e2 : t.val / 16 * 1280 % 16640 + (y 0).val = (t.val / 16 * 1280 + (y 0).val) % 16640 := by omega
  have e3 : (t.val / 16 * 1280 + (y 0).val) % 33280 = t.val / 16 * 1280 + (y 0).val := by omega
  unfold rowAt which
  simp only [blk0, blk1, blk2, e2]
  have q0 : (fun d => V m c main_v1 (ix2 ⟨(t.val / 16 * 1280 + (y 0).val) % 33280, by omega⟩ d) : Fin 1024 → EReal)
      = token (argX m c) (argCtx m c) ⟨(t.val / 16 * 1280 + (y 0).val) / 16640, by omega⟩ ⟨(t.val / 16 * 1280 + (y 0).val) % 16640, by omega⟩ := by
    funext d
    rw [arr0]
    simp only [ix2, Matrix.cons_val_zero, Matrix.cons_val_one, e3]
  have q2 : (fun d => V m c main_v2 (ix2 0 d) : Fin 1024 → EReal) = fun d => argG m c (ix1 d) := funext fun d => arr2 m c _
  refine (congrArg₂ (fun a b => row a b _ _ _) q0 q2).trans ?_
  simp only [V_main_arg2]
  exact congrArg₂ (fun a b => row _ _ a b _)
    (funext fun d => congrArg (fun b => argMods m c (ix4 b _ 1 d)) (Fin.ext e1))
    (funext fun d => congrArg (fun b => argMods m c (ix4 b _ 0 d)) (Fin.ext e1))

/-- The scratch after a point holds the rows of the point's row block. -/
theorem scratch (c : Dev nD) : ∀ (n : ℕ) (hn : n < cfg0.N) (y : S1280x1024.Idx),
    (outsAt0 m c n hn).2 y = rowAt m c (n / 16) (by have ht : n < 416 := hn; omega) (y 0) (y 1) := by
  intro n
  induction n with
  | zero =>
    intro hn y
    have e := congrArg Prod.snd (outsAt0_A m c ⟨0, hn⟩ (Nat.zero_mod _))
    rw [show (outsAt0 m c 0 hn).2 = _ from e, rows_A]
    exact rowsOf_blk m c ⟨0, hn⟩ y
  | succ n ih =>
    intro hn y
    by_cases h : (n + 1) % 16 = 0
    · have e := congrArg Prod.snd (outsAt0_A m c ⟨n + 1, hn⟩ h)
      rw [show (outsAt0 m c (n + 1) hn).2 = _ from e, rows_A]
      exact rowsOf_blk m c ⟨n + 1, hn⟩ y
    · have e := congrArg Prod.snd (outsAt0_B m c ⟨n + 1, hn⟩ h)
      have e' : (outsAt0 m c (n + 1) hn).2 = (outsAt0 m c n (by omega)).2 := e
      have hq : (n + 1) / 16 = n / 16 := by omega
      rw [e', ih (by omega) y]
      simp only [hq]

/-- What a point writes: the product of its rows with its column block. -/
theorem written (c : Dev nD) (t : Fin cfg0.N) (y : S1280x512.Idx) :
    (outsAt0 m c t.val t.isLt).1 y
      = ∑ d : Fin 1024, rowAt m c (t.val / 16) (by have ht : t.val < 416 := t.isLt; omega) (y 0) d
          * iblk m c 3 t (ix2 d (y 1)) := by
  have ht : t.val < 416 := t.isLt
  by_cases h : t.val % 16 = 0
  · have e : (outsAt0 m c t.val t.isLt).1 = _ := congrArg Prod.fst (outsAt0_A m c t h)
    rw [e, out_A (F := Ideal), show rowsOf (BitVec.ofNat 32 ((grid0.coords t) 0).val) (iblk m c 0 t) (iblk m c 1 t) (iblk m c 2 t) = _ from
      funext (rowsOf_blk m c t)]
    exact pay2_apply _ _ y
  · have e : (outsAt0 m c t.val t.isLt).1 = _ := congrArg Prod.fst (outsAt0_B m c t h)
    have hq : (t.val - 1) / 16 = t.val / 16 := by omega
    rw [e, out_B (F := Ideal), show (outsAt0 m c (t.val - 1) (Nat.lt_of_le_of_lt (Nat.sub_le _ _) t.isLt)).2 = _ from
      funext (scratch m c (t.val - 1) _)]
    simp only [hq]
    exact pay2_apply _ _ y

/-- A row times a column of the weights as the kernel reads them is the goal's element. -/
theorem goal_of_row (c : Dev nD) (n : ℕ) (hn : n < 26) (r : Fin 1280) (i : S33280x8192.Idx) (hi : (i 0).val = n * 1280 + r.val) :
    ∑ d : Fin 1024, rowAt m c n hn r d * col (argW m c) d (i 1) = goal (argX m c) (argCtx m c) (argMods m c) (argG m c) (argW m c) i := by
  unfold goal col rowAt proj
  simp only [hi]
  by_cases ha : (i 1).val < 3072
  · simp only [dif_pos ha]
  · simp only [dif_neg ha]
    by_cases hb : (i 1).val < 7936
    · simp only [dif_pos hb]
    · simp only [dif_neg hb, mul_zero, Finset.sum_const_zero]

/-- The array after the run. -/
theorem arr_goal (c : Dev nD) :
    (dats m 0 c).arrAt 4 (cfgs 0).N = goal (argX m c) (argCtx m c) (argMods m c) (argG m c) (argW m c) := by
  refine (dats m 0 c).arrAt_eq_of_covers 4 _ (by decide +kernel) fun t hf y => ?_
  have ht : t.val < 416 := t.isLt
  have h0 : (y 0).val < 1280 := (y 0).isLt
  have h1 : (y 1).val < 512 := (y 1).isLt
  blk_simp
  rw [after0_4]
  refine (written m c t y).trans (Eq.trans ?_ (goal_of_row m c (t.val / 16) (by omega) (y 0) _ ?_))
  · refine Finset.sum_congr rfl fun d _ => congrArg (fun z : EReal => (rowAt m c (t.val / 16) (by omega) (y 0) d : EReal) * z) ?_
    rw [blk3, arr3]
    refine congrArg (col (argW m c) d) (Fin.ext ?_)
    blk_simp [idx4 t]
  · blk_simp [idx4 t]

end Cert.Kernel2Ideal.Proj

namespace Cert.Proof

open Idealize.ShloMosaic Idealize.ShloMosaic.TcCoe Idealize.ShloMosaic.Tactic Idealize.SL.Sem

/-- The projection and its reference agree over the reals. -/
theorem algebraic2 : Cert.algebraic_Kernel2Ideal_Reference2Ideal := by
  pair_intro
  · run_from Cert.Kernel2Ideal.Gen.run_main m g
  · run_from Cert.Reference2Ideal.Value.run m' g'
    rw [Cert.Kernel2Ideal.Proj.arr_goal m c, Cert.Reference2Ideal.Read.val_main_v58_eq]
    obtain ⟨h0, h1, h2, h3, h4⟩ := hagree c
    rw [h0, h1, h2, h3, h4]
    funext i
    exact Cert.ProjRef.result _ _ _ _ _ i

/-- The reference runs and keeps its arguments; it has no counter. -/
theorem frameRef2 : Cert.quiescent_Reference2Ideal := by
  intro m g _
  exact (θ_run Cert.Reference2Ideal.defs _ _).mono (fun r h => ⟨fun c => (h c).2, sem_eq_zero_of_no_sems (by decide) r.2⟩)
    (Cert.Reference2Ideal.Value.run (F := Ideal) m g)

end Cert.Proof

end
-- ==== Proof.Experts.Kit.lean ====
/- The set-up of the experts' launch: the arrays and the tables as launched, the row blocks and the weights that the tables name,
   and the staging buffers of a grid point. -/
module

public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the region is entered: as launched, for the program is the region alone. -/
abbrev V (c : Dev nD) (b : Ref sig .tc) : Buf (Elt F) ((c : Thread nD τ).loc b) := m ((c : Thread nD τ).loc b)

/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The three tables as launched. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- The tables name row blocks and experts that there are. -/
abbrev Ok : Prop := ok0 (F := F) (tbl m)
/-- The pipeline at the tables as launched. -/
abbrev adm (hO : Ok m) : (pcfg0 (F := F)).Adm := ⟨tbl m, hO⟩
abbrev cfgM (hO : Ok m) : Pipeline.Cfg sig Λ₀ := cfg0 (adm m hO)

/-- The tables as the body is handed them. -/
abbrev tab0 : Memref sig .tc .smem S276 .i32 := Memref.whole main_arg0
abbrev tab1 : Memref sig .tc .smem S276 .i32 := Memref.whole main_arg1
abbrev tab2 : Memref sig .tc .smem S1 .i32 := Memref.whole main_arg2

/-- A table's contents, and the half of it that the body holds. -/
abbrev TabBuf (c : Dev nD) {S : Shape} {e : EltTy} (M : Memref sig .tc .smem S e) : Type := Buf (Elt F) (M.view.loc (c : Thread nD τ))
abbrev tabHeld (c : Dev nD) {S : Shape} {e : EltTy} (M : Memref sig .tc .smem S e) (f : TabBuf (F := F) c M) : sProp 𝕄 :=
  M.view.loc (c : Thread nD τ) ↦{fullShare.right} f

theorem tabs_eq (c : Dev nD) : (Pipeline.ΦT pre0 (tbl m) c : sProp 𝕄)
    = iprop(tabHeld c tab0 (tbl m 0) ∗ tabHeld c tab1 (tbl m 1) ∗ tabHeld c tab2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The number of row blocks that hold tokens, as the body reads it. -/
abbrev count (c : Dev nD) (T : TabBuf (F := F) c tab2) : BitVec 32 :=
  View.readAt (Elt F) tab2.view (Rect.unit (s := S1) ![0] S1.size inb_S1_S1_0).toLoadRect T (Shape.Idx.first (numel1_S1.symm ▸ Nat.one_pos))

/-- A point stores zeros exactly where it does not store its product. -/
theorem cond2_iff (i : grid0.Coords) (v : BitVec 32) : k0_cond2 i v = 1#1 ↔ ¬k0_cond1 i v = 1#1 := by
  unfold k0_cond2 k0_cond1
  dsimp only
  generalize Scalar.cmpi .slt (BitVec.ofNat 32 (i 0).val) v = b
  revert b
  decide

/-- So it always stores its output block. -/
theorem live4 (pf : pre0.Contents (Elt F)) (i : grid0.Coords) : idle0 pf 4 i = false := by
  show (!(k0_cond1 i (pf.atD 2 ![0]) == 1#1) && !(k0_cond2 i (pf.atD 2 ![0]) == 1#1)) = false
  by_cases h : k0_cond1 i (pf.atD 2 ![0]) = 1#1
  · rw [h]; rfl
  · rw [(cond2_iff i _).mpr h, Bool.and_eq_false_iff]; exact .inr rfl

/-- Window `w`'s block at point `t`, from its array as launched. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Each input's staging buffer holds its block at every point, fetched there or before. -/
theorem found0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- A run that ends with the arrays as the pipeline computes them leaves the arguments as launched. -/
theorem kept (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) (r)
    (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c).2 main_arg0 (by decide : main_arg0 ∈ Pipeline.restRefs sig spec0),
    (h c).2 main_arg1 (by decide : main_arg1 ∈ Pipeline.restRefs sig spec0),
    (h c).2 main_arg2 (by decide : main_arg2 ∈ Pipeline.restRefs sig spec0),
    ((h c).1 0).trans (((dats 0 c).arrAt_in 0 rfl _).trans (hA c 0)),
    ((h c).1 1).trans (((dats 0 c).arrAt_in 1 rfl _).trans (hA c 1)),
    ((h c).1 2).trans (((dats 0 c).arrAt_in 2 rfl _).trans (hA c 2)),
    ((h c).1 3).trans (((dats 0 c).arrAt_in 3 rfl _).trans (hA c 3))⟩

/-- A point's staging buffers. -/
abbrev ms0 (hO : Ok m) (t : Fin (cfgM m hO).N) : Memref sig .tc .vmem S256x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x1024 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x1024 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1024x1024 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S256x1024 .f32 := spec0_4.stage ((cfgM m hO).slots t 4)
abbrev hs4 (hO : Ok m) (t : Fin (cfgM m hO).N) : (ms4 m hO t).IsWhole := hstage0_4 (((cfgM m hO).slots t 4).cast nbuf0_4)

/-- The body at a point, on the buffers that the pipeline hands it. -/
abbrev bodyAt (hO : Ok m) (t : Fin (cfgM m hO).N) : Prog (TpuEff nD τ sig (Elt F) Λ₀ .tc) PUnit :=
  cc0_expert_ffn (grid0.coords t) tab0 (Memref.isWhole_whole _) tab1 (Memref.isWhole_whole _) tab2 (Memref.isWhole_whole _)
    (ms0 m hO t) (hs0 m hO t) (ms1 m hO t) (hs1 m hO t) (ms2 m hO t) (hs2 m hO t) (ms3 m hO t) (hs3 m hO t) (ms4 m hO t) (hs4 m hO t)

end Cert.Kernel3Ideal.Experts

end
-- ==== Proof.Experts.Runs.lean ====
/- The two runs of the experts' body: at a row block that holds tokens, and at one that does not. -/
module

public import proofs.«01_k».proof.Proof.Experts.Kit

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A row block that holds tokens: the body stores its expert's rows. The pieces written to the output are the witness. -/
noncomputable def runA (c : Dev nD) (i : grid0.Coords) (arg4 : Memref sig .tc .vmem S256x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S256x1024 .f32) (harg8 : arg8.IsWhole)
    (x0 : Vec F S256x1024 .f32) (x1 : Vec F S1x1024x1024 .bf16) (x2 : Vec F S1x1024x1024 .bf16) (x3 : Vec F S1x1024x1024 .bf16) (T0 : TabBuf (F := F) c tab0) (T1 : TabBuf (F := F) c tab1) (T2 : TabBuf (F := F) c tab2)
    (h1 : k0_cond1 i (count c T2) = 1#1) (h2 : ¬k0_cond2 i (count c T2) = 1#1) :
    { L : List (View.Piece (Elt F) S256x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tabHeld c tab0 T0 ∗ tabHeld c tab1 T1 ∗ tabHeld c tab2 T2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L) ∗ tabHeld c tab0 T0 ∗ tabHeld c tab1 T1 ∗ tabHeld c tab2 T2) -∗ K ⟨⟩))
          ⊢ wp frame (wpE (defs₀ (F := F)) Variants.none c none) E (cc0_expert_ffn i tab0 (Memref.isWhole_whole _) tab1 (Memref.isWhole_whole _) tab2 (Memref.isWhole_whole _) arg4 harg4 arg5 harg5 arg6 harg6 arg7 harg7 arg8 harg8) K } := by
  refine ⟨?_, fun E K => ?run⟩
  case run =>
    simp only [cc0_expert_ffn_eq_skeleton]; unfold cc0_expert_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg4.eq_unread hf0; obtain rfl := harg5.eq_unread hf1; obtain rfl := harg6.eq_unread hf2; obtain rfl := harg7.eq_unread hf3
    sl_exec (disch := first | sl_exact h1 | sl_exact h2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    isplitl [HT1]; · iexact HT1
    iexact HT2

set_option maxHeartbeats 1000000 in
/-- A row block that holds none: the body stores zeros. The pieces written to the output are the witness. -/
noncomputable def runB (c : Dev nD) (i : grid0.Coords) (arg4 : Memref sig .tc .vmem S256x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S256x1024 .f32) (harg8 : arg8.IsWhole)
    (x0 : Vec F S256x1024 .f32) (x1 : Vec F S1x1024x1024 .bf16) (x2 : Vec F S1x1024x1024 .bf16) (x3 : Vec F S1x1024x1024 .bf16) (T0 : TabBuf (F := F) c tab0) (T1 : TabBuf (F := F) c tab1) (T2 : TabBuf (F := F) c tab2)
    (h1 : ¬k0_cond1 i (count c T2) = 1#1) (h2 : k0_cond2 i (count c T2) = 1#1) :
    { L : List (View.Piece (Elt F) S256x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tabHeld c tab0 T0 ∗ tabHeld c tab1 T1 ∗ tabHeld c tab2 T2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L) ∗ tabHeld c tab0 T0 ∗ tabHeld c tab1 T1 ∗ tabHeld c tab2 T2) -∗ K ⟨⟩))
          ⊢ wp frame (wpE (defs₀ (F := F)) Variants.none c none) E (cc0_expert_ffn i tab0 (Memref.isWhole_whole _) tab1 (Memref.isWhole_whole _) tab2 (Memref.isWhole_whole _) arg4 harg4 arg5 harg5 arg6 harg6 arg7 harg7 arg8 harg8) K } := by
  refine ⟨?_, fun E K => ?run⟩
  case run =>
    simp only [cc0_expert_ffn_eq_skeleton]; unfold cc0_expert_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg4.eq_unread hf0; obtain rfl := harg5.eq_unread hf1; obtain rfl := harg6.eq_unread hf2; obtain rfl := harg7.eq_unread hf3
    sl_exec (disch := first | sl_exact h1 | sl_exact h2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    isplitl [HT1]; · iexact HT1
    iexact HT2

end Cert.Kernel3Ideal.Experts

end
-- ==== Proof.Experts.Frame.lean ====
/- The experts' proof data, their body at every point, and their run: the frame. -/
module

public import proofs.«01_k».proof.Proof.Experts.Runs

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The expert's rows fill the output block. -/
theorem coverA (c : Dev nD) (i : grid0.Coords) (arg4 : Memref sig .tc .vmem S256x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S256x1024 .f32) (harg8 : arg8.IsWhole)
    (x0 : Vec F S256x1024 .f32) (x1 : Vec F S1x1024x1024 .bf16) (x2 : Vec F S1x1024x1024 .bf16) (x3 : Vec F S1x1024x1024 .bf16) (T0 : TabBuf (F := F) c tab0) (T1 : TabBuf (F := F) c tab1) (T2 : TabBuf (F := F) c tab2)
    (h1 : k0_cond1 i (count c T2) = 1#1) (h2 : ¬k0_cond2 i (count c T2) = 1#1) (y : S256x1024.Idx) :
    ∃ pc ∈ (runA c i arg4 harg4 arg5 harg5 arg6 harg6 arg7 harg7 arg8 harg8 x0 x1 x2 x3 T0 T1 T2 h1 h2).1, y ∈ pc.1.set :=
  View.cover_of_tiledL (runA c i arg4 harg4 arg5 harg5 arg6 harg6 arg7 harg7 arg8 harg8 x0 x1 x2 x3 T0 T1 T2 h1 h2).1 S256x1024.size (by sl_kernel_rfl) y

/-- The zeros fill the output block. -/
theorem coverB (c : Dev nD) (i : grid0.Coords) (arg4 : Memref sig .tc .vmem S256x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S256x1024 .f32) (harg8 : arg8.IsWhole)
    (x0 : Vec F S256x1024 .f32) (x1 : Vec F S1x1024x1024 .bf16) (x2 : Vec F S1x1024x1024 .bf16) (x3 : Vec F S1x1024x1024 .bf16) (T0 : TabBuf (F := F) c tab0) (T1 : TabBuf (F := F) c tab1) (T2 : TabBuf (F := F) c tab2)
    (h1 : ¬k0_cond1 i (count c T2) = 1#1) (h2 : k0_cond2 i (count c T2) = 1#1) (y : S256x1024.Idx) :
    ∃ pc ∈ (runB c i arg4 harg4 arg5 harg5 arg6 harg6 arg7 harg7 arg8 harg8 x0 x1 x2 x3 T0 T1 T2 h1 h2).1, y ∈ pc.1.set :=
  View.cover_of_tiledL (runB c i arg4 harg4 arg5 harg5 arg6 harg6 arg7 harg7 arg8 harg8 x0 x1 x2 x3 T0 T1 T2 h1 h2).1 S256x1024.size (by sl_kernel_rfl) y

/-- One staging buffer of the output, through which its contents are stated. -/
abbrev VO : View sig .tc .vmem S256x1024 .f32 := (Memref.whole cc0_stg4_0 : Memref sig .tc .vmem S256x1024 .f32).view

/-- What a point leaves in the output's staging buffer: its run's pieces. -/
def outAt (hO : Ok m) (c : Dev nD) (t : Fin (cfgM m hO).N) : Vec F S256x1024 .f32 :=
  if h1 : k0_cond1 (grid0.coords t) (count c (tbl m 2)) = 1#1 then
    VO.read (Elt F) (VO.writes (Elt F) VO.junk (runA c (grid0.coords t) (ms0 m hO t) (hs0 m hO t) (ms1 m hO t) (hs1 m hO t) (ms2 m hO t) (hs2 m hO t) (ms3 m hO t) (hs3 m hO t) (ms4 m hO t) (hs4 m hO t) (iblk m hO c 0 t) (iblk m hO c 1 t) (iblk m hO c 2 t) (iblk m hO c 3 t) (tbl m 0) (tbl m 1) (tbl m 2) h1 (fun h => (cond2_iff _ _).mp h h1)).1)
  else
    VO.read (Elt F) (VO.writes (Elt F) VO.junk (runB c (grid0.coords t) (ms0 m hO t) (hs0 m hO t) (ms1 m hO t) (hs1 m hO t) (ms2 m hO t) (hs2 m hO t) (ms3 m hO t) (hs3 m hO t) (ms4 m hO t) (hs4 m hO t) (iblk m hO c 0 t) (iblk m hO c 1 t) (iblk m hO c 2 t) (iblk m hO c 3 t) (tbl m 0) (tbl m 1) (tbl m 2) h1 ((cond2_iff _ _).mpr h1)).1)

/-- The proof data: the arrays as launched; after a point each input's buffer at its block and the output's at `outAt`; the tables'
    halves and the scoped rest pass through; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = outAt m hO c t := by dsimp only [dats]; try rfl

theorem before0 (hO : Ok m) (c : Dev nD) (t : Fin (cfgM m hO).N) (d) : (dats m hO 0 c).before 0 t d = iblk m hO c 0 t :=
  found0 m hO (dats m hO 0 c) (A_eq m hO c 0) (after0 m hO c) t d
theorem before1 (hO : Ok m) (c : Dev nD) (t : Fin (cfgM m hO).N) (d) : (dats m hO 0 c).before 1 t d = iblk m hO c 1 t :=
  found1 m hO (dats m hO 0 c) (A_eq m hO c 1) (after1 m hO c) t d
theorem before2 (hO : Ok m) (c : Dev nD) (t : Fin (cfgM m hO).N) (d) : (dats m hO 0 c).before 2 t d = iblk m hO c 2 t :=
  found2 m hO (dats m hO 0 c) (A_eq m hO c 2) (after2 m hO c) t d
theorem before3 (hO : Ok m) (c : Dev nD) (t : Fin (cfgM m hO).N) (d) : (dats m hO 0 c).before 3 t d = iblk m hO c 3 t :=
  found3 m hO (dats m hO 0 c) (A_eq m hO c 3) (after3 m hO c) t d

/-- The inputs' buffers are left at their blocks, and the output's at `outAt`: no point is idle. -/
theorem leaves4 (hO : Ok m) (c : Dev nD) (t : Fin (cfgM m hO).N) :
    (dats m hO 0 c).leavesExact 4 t = owns (c : Thread nD τ) (ms4 m hO t) fullShare (outAt m hO c t) := by
  have hl : (cfgM m hO).idle 4 ((cfgM m hO).grid.coords t) = false := live4 _ _
  unfold Dat.leavesExact; rw [hl, after4]; rfl

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ (dats m hO 0 c).leavesExact 4 t)

set_option maxHeartbeats 1000000 in
/-- The body at any point: one of the two runs applies. -/
theorem sound (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3, leaves4]
  rw [show (dats m hO 0 c).Φ t.castSucc = iprop(Pipeline.ΦA spec0 c ∗ Pipeline.ΦT pre0 (tbl m) c) from rfl, tabs_eq]
  unfold outAt
  by_cases h1 : k0_cond1 (grid0.coords t) (count c (tbl m 2)) = 1#1
  · rw [dif_pos h1]
    iintro ⟨⟨HΦ, ⟨HT0, HT1, HT2⟩⟩, Ho, ⟨%d0, H0⟩, ⟨%d1, H1⟩, ⟨%d2, H2⟩, ⟨%d3, H3⟩, ⟨%d4, H4⟩⟩
    iapply ((runA c (grid0.coords t) _ _ _ _ _ _ _ _ _ _ (iblk m hO c 0 t) (iblk m hO c 1 t) (iblk m hO c 2 t) (iblk m hO c 3 t) (tbl m 0) (tbl m 1) (tbl m 2) h1 (fun h => (cond2_iff _ _).mp h h1)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    isplitl [HT2]; · iexact HT2
    iintro ⟨H0, H1, H2, H3, ⟨%e4, H4⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c _ _ _ _ _ _ _ _ _ _ _ _ _ _ _ _ _ _ _ _)
  · rw [dif_neg h1]
    iintro ⟨⟨HΦ, ⟨HT0, HT1, HT2⟩⟩, Ho, ⟨%d0, H0⟩, ⟨%d1, H1⟩, ⟨%d2, H2⟩, ⟨%d3, H3⟩, ⟨%d4, H4⟩⟩
    iapply ((runB c (grid0.coords t) _ _ _ _ _ _ _ _ _ _ (iblk m hO c 0 t) (iblk m hO c 1 t) (iblk m hO c 2 t) (iblk m hO c 3 t) (tbl m 0) (tbl m 1) (tbl m 2) h1 ((cond2_iff _ _).mpr h1)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    isplitl [HT2]; · iexact HT2
    iintro ⟨H0, H1, H2, H3, ⟨%e4, H4⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c _ _ _ _ _ _ _ _ _ _ _ _ _ _ _ _ _ _ _ _)

/-- The body table's row at a point is the body there. -/
theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The obligation of the body, at every point. -/
theorem obligation (hO : Ok m) (c : Dev nD) : BodyObligation (dats (F := F) m hO 0 c) (defs₀ (F := F)) Variants.none () Set.univ := fun t => by
  rw [bigSep_W0, bigSep_W0, defs_row m hO]
  exact triple_restated (sound m hO c t) rfl .rfl fun _ => .rfl

set_option backward.isDefEq.respectTransparency.types false in
/-- The run: every array ends as the pipeline computes it from the proof data, and no counter is left. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The frame: the arguments end as launched, and no counter is left. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨kept m hO (dats m hO) (A_eq m hO) r h.1, h.2⟩) (run_quiescent m ρ hO)

end Cert.Kernel3Ideal.Experts

end
-- ==== Proof.Experts.Ranges.lean ====
/- The blocks of a grid point from the tables: point `n` works on row block `blk_src n` with the weights of expert `blk_e n`. The
   precondition says that both are numbers of blocks that there are, so that the pipeline's blocks lie inside the arrays. -/
module

public import proofs.«01_k».proof.Proof.Experts.Kit
public import proofs.«01_k».proof.Proof.Gen.Pre_in_range
public import proofs.«01_k».proof.Defs
public import Idealize.ShloMosaic.PureOps.Reduce
public import Idealize.ShloMosaic.Lib.ReduceAll
public import Idealize.ShloMosaic.Lib.Pipeline.ValueKit

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic

variable {F : FTy → Type} [FloatOps F]

/-- A table's word. -/
abbrev word (T : IVec S276 32) (n : Fin 276) : BitVec 32 := T (ix1 n)

/-- The place that a point's load from a table reads. -/
theorem place (i : grid0.Coords) :
    (Rect.unit (s := S276) (k0_off1 i) S1.size (k0_off1_inb i)).point numel1_S1 = ix1 (i 0) := by
  have h : (i 0).val < 276 := (i 0).isLt
  funext a
  match a with
  | ⟨0, _⟩ =>
    refine Fin.ext ?_
    show (BitVec.ofNat 32 (i 0).val).toNat + 0 * 1 = (i 0).val
    rw [BitVec.toNat_ofNat]
    omega

/-- The index maps. -/
theorem map0 (pf : pre0.Contents (Elt F)) (i : grid0.Coords) :
    cc0_transform_0 k0_off1_inb numel1_S1 pf i = ![(word (pf 1) (i 0)).toNat, 0] :=
  congrArg (fun x : S276.Idx => ![((pf 1 : IVec S276 32) x).toNat, 0]) (place i)
theorem map1 (pf : pre0.Contents (Elt F)) (i : grid0.Coords) :
    cc0_transform_1 k0_off1_inb numel1_S1 pf i = ![(word (pf 0) (i 0)).toNat, 0, 0] :=
  congrArg (fun x : S276.Idx => ![((pf 0 : IVec S276 32) x).toNat, 0, 0]) (place i)
theorem map2 (pf : pre0.Contents (Elt F)) (i : grid0.Coords) :
    cc0_transform_2 k0_off1_inb numel1_S1 pf i = ![(word (pf 0) (i 0)).toNat, 0, 0] :=
  congrArg (fun x : S276.Idx => ![((pf 0 : IVec S276 32) x).toNat, 0, 0]) (place i)
theorem map3 (pf : pre0.Contents (Elt F)) (i : grid0.Coords) :
    cc0_transform_3 k0_off1_inb numel1_S1 pf i = ![(word (pf 0) (i 0)).toNat, 0, 0] :=
  congrArg (fun x : S276.Idx => ![((pf 0 : IVec S276 32) x).toNat, 0, 0]) (place i)

/-- Blocks of the weights. -/
theorem weights_in (e : ℕ) (he : e < 16) (t : Fin 3 → ℕ) (ht : t = ![e, 0, 0]) :
    ∃ h : (∀ a, (t a + 1) * S1x1024x1024.size a ≤ S16x1024x1024.size a),
      EltTy.bits .bf16 = 32 ∨ (Rect.block (s := S16x1024x1024) S1x1024x1024.size t h).WholeWords (EltTy.packing .bf16) := by
  subst ht
  refine ⟨fun a => ?_, .inr (.inr ⟨by decide, rfl, rfl, rfl⟩)⟩
  match a with
  | ⟨0, _⟩ => show (e + 1) * 1 ≤ 16; omega
  | ⟨1, _⟩ => show (0 + 1) * 1024 ≤ 1024; omega
  | ⟨2, _⟩ => show (0 + 1) * 1024 ≤ 1024; omega

/-- Blocks of the rows. -/
theorem rows_in (s : ℕ) (hs : s < 276) (t : Fin 2 → ℕ) (ht : t = ![s, 0]) :
    ∃ h : (∀ a, (t a + 1) * S256x1024.size a ≤ S70656x1024.size a),
      EltTy.bits .f32 = 32 ∨ (Rect.block (s := S70656x1024) S256x1024.size t h).WholeWords (EltTy.packing .f32) := by
  subst ht
  refine ⟨fun a => ?_, .inl rfl⟩
  match a with
  | ⟨0, _⟩ => show (s + 1) * 256 ≤ 70656; omega
  | ⟨1, _⟩ => show (0 + 1) * 1024 ≤ 1024; omega

/-- Tables whose words are in range are ones that the pipeline runs at. -/
theorem ok_of_lt (m : (ℓ : Loc nD τ sig) → Buf (Elt F) ℓ) (h0 : ∀ n, (word (tbl m 0) n).toNat < 16) (h1 : ∀ n, (word (tbl m 1) n).toNat < 276) : Ok m :=
  ⟨fun i => rows_in _ (h1 (i 0)) _ (map0 _ i), fun i => weights_in _ (h0 (i 0)) _ (map1 _ i),
    fun i => weights_in _ (h0 (i 0)) _ (map2 _ i), fun i => weights_in _ (h0 (i 0)) _ (map3 _ i)⟩

/-- A word that is at least 0 and below `n`, read signed, is below `n`. -/
theorem lt_of_cmp (x : BitVec 32) (n : ℕ) (hn : n < 2 ^ 31) (e : IntOp.andi (IntOp.cmpi .sge x 0#32) (IntOp.cmpi .slt x (BitVec.ofNat 32 n)) = 1#1) :
    x.toNat < n := by
  obtain ⟨e0, e1⟩ := IntOp.andi_eq_one.mp e
  have f0 : (0#32).sle x = true := by
    revert e0; show BitVec.ofBool ((0#32).sle x) = 1#1 → _; cases (0#32).sle x <;> decide
  have f1 : x.slt (BitVec.ofNat 32 n) = true := by
    revert e1; show BitVec.ofBool (x.slt (BitVec.ofNat 32 n)) = 1#1 → _; cases x.slt (BitVec.ofNat 32 n) <;> decide
  rw [BitVec.sle_iff_toInt_le] at f0
  rw [BitVec.slt_iff_toInt_lt] at f1
  simp only [BitVec.toInt_eq_toNat_cond, BitVec.toNat_ofNat] at f0 f1
  have := x.isLt
  have hn' : n % 2 ^ 32 = n := by omega
  rw [hn'] at f1
  split at f0 <;> split at f1 <;> omega

/-- What the precondition says of the tables. -/
theorem range_of_pre (a0 a1 : IVec S276 32) (a2 : IVec S1 32) (a3 : FVec F S70656x1024 .f32) (a4 a5 a6 : FVec F S16x1024x1024 .bf16)
    (h : Cert.Pre_in_range.fn (F := F) a0 a1 a2 a3 a4 a5 a6 = fun _ => 1#1) :
    (∀ n, (word a0 n).toNat < 16) ∧ ∀ n, (word a1 n).toNat < 276 := by
  have e := congrFun h (fun a => a.elim0)
  obtain ⟨e0, e1⟩ := IntOp.andi_eq_one.mp e
  exact ⟨fun n => lt_of_cmp _ 16 (by norm_num) (Host.reduce_andi_all _ _ _ _ _ e0 (ix1 n)),
    fun n => lt_of_cmp _ 276 (by norm_num) (Host.reduce_andi_all _ _ _ _ _ e1 (ix1 n))⟩

end Cert.Kernel3Ideal.Experts

end
-- ==== Proof.Experts.Bits.lean ====
/- The experts over the machine's floats are the same text as the experts over the ideal floats, so their frame is the same. -/
module

public import proofs.«01_k».proof.Proof.Experts.Frame
public import proofs.«01_k».proof.Proof.Experts.Ranges
public import proofs.«01_k».proof.Proof.Gen.Kernel3
public import proofs.«01_k».proof.Defs

@[expose] public section

set_option maxRecDepth 16384

noncomputable section

namespace Cert.Kernel3.Experts

open Idealize.ShloMosaic Idealize.ShloMosaic.TcCoe Idealize.SL.Sem
open Cert.Kernel3 Cert.Kernel3.Gen

/-- The two body tables hold the same body. -/
theorem defs0_eq : (defs₀ (F := Bits)) = Cert.Kernel3Ideal.defs₀ (F := Bits) := by
  refine congrArg Defs.onTc (funext fun l => ?_)
  match l with
  | ⟨0, _⟩ => exact funext fun a => rfl

/-- The two tables of the regions' bodies are the same. -/
theorem defs_eq : (defs (F := Bits)) = Cert.Kernel3Ideal.defs (F := Bits) :=
  congrArg (Pipeline.defs (pcfgs (F := Bits))) defs0_eq

/-- So the runs are the same. -/
theorem run_eq (s) (Q) : θ_run (defs (F := Bits)) (onTc (τ := τ) (main (F := Bits))) s Q
    = θ_run (Cert.Kernel3Ideal.defs (F := Bits)) (onTc (τ := Cert.Kernel3Ideal.τ) (Cert.Kernel3Ideal.main (F := Bits))) s Q :=
  congrArg (fun D => θ_run D (onTc (τ := τ) (main (F := Bits))) s Q) defs_eq

/-- The experts' frame. -/
theorem frame : Cert.quiescent_Kernel3 := fun m ρ hpre =>
  have h := Cert.Kernel3Ideal.Experts.range_of_pre _ _ _ _ _ _ _ (hpre 0)
  (run_eq _ _).mpr (Cert.Kernel3Ideal.Experts.frame (F := Bits) m ρ (Cert.Kernel3Ideal.Experts.ok_of_lt m h.1 h.2))

end Cert.Kernel3.Experts

end
-- ==== Proof.Experts.Values.lean ====
/- What a grid point of the experts leaves in its output block: its expert's rows where the block holds tokens, and zeros elsewhere. -/
module

public import proofs.«01_k».proof.Proof.Experts.Frame
public import Idealize.ShloMosaic.Lib.Pipeline.Value
public import Idealize.ShloMosaic.Lib.Pipeline.ValueKit
public import Idealize.ShloMosaic.Lib.IdealHost
public import Idealize.ShloMosaic.Lib.Pointwise

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic

variable {F : FTy → Type} [FloatOps F]

section
variable (m : (ℓ : Loc nD τ sig) → Buf (Elt F) ℓ)

/-- At a block that holds tokens, the expert's rows. -/
theorem outAt_pos (hO : Ok m) (c : Dev nD) (t : Fin (cfgM m hO).N) (h1 : k0_cond1 (grid0.coords t) (count c (tbl m 2)) = 1#1) :
    outAt m hO c t = k0_pay1 (iblk m hO c 0 t) (iblk m hO c 1 t) (iblk m hO c 2 t) (iblk m hO c 3 t) := by
  unfold outAt
  rw [dif_pos h1]
  frame_open
  frame_out
  refine congr (congr (congr (congrArg _ ?_) ?_) ?_) ?_
  · exact (hs0 m hO t).read_unread _
  · exact (hs1 m hO t).read_unread _
  · exact (hs2 m hO t).read_unread _
  · exact (hs3 m hO t).read_unread _

/-- At one that holds none, zeros. -/
theorem outAt_neg (hO : Ok m) (c : Dev nD) (t : Fin (cfgM m hO).N) (h1 : ¬k0_cond1 (grid0.coords t) (count c (tbl m 2)) = 1#1) :
    outAt m hO c t = k0_pay2 (F := F) := by
  unfold outAt
  rw [dif_neg h1]
  frame_open
  frame_out

end

/-- An expert's row: `silu (x·wg) * (x·wu)`, times `wd`. -/
def expert (x : Fin 1024 → EReal) (wg wu wd : Fin 1024 → Fin 1024 → EReal) (n : Fin 1024) : EReal :=
  ∑ f : Fin 1024, (∑ d : Fin 1024, x d * wg d f) * Ideal.logistic (∑ d : Fin 1024, x d * wg d f) * (∑ d : Fin 1024, x d * wu d f) * wd f n

theorem pay1_apply (x : Vec Ideal S256x1024 .f32) (wg wu wd : Vec Ideal S1x1024x1024 .bf16) (y : S256x1024.Idx) :
    k0_pay1 x wg wu wd y = expert (fun d => x (ix2 (y 0) d)) (fun d f => wg (ix3 0 d f)) (fun d f => wu (ix3 0 d f)) (fun d f => wd (ix3 0 d f)) (y 1) := by
  unfold expert
  pointwise [k0_pay1]

theorem pay2_apply (y : S256x1024.Idx) : k0_pay2 (F := Ideal) y = 0 := by
  pointwise [k0_pay2]

end Cert.Kernel3Ideal.Experts

end
-- ==== Proof.Experts.Blocks.lean ====
/- The blocks that the pipeline hands to a grid point, from the arguments: the rows' block that one table names and the weights of the expert
   that the other names; and the places that the points write, one block each. -/
module

public import proofs.«01_k».proof.Proof.Experts.Values
public import proofs.«01_k».proof.Proof.Experts.Ranges

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic

/-- A point's coordinate is its number. -/
theorem coord_val : ∀ t : Fin grid0.N, (grid0.coords t 0).val = t.val := by decide +kernel
theorem coord (t : Fin grid0.N) : grid0.coords t 0 = (⟨t.val, t.isLt⟩ : Fin 276) := Fin.ext (coord_val t)
theorem out_at : ∀ t : Fin grid0.N, cc0_transform_4 (grid0.coords t) = ![t.val, 0] := by decide +kernel

variable (m : (ℓ : Loc nD τ sig) → Buf (Elt Ideal) ℓ) (hO : Ok m)

/-- The index maps. -/
theorem idx0 (t : Fin (cfgM m hO).N) : ((cfgM m hO).win 0).index t = ![(word (tbl m 1) ⟨t.val, t.isLt⟩).toNat, 0] := by
  have h := map0 (tbl m) (grid0.coords t)
  rw [coord t] at h
  exact h
theorem idx1 (t : Fin (cfgM m hO).N) : ((cfgM m hO).win 1).index t = ![(word (tbl m 0) ⟨t.val, t.isLt⟩).toNat, 0, 0] := by
  have h := map1 (tbl m) (grid0.coords t)
  rw [coord t] at h
  exact h
theorem idx2 (t : Fin (cfgM m hO).N) : ((cfgM m hO).win 2).index t = ![(word (tbl m 0) ⟨t.val, t.isLt⟩).toNat, 0, 0] := by
  have h := map2 (tbl m) (grid0.coords t)
  rw [coord t] at h
  exact h
theorem idx3 (t : Fin (cfgM m hO).N) : ((cfgM m hO).win 3).index t = ![(word (tbl m 0) ⟨t.val, t.isLt⟩).toNat, 0, 0] := by
  have h := map3 (tbl m) (grid0.coords t)
  rw [coord t] at h
  exact h
theorem idx4 (t : Fin (cfgM m hO).N) : ((cfgM m hO).win 4).index t = ![t.val, 0] := out_at t

/-- Every point writes its block back. -/
theorem flushed : ∀ t : Fin grid0.N, Pipeline.Window.flushOf grid0 true cc0_transform_4 t = true := by decide +kernel

/-- Every point's block is written back, and the blocks are the whole result. -/
theorem covers : ((cfgM m hO).win 4).Covers := by
  refine ⟨fun a => ?_, fun β => ?_⟩
  · match a with
    | ⟨0, _⟩ => show 0 < 256; omega
    | ⟨1, _⟩ => show 0 < 1024; omega
  · have h0 : (β (0 : Fin 2)).val < (70656 + 256 - 1) / 256 := (β (0 : Fin 2)).isLt
    have h1 : (β (1 : Fin 2)).val < (1024 + 1024 - 1) / 1024 := (β (1 : Fin 2)).isLt
    refine ⟨(⟨(β (0 : Fin 2)).val, by omega⟩ : Fin 276), flushed _, fun a => ⟨?_, Or.inl rfl⟩⟩
    refine (congrFun (idx4 m hO _) a).trans ?_
    match a with
    | ⟨0, _⟩ => rfl
    | ⟨1, _⟩ => show 0 = (β (1 : Fin 2)).val; omega

/-- The rows' block, -/
theorem blk0 (c : Dev nD) (t : Fin (cfgM m hO).N) (s : Fin 276) (hs : (word (tbl m 1) ⟨t.val, t.isLt⟩).toNat = s.val) (y : S256x1024.Idx) :
    iblk m hO c 0 t y = V m c main_arg3 (ix2 ⟨s.val * 256 + (y 0).val, by have h := s.isLt; have h' : (y 0).val < 256 := (y 0).isLt; omega⟩ (y 1)) := by
  blk_ext [iblk, idx0 m hO t, hs]

/-- and the weights of the expert. -/
theorem blk1 (c : Dev nD) (t : Fin (cfgM m hO).N) (e : Fin 16) (he : (word (tbl m 0) ⟨t.val, t.isLt⟩).toNat = e.val) (y : S1x1024x1024.Idx) :
    iblk m hO c 1 t y = V m c main_arg4 (ix3 e (y 1) (y 2)) := by
  blk_ext [iblk, idx1 m hO t, he]

theorem blk2 (c : Dev nD) (t : Fin (cfgM m hO).N) (e : Fin 16) (he : (word (tbl m 0) ⟨t.val, t.isLt⟩).toNat = e.val) (y : S1x1024x1024.Idx) :
    iblk m hO c 2 t y = V m c main_arg5 (ix3 e (y 1) (y 2)) := by
  blk_ext [iblk, idx2 m hO t, he]

theorem blk3 (c : Dev nD) (t : Fin (cfgM m hO).N) (e : Fin 16) (he : (word (tbl m 0) ⟨t.val, t.isLt⟩).toNat = e.val) (y : S1x1024x1024.Idx) :
    iblk m hO c 3 t y = V m c main_arg6 (ix3 e (y 1) (y 2)) := by
  blk_ext [iblk, idx3 m hO t, he]

end Cert.Kernel3Ideal.Experts

end
-- ==== Proof.Experts.Ref.lean ====
/- The reference's result at an index: a row of the row block that the table names, through the expert that the other table names. -/
module

public import proofs.«01_k».proof.Proof.Gen.Reference3Ideal.Read
public import Idealize.ShloMosaic.PureOps.Reduce
public import Idealize.ShloMosaic.Lib.Pipeline.Value
public import Idealize.ShloMosaic.Lib.IdealHost
public import Idealize.ShloMosaic.Lib.Pipeline.ValueKit
public import Idealize.ShloMosaic.Lib.Pointwise

@[expose] public section

set_option maxRecDepth 16384

noncomputable section

namespace Cert.ExpertRef

open Cert.Reference3Ideal Cert.Reference3Ideal.Read
open Idealize.ShloMosaic Idealize.ShloMosaic.TcCoe Idealize.ShloMosaic.Tactic

/-- A row through an expert: `silu (x·wg) * (x·wu)`, times `wd`. -/
def expert (x : Fin 1024 → EReal) (wg wu wd : Fin 1024 → Fin 1024 → EReal) (n : Fin 1024) : EReal :=
  ∑ f : Fin 1024, (∑ d : Fin 1024, x d * wg d f) * Ideal.div 1 (1 + Ideal.exp (-∑ d : Fin 1024, x d * wg d f)) * (∑ d : Fin 1024, x d * wu d f)
    * wd f n

/-- The dimension numbers of a gather of whole matrices `[A, B]` out of `N` of them, by `n` numbers. -/
abbrev matDims (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Matrices gathered by their numbers, read at an index: matrix `b` where the number is `b`. -/
theorem gather_block {α : Type} {N A B n : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (y : Fin A) (z : Fin B) (b : Fin N)
    (hb : (idx (ix2 c 0)).toInt = b.val) : Host.gather (matDims N A B n wf) x idx (ix3 c y z) = x (ix3 b y z) := by
  unfold Host.gather
  refine congrArg x (funext fun a => Fin.ext ?_)
  show (matDims N A B n wf).start (ix3 c y z) idx a + (matDims N A B n wf).batchCoord (ix3 c y z) a
      + (matDims N A B n wf).offCoord (ix3 c y z) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (matDims N A B n wf).startIndexMap from List.mem_singleton.mpr rfl)]
    have hsi : (matDims N A B n wf).siIdx (ix3 c y z) ⟨List.idxOf (0 : Fin 3) (matDims N A B n wf).startIndexMap,
        List.idxOf_lt_length_iff.2 (List.mem_singleton.mpr rfl)⟩ = ix2 c (0 : Fin 1) := by
      funext b'
      apply Fin.ext
      match b' with
      | ⟨0, _⟩ => rfl
      | ⟨1, _⟩ => rfl
    rw [hsi, hb]
    have hbl := b.isLt
    show min ((b.val : Int)).toNat (N - 1) = b.val
    omega
  · unfold GatherDims.start
    rw [dif_neg (show ¬(1 : Fin 3) ∈ (matDims N A B n wf).startIndexMap from fun h => by simp at h), Nat.zero_add]
    rfl
  · unfold GatherDims.start
    rw [dif_neg (show ¬(2 : Fin 3) ∈ (matDims N A B n wf).startIndexMap from fun h => by simp at h), Nat.zero_add]
    rfl

variable (x0 x1 : IVec S276 32) (x2 : IVec S1 32) (x3 : S70656x1024.Idx → EReal) (x4 x5 x6 : S16x1024x1024.Idx → EReal)

/-- What the reference computes: zeros in a block past the last that holds tokens, and elsewhere the row of the block that `x1` names
    through the expert that `x0` names. -/
def goal (e : Fin 276 → Fin 16) (s : Fin 276 → Fin 276) (i : S70656x1024.Idx) : EReal :=
  let n : Fin 276 := ⟨(i 0).val / 256, by have h : (i 0).val < 70656 := (i 0).isLt; omega⟩
  if IntOp.cmpi .slt (BitVec.ofNat 32 n.val) (x2 (ix1 0)) = 1#1 then
    expert (fun d => x3 (ix2 ⟨(s n).val * 256 + (i 0).val % 256, by have h := (s n).isLt; omega⟩ d)) (fun d f => x4 (ix3 (e n) d f)) (fun d f => x5 (ix3 (e n) d f))
      (fun d f => x6 (ix3 (e n) d f)) (i 1)
  else 0

/-- A table's word that is a number, as the reference reads it: not negative, so taken as it is. -/
theorem wrap (w k : BitVec 32) (n : ℕ) (hn : n < 2 ^ 31) (hw : w.toNat = n) :
    (Scalar.select (IntOp.cmpi .slt w 0#32) (IntOp.addi w k) w).toInt = n := by
  have h : w.toInt = n := by rw [BitVec.toInt_eq_toNat_cond]; omega
  have f : w.slt 0#32 = false := by
    rw [Bool.eq_false_iff]
    intro f
    rw [BitVec.slt_iff_toInt_lt, h] at f
    simp at f
    omega
  show (Scalar.select (BitVec.ofBool (w.slt 0#32)) (IntOp.addi w k) w).toInt = n
  rw [f]
  exact h

theorem rows (s : Fin 276 → Fin 276) (hs : ∀ n, (x1 (ix1 n)).toNat = (s n).val) (n : Fin 276) (r : Fin 256) (d : Fin 1024) :
    val_main_v10 (F := Ideal) x1 x3 (ix3 n r d) = x3 (ix2 ⟨(s n).val * 256 + r.val, by have h := (s n).isLt; omega⟩ d) := by
  unfold val_main_v10
  refine (gather_block _ _ _ n r d (s n) ?_).trans ?_
  · refine Eq.trans ?_ (wrap (x1 (ix1 n)) 276#32 _ (by have h := (s n).isLt; omega) (hs n))
    pointwise [val_main_v9, val_main_v8, val_main_v7, val_main_v6, val_main_v5, val_main_v4, val_main_c, val_main_c_0]
  · pointwise [val_main_v0]

theorem gates (e : Fin 276 → Fin 16) (he : ∀ n, (x0 (ix1 n)).toNat = (e n).val) (n : Fin 276) (r : Fin 1024) (d : Fin 1024) :
    val_main_v17 (F := Ideal) x0 x4 (ix3 n r d) = x4 (ix3 (e n) r d) := by
  unfold val_main_v17
  refine (gather_block _ _ _ n r d (e n) ?_).trans ?_
  · refine Eq.trans ?_ (wrap (x0 (ix1 n)) 16#32 _ (by have h := (e n).isLt; omega) (he n))
    pointwise [val_main_v16, val_main_v15, val_main_v14, val_main_v13, val_main_v12, val_main_v11, val_main_c_1, val_main_c_2]
  · pointwise [val_main_v1]

theorem ups (e : Fin 276 → Fin 16) (he : ∀ n, (x0 (ix1 n)).toNat = (e n).val) (n : Fin 276) (r : Fin 1024) (d : Fin 1024) :
    val_main_v24 (F := Ideal) x0 x5 (ix3 n r d) = x5 (ix3 (e n) r d) := by
  unfold val_main_v24
  refine (gather_block _ _ _ n r d (e n) ?_).trans ?_
  · refine Eq.trans ?_ (wrap (x0 (ix1 n)) 16#32 _ (by have h := (e n).isLt; omega) (he n))
    pointwise [val_main_v23, val_main_v22, val_main_v21, val_main_v20, val_main_v19, val_main_v18, val_main_c_3, val_main_c_4]
  · pointwise [val_main_v2]

theorem downs (e : Fin 276 → Fin 16) (he : ∀ n, (x0 (ix1 n)).toNat = (e n).val) (n : Fin 276) (r : Fin 1024) (d : Fin 1024) :
    val_main_v31 (F := Ideal) x0 x6 (ix3 n r d) = x6 (ix3 (e n) r d) := by
  unfold val_main_v31
  refine (gather_block _ _ _ n r d (e n) ?_).trans ?_
  · refine Eq.trans ?_ (wrap (x0 (ix1 n)) 16#32 _ (by have h := (e n).isLt; omega) (he n))
    pointwise [val_main_v30, val_main_v29, val_main_v28, val_main_v27, val_main_v26, val_main_v25, val_main_c_5, val_main_c_6]
  · pointwise [val_main_v3]

/-- A row block's product. -/
theorem block (e : Fin 276 → Fin 16) (s : Fin 276 → Fin 276) (he : ∀ n, (x0 (ix1 n)).toNat = (e n).val) (hs : ∀ n, (x1 (ix1 n)).toNat = (s n).val)
    (n : Fin 276) (r : Fin 256) (d : Fin 1024) :
    val_main_v36 (F := Ideal) x0 x1 x3 x4 x5 x6 (ix3 n r d)
      = expert (fun d => x3 (ix2 ⟨(s n).val * 256 + r.val, by have h := (s n).isLt; omega⟩ d)) (fun d f => x4 (ix3 (e n) d f)) (fun d f => x5 (ix3 (e n) d f))
          (fun d f => x6 (ix3 (e n) d f)) d := by
  unfold expert
  simp only [← rows x1 x3 s hs, ← gates x0 x4 e he, ← ups x0 x5 e he, ← downs x0 x6 e he]
  pointwise [val_main_v36, val_main_v35, val_main_v34, val_main_v33, val_main_v32, val_main_call0_v5, val_main_call0_v4, val_main_call0_v3, val_main_call0_v2, val_main_call0_v1, val_main_call0_v0, val_main_call0_cst, val_main_call0_cst_0]

/-- The whole result. -/
theorem result (e : Fin 276 → Fin 16) (s : Fin 276 → Fin 276) (he : ∀ n, (x0 (ix1 n)).toNat = (e n).val) (hs : ∀ n, (x1 (ix1 n)).toNat = (s n).val)
    (i : S70656x1024.Idx) : val_main_v42 (F := Ideal) x0 x1 x2 x3 x4 x5 x6 i = goal x2 x3 x4 x5 x6 e s i := by
  have h0 : (i 0).val < 70656 := (i 0).isLt
  have h1 : (i 1).val < 1024 := (i 1).isLt
  unfold goal
  pointwise [val_main_v42, val_main_v41, val_main_call1_v2, val_main_call1_v1, val_main_call1_v0, val_main_cst, val_main_v40, val_main_v39, val_main_v38, val_main_v37]
  refine (congrArg (fun z : EReal => Scalar.select _ z _) (block x0 x1 x3 x4 x5 x6 e s he hs _ _ _)).trans ?_
  unfold Scalar.select
  refine if_congr Iff.rfl rfl ?_
  exact Ideal.ofBits_zero_f32

end Cert.ExpertRef

end
-- ==== Proof.Experts.Result.lean ====
/- The experts' result array: every point's block holds the rows of its row block through its expert, or zeros. -/
module

public import proofs.«01_k».proof.Proof.Experts.Blocks
public import proofs.«01_k».proof.Proof.Experts.Ref
public import proofs.«01_k».proof.Defs
public import proofs.«01_k».proof.Proof.Gen.Reference3Ideal.Run
public import Idealize.ShloMosaic.Lib.Claim

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Cert.ExpertRef (goal)

variable (m : (ℓ : Loc nD τ sig) → Buf (Elt Ideal) ℓ)

/-- The arguments as launched: the tables, -/
abbrev argE (c : Dev nD) : IVec S276 32 := m ((c : Thread nD τ).loc main_arg0)
abbrev argS (c : Dev nD) : IVec S276 32 := m ((c : Thread nD τ).loc main_arg1)
abbrev argN (c : Dev nD) : IVec S1 32 := m ((c : Thread nD τ).loc main_arg2)
/-- the rows and the weights. -/
abbrev argX (c : Dev nD) : S70656x1024.Idx → EReal := m ((c : Thread nD τ).loc main_arg3)
abbrev argWg (c : Dev nD) : S16x1024x1024.Idx → EReal := m ((c : Thread nD τ).loc main_arg4)
abbrev argWu (c : Dev nD) : S16x1024x1024.Idx → EReal := m ((c : Thread nD τ).loc main_arg5)
abbrev argWd (c : Dev nD) : S16x1024x1024.Idx → EReal := m ((c : Thread nD τ).loc main_arg6)

/-- The point's condition: its number is below the number of blocks that hold tokens. -/
theorem cond1_iff (i : grid0.Coords) (v : BitVec 32) : k0_cond1 i v = 1#1 ↔ IntOp.cmpi .slt (BitVec.ofNat 32 (i 0).val) v = 1#1 := by
  unfold k0_cond1
  show Scalar.cmpi .ne (Scalar.extui (IntOp.cmpi .slt (BitVec.ofNat 32 (i 0).val) v)) 0#32 = 1#1 ↔ _
  generalize IntOp.cmpi .slt (BitVec.ofNat 32 (i 0).val) v = b
  revert b
  decide

theorem count_eq (c : Dev nD) : count (F := Ideal) c (tbl m 2) = argN m c (ix1 0) := by
  obtain rfl : c = 0 := Subsingleton.elim _ _
  unfold count
  refine congrArg (fun x : S1.Idx => argN m 0 x) (funext fun a => ?_)
  match a with
  | ⟨0, _⟩ => exact Fin.ext (Nat.lt_one_iff.mp (Fin.isLt _))

/-- What a point writes. -/
theorem written (hO : Ok m) (e : Fin 276 → Fin 16) (s : Fin 276 → Fin 276) (he : ∀ n, (word (tbl m 0) n).toNat = (e n).val)
    (hs : ∀ n, (word (tbl m 1) n).toNat = (s n).val) (c : Dev nD) (t : Fin (cfgM m hO).N) (y : S256x1024.Idx) (i : S70656x1024.Idx)
    (h0 : (i 0).val = t.val * 256 + (y 0).val) (h1 : (i 1).val = (y 1).val) :
    outAt m hO c t y = goal (argN m c) (argX m c) (argWg m c) (argWu m c) (argWd m c) e s i := by
  have ht : t.val < 276 := t.isLt
  have hy : (y 0).val < 256 := (y 0).isLt
  have q : (i 0).val / 256 = t.val := by omega
  have r : (i 0).val % 256 = (y 0).val := by omega
  have z : i 1 = y 1 := Fin.ext h1
  have hc := cond1_iff (grid0.coords t) (argN m c (ix1 0))
  rw [coord_val t] at hc
  unfold goal
  simp only [q, r, z]
  by_cases h : k0_cond1 (grid0.coords t) (argN m c (ix1 0)) = 1#1
  · rw [if_pos (hc.mp h), outAt_pos m hO c t (by rw [count_eq]; exact h)]
    refine (pay1_apply _ _ _ _ y).trans ?_
    simp only [blk0 m hO c t (s ⟨t.val, ht⟩) (hs _), blk1 m hO c t (e ⟨t.val, ht⟩) (he _), blk2 m hO c t (e ⟨t.val, ht⟩) (he _),
      blk3 m hO c t (e ⟨t.val, ht⟩) (he _)]
    rfl
  · rw [if_neg (fun h' => h (hc.mpr h')), outAt_neg m hO c t (by rw [count_eq]; exact h)]
    exact pay2_apply y

/-- The array after the run. -/
theorem arr_goal (hO : Ok m) (e : Fin 276 → Fin 16) (s : Fin 276 → Fin 276) (he : ∀ n, (word (tbl m 0) n).toNat = (e n).val)
    (hs : ∀ n, (word (tbl m 1) n).toNat = (s n).val) (c : Dev nD) :
    (dats m hO 0 c).arrAt 4 (cfgM m hO).N = goal (argN m c) (argX m c) (argWg m c) (argWu m c) (argWd m c) e s := by
  refine (dats m hO 0 c).arrAt_eq_of_covers 4 _ (covers m hO) fun t hf y => ?_
  blk_simp
  rw [after4]
  refine written m hO e s he hs c t y _ ?_ ?_
  · blk_simp [idx4 m hO t]
  · blk_simp [idx4 m hO t]

/-- The run, with the result array and the arguments. -/
theorem run_main (ρ) (hO : Ok m) : θ_run defs (onTc (τ := τ) (main (F := Ideal))) ⟨m, fun _ => 0, ρ⟩ (fun r => ∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 4, kept m hO (dats m hO) (A_eq m hO) r h.1 c⟩) (run_quiescent m ρ hO)

end Cert.Kernel3Ideal.Experts

namespace Cert.Proof

open Idealize.ShloMosaic Idealize.ShloMosaic.TcCoe Idealize.ShloMosaic.Tactic Idealize.SL.Sem

/-- The kernel over the reals runs and keeps its arguments. -/
theorem frame3Ideal : Cert.quiescent_Kernel3Ideal := by
  intro m g hpre
  have h := Cert.Kernel3Ideal.Experts.range_of_pre _ _ _ _ _ _ _ (hpre 0)
  exact Cert.Kernel3Ideal.Experts.frame m g (Cert.Kernel3Ideal.Experts.ok_of_lt m h.1 h.2)

/-- The experts and their reference agree over the reals. -/
theorem algebraic3 : Cert.algebraic_Kernel3Ideal_Reference3Ideal := by
  intro m g m' g' hpre hagree
  have hr := Cert.Kernel3Ideal.Experts.range_of_pre _ _ _ _ _ _ _ (hpre 0)
  have hO := Cert.Kernel3Ideal.Experts.ok_of_lt m hr.1 hr.2
  refine ⟨fun c => _, Cert.Kernel3Ideal.Experts.run_main m g hO, ?_⟩
  refine (θ_run Cert.Reference3Ideal.defs _ _).mono (fun r h c => ⟨?_, (h c).2⟩) (Cert.Reference3Ideal.Value.run (F := Ideal) m' g')
  refine (h c).1.trans ?_
  rw [Cert.Reference3Ideal.Read.val_main_v42_eq]
  obtain ⟨h0, h1, h2, h3, h4, h5, h6⟩ := hagree c
  rw [h0, h1, h2, h3, h4, h5, h6]
  obtain rfl : c = 0 := Subsingleton.elim _ _
  refine Eq.trans ?_ (Cert.Kernel3Ideal.Experts.arr_goal m hO (fun n => ⟨_, hr.1 n⟩) (fun n => ⟨_, hr.2 n⟩) (fun _ => rfl) (fun _ => rfl) 0).symm
  funext i
  exact Cert.ExpertRef.result _ _ _ _ _ _ _ _ _ (fun _ => rfl) (fun _ => rfl) i

/-- The reference runs and keeps its arguments; it has no counter. -/
theorem frameRef3 : Cert.quiescent_Reference3Ideal := by
  intro m g _
  exact (θ_run Cert.Reference3Ideal.defs _ _).mono (fun r h => ⟨fun c => (h c).2, sem_eq_zero_of_no_sems (by decide) r.2⟩)
    (Cert.Reference3Ideal.Value.run (F := Ideal) m g)

end Cert.Proof

end
-- ==== Proof.Merge.Bits.lean ====
/- The frame of the merge over the machine's floats. -/
module

public import proofs.«01_k».proof.Proof.Gen.Kernel4.Frame
public import proofs.«01_k».proof.Defs

@[expose] public section

noncomputable section

namespace Cert.Kernel4.Merge

open Idealize.ShloMosaic Idealize.ShloMosaic.TcCoe Idealize.SL.Sem

/-- The merge's frame: it ends, keeps its arguments and leaves its counters at zero. -/
theorem frame : Cert.quiescent_Kernel4 := fun m ρ _ => Cert.Kernel4.Gen.frame (F := Bits) m ρ

end Cert.Kernel4.Merge

end
-- ==== Proof.Merge.Row.lean ====
/- The merge of one token, over the reals: the gated sum of the three mixers' rows, the residual, the norm and its modulation. -/
module

public import Idealize.ShloMosaic.PureOps.Reduce
public import Idealize.ShloMosaic.Lib.IdealHost
public import Idealize.ShloMosaic.Lib.Pointwise

@[expose] public section

noncomputable section

namespace Cert.MergeRef

open Idealize.ShloMosaic

/-- The sum of the three mixers' rows `ya`, `yb`, `yc`, each projected by its weights and gated by the logistic of its gate. -/
def merged (ga gb gc : Fin 1024 → EReal) (ya yb yc : Fin 512 → EReal) (wa wb wc : Fin 512 → Fin 1024 → EReal) (k : Fin 1024) : EReal :=
  Ideal.logistic (ga k) * (∑ c, ya c * wa c k) + Ideal.logistic (gb k) * (∑ c, yb c * wb c k) + Ideal.logistic (gc k) * (∑ c, yc c * wc c k)

/-- The residual row `h` and the merged row `mm` through the weights `wo`, scaled by `g1`. -/
def resRow (h g1 mm : Fin 1024 → EReal) (wo : Fin 1024 → Fin 1024 → EReal) (n : Fin 1024) : EReal :=
  h n + g1 n * ∑ k, mm k * wo k n

/-- A row after the norm with weights `g` and the modulation by `sc` and `sh`. -/
def normed (r g sc sh : Fin 1024 → EReal) (n : Fin 1024) : EReal :=
  r n * Ideal.rsqrt (Ideal.div (∑ e, r e * r e) (Ideal.ofBits .f32 0x44800000#32) + Ideal.ofBits .f32 0x358637BD#32) * g n
    * (Ideal.ofBits .f32 0x3F800000#32 + sc n) + sh n

end Cert.MergeRef

end
-- ==== Proof.Merge.Values.lean ====
/- What a grid point of the merge computes, at one index over the ideal floats: from the blocks of a row block, its rows in two
   halves of 128. -/
module

public import proofs.«01_k».proof.Proof.Gen.Kernel4Ideal.Frame
public import proofs.«01_k».proof.Proof.Merge.Row
public import Idealize.ShloMosaic.Lib.Pipeline.Value
public import Idealize.ShloMosaic.Lib.Pipeline.ValueKit
public import Idealize.ShloMosaic.Lib.IdealHost
public import Idealize.ShloMosaic.Lib.WordCmp

@[expose] public section

set_option maxRecDepth 16384

noncomputable section

namespace Cert.Kernel4Ideal.Merge

open Cert.Kernel4Ideal.Gen
open Idealize.ShloMosaic Idealize.ShloMosaic.TcCoe Idealize.ShloMosaic.Tactic
open Cert.MergeRef

/-- The row block's number within its batch entry, as the words compute it. -/
def blockWord (a : BitVec 32) : BitVec 32 :=
  Scalar.select
    (Scalar.andi
      (Scalar.xori (Scalar.cmpi .slt (Scalar.remsi a (Scalar.select (Scalar.cmpi .eq 65#32 0#32) 1#32 65#32)) 0#32)
        (Scalar.cmpi .slt (Scalar.select (Scalar.cmpi .eq 65#32 0#32) 1#32 65#32) 0#32))
      (Scalar.cmpi .ne (Scalar.remsi a (Scalar.select (Scalar.cmpi .eq 65#32 0#32) 1#32 65#32)) 0#32))
    (Scalar.addi (Scalar.remsi a (Scalar.select (Scalar.cmpi .eq 65#32 0#32) 1#32 65#32)) (Scalar.select (Scalar.cmpi .eq 65#32 0#32) 1#32 65#32))
    (Scalar.remsi a (Scalar.select (Scalar.cmpi .eq 65#32 0#32) 1#32 65#32))

/-- A row block has a row before it in its sequence unless it is the context's or the first of the latent tokens. -/
theorem before_eq : ∀ n : Fin 130, Scalar.cmpi .sgt (blockWord (BitVec.ofNat 32 n.val)) 1#32 = if 1 < n.val % 65 then 1#1 else 0#1 := by
  decide +kernel

/-- It has a row after it unless it is the context's or the last. -/
theorem after_eq : ∀ n : Fin 130, Scalar.andi (Scalar.cmpi .sgt (blockWord (BitVec.ofNat 32 n.val)) 0#32)
    (Scalar.cmpi .slt (blockWord (BitVec.ofNat 32 n.val)) 64#32) = if 0 < n.val % 65 ∧ n.val % 65 < 64 then 1#1 else 0#1 := by
  decide +kernel

theorem pay7_apply (a b : Vec Ideal S256x512 .bf16) (y : S256x512.Idx) : k0_pay7 a b y = a y * b y := by
  pointwise [k0_pay7]

theorem pay8_apply (i : grid0.Coords) (a b : Vec Ideal S1x512 .bf16) (y : S1x512.Idx) :
    k0_pay8 i a b y = if 1 < (i 0).val % 65 then a y * b y else 0 := by
  have e : k0_pay8 i a b = Scalar.select (Scalar.cmpi .sgt (blockWord (BitVec.ofNat 32 (i 0).val)) 1#32)
      (mulf (F := Ideal) (extf .f32 a bitsLt_bf16_f32) (extf .f32 b bitsLt_bf16_f32)) (broadcast S1x512 (Scalar.ofBits .f32 0x00000000#32)) := rfl
  rw [e, before_eq ⟨(i 0).val, (i 0).isLt⟩]
  by_cases h : 1 < (i 0).val % 65
  · simp only [h, if_true]
    pointwise
  · simp only [h, if_false]
    pointwise

theorem pay9_apply (i : grid0.Coords) (a b : Vec Ideal S1x512 .bf16) (y : S1x512.Idx) :
    k0_pay9 i a b y = if 0 < (i 0).val % 65 ∧ (i 0).val % 65 < 64 then a y * b y else 0 := by
  have e : k0_pay9 i a b = Scalar.select (Scalar.andi (Scalar.cmpi .sgt (blockWord (BitVec.ofNat 32 (i 0).val)) 0#32)
        (Scalar.cmpi .slt (blockWord (BitVec.ofNat 32 (i 0).val)) 64#32))
      (mulf (F := Ideal) (extf .f32 a bitsLt_bf16_f32) (extf .f32 b bitsLt_bf16_f32)) (broadcast S1x512 (Scalar.ofBits .f32 0x00000000#32)) := rfl
  rw [e, after_eq ⟨(i 0).val, (i 0).isLt⟩]
  by_cases h : 0 < (i 0).val % 65 ∧ (i 0).val % 65 < 64
  · simp only [h, and_self, if_true]
    pointwise
  · simp only [h, if_false]
    pointwise

/-- The test for row `k` among the rows. -/
theorem row_test (k j : ℕ) (hk : k < 256) (hj : j < 256) :
    IntOp.cmpi .eq (BitVec.ofNat 32 j) (BitVec.ofNat 32 k) = if j = k then 1#1 else 0#1 := by
  have h : (IntOp.cmpi .eq (BitVec.ofNat 32 j) (BitVec.ofNat 32 k) = 1#1) ↔ j = k := by word_cmp
  by_cases h' : j = k
  · rw [if_pos h', h.mpr h']
  · rw [if_neg h']
    have : ¬ IntOp.cmpi .eq (BitVec.ofNat 32 j) (BitVec.ofNat 32 k) = 1#1 := fun e => h' (h.mp e)
    revert this
    generalize IntOp.cmpi .eq (BitVec.ofNat 32 j) (BitVec.ofNat 32 k) = b
    revert b
    decide

/-- The number of each row in its row block. -/
abbrev rows : IVec S256x1 32 := iota .tc S256x1 32 [0] iota_S256x1_d0_w32

/-- The short convolution of the rows `v` with the rows `vp` before and `vn` after them, times the gate `ab`. -/
theorem pay11_apply (v : FVec Ideal S256x512 .f32) (vp vn : FVec Ideal S1x512 .f32) (w0 w1 w2 : Vec Ideal S1x512 .f32)
    (ab : Vec Ideal S256x512 .bf16) (y : S256x512.Idx) :
    k0_pay11 rows v vp vn k0_pay10 w0 w1 w2 ab y
      = ab y * ((if (y 0).val = 0 then vp (ix2 0 (y 1)) else v (ix2 ⟨((y 0).val + 255) % 256, Nat.mod_lt _ (by decide)⟩ (y 1))) * w0 (ix2 0 (y 1))
          + v y * w1 (ix2 0 (y 1))
          + (if (y 0).val = 255 then vn (ix2 0 (y 1)) else v (ix2 ⟨((y 0).val + 1) % 256, Nat.mod_lt _ (by decide)⟩ (y 1))) * w2 (ix2 0 (y 1))) := by
  have h0 : (y 0).val < 256 := (y 0).isLt
  pointwise [k0_pay11, k0_pay10, rows]
  rw [row_test 0 _ (by decide) h0, row_test 255 _ (by decide) h0]
  have e : (ix2 ⟨((y 0).val + 256 - 1) % 256, Nat.mod_lt _ (by decide)⟩ (y 1) : S256x512.Idx) = ix2 ⟨((y 0).val + 255) % 256, Nat.mod_lt _ (by decide)⟩ (y 1) := rfl
  have e' : (ix2 ⟨((y 0).val + 256 - 255) % 256, Nat.mod_lt _ (by decide)⟩ (y 1) : S256x512.Idx) = ix2 ⟨((y 0).val + 1) % 256, Nat.mod_lt _ (by decide)⟩ (y 1) := rfl
  rw [e, e']
  by_cases ha : (y 0).val = 0
  · rw [if_pos ha, if_pos ha, if_neg (by omega), if_neg (by omega)]; rfl
  · rw [if_neg ha, if_neg ha]
    by_cases hb : (y 0).val = 255
    · rw [if_pos hb, if_pos hb]; rfl
    · rw [if_neg hb, if_neg hb]; rfl

variable (n : ℕ) (x0 : Vec Ideal S256x1024 .f32) (x1 x2 x3 : Vec Ideal S256x1024 .bf16) (x4 x5 x6 : Vec Ideal S256x512 .bf16)
  (x7 x8 x9 x10 : Vec Ideal S16x512 .bf16) (x11 : Vec Ideal S256x512 .bf16) (x12 : Vec Ideal S512x256 .bf16) (x13 : Vec Ideal S3x512 .f32)
  (x14 x15 x16 : Vec Ideal S512x1024 .bf16) (x17 : Vec Ideal S1024x1024 .bf16) (x18 : Vec Ideal S1x1x6x1024 .f32) (x19 : Vec Ideal S1x1024 .f32)
  (x20 : Vec Ideal S16x1024 .f32) (x21 : Vec Ideal S16x1 .f32)

/-- The gated convolution of row `r` of row block `n`. -/
def convBlk (r : Fin 256) (c : Fin 512) : EReal :=
  x5 (ix2 r c) * ((if r.val = 0 then (if 1 < n % 65 then x8 (ix2 15 c) * x7 (ix2 15 c) else 0)
        else x6 (ix2 ⟨(r.val + 255) % 256, Nat.mod_lt _ (by decide)⟩ c) * x4 (ix2 ⟨(r.val + 255) % 256, Nat.mod_lt _ (by decide)⟩ c)) * x13 (ix2 0 c)
    + x6 (ix2 r c) * x4 (ix2 r c) * x13 (ix2 1 c)
    + (if r.val = 255 then (if 0 < n % 65 ∧ n % 65 < 64 then x10 (ix2 0 c) * x9 (ix2 0 c) else 0)
        else x6 (ix2 ⟨(r.val + 1) % 256, Nat.mod_lt _ (by decide)⟩ c) * x4 (ix2 ⟨(r.val + 1) % 256, Nat.mod_lt _ (by decide)⟩ c)) * x13 (ix2 2 c))

/-- The gated convolution of a row block, as the kernel's values. -/
abbrev gated (i : grid0.Coords) : FVec Ideal S256x512 .bf16 :=
  k0_pay11 rows (k0_pay7 (View.ld x6 r0_0) (View.ld x4 r0_0)) (k0_pay8 i (View.ld x8 r0_1) (View.ld x7 r0_1))
    (k0_pay9 i (View.ld x10 r0_2) (View.ld x9 r0_2)) k0_pay10 (View.ld x13 r0_3) (View.ld x13 r0_4) (View.ld x13 r0_5) (View.ld x5 r0_0)

theorem gated_apply (i : grid0.Coords) (r : Fin 256) (c : Fin 512) :
    gated x4 x5 x6 x7 x8 x9 x10 x13 i (ix2 r c) = convBlk (i 0).val x4 x5 x6 x7 x8 x9 x10 x13 r c := by
  refine (pay11_apply _ _ _ _ _ _ _ _).trans ?_
  simp only [pay7_apply, pay8_apply, pay9_apply]
  unfold convBlk
  pointwise

/-- The merged row `r`. -/
def mergedBlk (r : Fin 256) (k : Fin 1024) : EReal :=
  merged (fun k => x1 (ix2 r k)) (fun k => x2 (ix2 r k)) (fun k => x3 (ix2 r k)) (convBlk n x4 x5 x6 x7 x8 x9 x10 x13 r)
    (fun c => x11 (ix2 r c)) (fun c => x12 (ix2 c r)) (fun c k => x14 (ix2 c k)) (fun c k => x15 (ix2 c k)) (fun c k => x16 (ix2 c k)) k

/-- The residual row `r`. -/
def residualBlk (r : Fin 256) (d : Fin 1024) : EReal :=
  resRow (fun d => x0 (ix2 r d)) (fun d => x18 (ix4 0 0 2 d)) (mergedBlk n x1 x2 x3 x4 x5 x6 x7 x8 x9 x10 x11 x12 x13 x14 x15 x16 r)
    (fun k d => x17 (ix2 k d)) d

/-- The normed row `r`. -/
def normedBlk (r : Fin 256) (d : Fin 1024) : EReal :=
  normed (residualBlk n x0 x1 x2 x3 x4 x5 x6 x7 x8 x9 x10 x11 x12 x13 x14 x15 x16 x17 x18 r) (fun d => x19 (ix2 0 d))
    (fun d => x18 (ix4 0 0 4 d)) (fun d => x18 (ix4 0 0 3 d)) d

/-- The products with the mixers' weights. -/
theorem pay14_apply (u : FVec Ideal S256x512 .bf16) (w : Vec Ideal S512x1024 .bf16) (y : S128x1024.Idx) :
    k0_pay14 u w y = ∑ c : Fin 512, u (ix2 ⟨128 + (y 0).val, by have h : (y 0).val < 128 := (y 0).isLt; omega⟩ c) * w (ix2 c (y 1)) := by
  pointwise [k0_pay14]

theorem pay13_apply (u : Vec Ideal S128x512 .bf16) (w : Vec Ideal S512x1024 .bf16) (y : S128x1024.Idx) :
    k0_pay13 u w y = ∑ c : Fin 512, u (ix2 (y 0) c) * w (ix2 c (y 1)) := by
  pointwise [k0_pay13]

theorem pay15_apply (u : Vec Ideal S128x512 .bf16) (w : Vec Ideal S512x1024 .bf16) (y : S128x1024.Idx) :
    k0_pay15 u w y = ∑ c : Fin 512, u (ix2 (y 0) c) * w (ix2 c (y 1)) := pay13_apply u w y

theorem pay16_apply (u : Vec Ideal S512x128 .bf16) (w : Vec Ideal S512x1024 .bf16) (y : S128x1024.Idx) :
    k0_pay16 u w y = ∑ c : Fin 512, u (ix2 c (y 0)) * w (ix2 c (y 1)) := by
  pointwise [k0_pay16]

/-- The gated sum through the output weights. -/
theorem pay18_apply (a b c : FVec Ideal S128x1024 .f32) (ga gb gc : Vec Ideal S128x1024 .bf16) (w : Vec Ideal S1024x1024 .bf16) (y : S128x1024.Idx) :
    k0_pay18 a b c ga gb gc w y = ∑ k : Fin 1024, (Ideal.logistic (ga (ix2 (y 0) k)) * a (ix2 (y 0) k) + Ideal.logistic (gb (ix2 (y 0) k)) * b (ix2 (y 0) k)
      + Ideal.logistic (gc (ix2 (y 0) k)) * c (ix2 (y 0) k)) * w (ix2 k (y 1)) := by
  pointwise [k0_pay18]

/-- The first half's is the same, its third product spelt inside. -/
theorem pay17_eq (a b : FVec Ideal S128x1024 .f32) (u : Vec Ideal S512x128 .bf16) (wc : Vec Ideal S512x1024 .bf16) (ga gb gc : Vec Ideal S128x1024 .bf16)
    (w : Vec Ideal S1024x1024 .bf16) : k0_pay17 a b u wc ga gb gc w = k0_pay18 a b (k0_pay16 u wc) ga gb gc w := rfl

/-- The first rows of the gated convolution times the weights. -/
theorem pay12_apply (i : grid0.Coords) (y : S128x1024.Idx) (w : Vec Ideal S512x1024 .bf16) :
    k0_pay12 rows (k0_pay7 (View.ld x6 r0_0) (View.ld x4 r0_0)) (k0_pay8 i (View.ld x8 r0_1) (View.ld x7 r0_1))
      (k0_pay9 i (View.ld x10 r0_2) (View.ld x9 r0_2)) k0_pay10 (View.ld x13 r0_3) (View.ld x13 r0_4) (View.ld x13 r0_5) (View.ld x5 r0_0) w y
    = ∑ c : Fin 512, gated x4 x5 x6 x7 x8 x9 x10 x13 i (ix2 ⟨(y 0).val, by have h : (y 0).val < 128 := (y 0).isLt; omega⟩ c) * w (ix2 c (y 1)) := by
  unfold k0_pay12 gated
  generalize k0_pay11 (F := Ideal) _ _ _ _ _ _ _ _ _ = u
  pointwise

/-- A row of merged values, from its three products. -/
theorem merged_of {ga gb gc ga' gb' gc' a b c a' b' c' w w' : EReal} (h1 : ga = ga') (h2 : a = a') (h3 : gb = gb') (h4 : b = b') (h5 : gc = gc')
    (h6 : c = c') (h7 : w = w') : (Ideal.logistic ga * a + Ideal.logistic gb * b + Ideal.logistic gc * c) * w
      = (Ideal.logistic ga' * a' + Ideal.logistic gb' * b' + Ideal.logistic gc' * c') * w' := by
  rw [h1, h2, h3, h4, h5, h6, h7]

theorem firstHalf (i : grid0.Coords) (y : S128x1024.Idx) :
    k0_pay155 i x0 x1 x2 x3 x4 x5 x6 x7 x8 x9 x10 x11 x12 x13 x14 x15 x16 x17 x18 x19 x20 x21 y
      = ∑ k : Fin 1024, mergedBlk (i 0).val x1 x2 x3 x4 x5 x6 x7 x8 x9 x10 x11 x12 x13 x14 x15 x16
          ⟨(y 0).val, by have h : (y 0).val < 128 := (y 0).isLt; omega⟩ k * x17 (ix2 k (y 1)) := by
  unfold k0_pay155
  rw [pay17_eq]
  refine (pay18_apply _ _ _ _ _ _ _ y).trans (Finset.sum_congr rfl fun k _ => merged_of ?_ ?_ ?_ ?_ ?_ ?_ ?_)
  · pointwise
  · refine (pay12_apply x4 x5 x6 x7 x8 x9 x10 x13 i _ _).trans (Finset.sum_congr rfl fun c _ => ?_)
    rw [gated_apply]
    pointwise
  · pointwise
  · rw [pay13_apply]
    pointwise
  · pointwise
  · rw [pay16_apply]
    pointwise
  · pointwise

theorem secondHalf (i : grid0.Coords) (y : S128x1024.Idx) :
    k0_pay156 i x0 x1 x2 x3 x4 x5 x6 x7 x8 x9 x10 x11 x12 x13 x14 x15 x16 x17 x18 x19 x20 x21 y
      = ∑ k : Fin 1024, mergedBlk (i 0).val x1 x2 x3 x4 x5 x6 x7 x8 x9 x10 x11 x12 x13 x14 x15 x16
          ⟨128 + (y 0).val, by have h : (y 0).val < 128 := (y 0).isLt; omega⟩ k * x17 (ix2 k (y 1)) := by
  unfold k0_pay156
  refine (pay18_apply _ _ _ _ _ _ _ y).trans (Finset.sum_congr rfl fun k _ => merged_of ?_ ?_ ?_ ?_ ?_ ?_ ?_)
  · pointwise
  · refine (pay14_apply (gated x4 x5 x6 x7 x8 x9 x10 x13 i) _ _).trans (Finset.sum_congr rfl fun c _ => ?_)
    rw [gated_apply]
    pointwise
  · pointwise
  · rw [pay15_apply]
    pointwise
  · pointwise
  · rw [pay16_apply]
    pointwise
  · pointwise

/-- The residual of a half. -/
theorem pay23_apply (a : FVec Ideal S128x1024 .f32) (h : Vec Ideal S128x1024 .f32) (g : Vec Ideal S1x1x1x1024 .f32) (y : S128x1024.Idx) :
    k0_pay23 a h g y = h y + g (ix4 0 0 0 (y 1)) * a y := by
  pointwise [k0_pay23]

/-- The norm and the modulation of a half whose residual rows are `u`. -/
theorem pay25_apply (a : FVec Ideal S128x1024 .f32) (h : Vec Ideal S128x1024 .f32) (g : Vec Ideal S1x1x1x1024 .f32) (g2 : Vec Ideal S1x1024 .f32)
    (sc sh : Vec Ideal S1x1x1x1024 .f32) (y : S128x1024.Idx) :
    k0_pay25 (k0_pay24 a h g) g2 sc sh y
      = normed (fun d => k0_pay23 a h g (ix2 (y 0) d)) (fun d => g2 (ix2 0 d)) (fun d => sc (ix4 0 0 0 d)) (fun d => sh (ix4 0 0 0 d)) (y 1) := by
  unfold normed k0_pay25 k0_pay24
  generalize k0_pay23 a h g = u
  pointwise

/-- The first half's is the same. -/
theorem pay21_eq (a : FVec Ideal S128x1024 .f32) (h : Vec Ideal S128x1024 .f32) (g : Vec Ideal S1x1x1x1024 .f32) (g2 : Vec Ideal S1x1024 .f32)
    (sc sh : Vec Ideal S1x1x1x1024 .f32) : k0_pay21 (k0_pay20 a h g g2) sc sh = k0_pay25 (k0_pay24 a h g) g2 sc sh := rfl

/-- The residual rows of the first half. -/
theorem residual_first (i : grid0.Coords) (y : S128x1024.Idx) :
    k0_pay23 (k0_pay155 i x0 x1 x2 x3 x4 x5 x6 x7 x8 x9 x10 x11 x12 x13 x14 x15 x16 x17 x18 x19 x20 x21) (View.ld x0 r0_11) (View.ld x18 r0_14) y
      = residualBlk (i 0).val x0 x1 x2 x3 x4 x5 x6 x7 x8 x9 x10 x11 x12 x13 x14 x15 x16 x17 x18
          ⟨(y 0).val, by have h : (y 0).val < 128 := (y 0).isLt; omega⟩ (y 1) := by
  rw [pay23_apply, firstHalf]
  unfold residualBlk resRow
  generalize mergedBlk _ _ _ _ _ _ _ _ _ _ _ _ _ _ _ _ _ = u
  pointwise

/-- The residual rows of the second half. -/
theorem residual_second (i : grid0.Coords) (y : S128x1024.Idx) :
    k0_pay23 (k0_pay156 i x0 x1 x2 x3 x4 x5 x6 x7 x8 x9 x10 x11 x12 x13 x14 x15 x16 x17 x18 x19 x20 x21) (View.ld x0 r0_13) (View.ld x18 r0_14) y
      = residualBlk (i 0).val x0 x1 x2 x3 x4 x5 x6 x7 x8 x9 x10 x11 x12 x13 x14 x15 x16 x17 x18
          ⟨128 + (y 0).val, by have h : (y 0).val < 128 := (y 0).isLt; omega⟩ (y 1) := by
  rw [pay23_apply, secondHalf]
  unfold residualBlk resRow
  generalize mergedBlk _ _ _ _ _ _ _ _ _ _ _ _ _ _ _ _ _ = u
  pointwise

/-- What a point writes of the residual. -/
theorem out22 (i : grid0.Coords) (y : S256x1024.Idx) :
    out0_22 i x0 x1 x2 x3 x4 x5 x6 x7 x8 x9 x10 x11 x12 x13 x14 x15 x16 x17 x18 x19 x20 x21 y
      = residualBlk (i 0).val x0 x1 x2 x3 x4 x5 x6 x7 x8 x9 x10 x11 x12 x13 x14 x15 x16 x17 x18 (y 0) (y 1) := by
  unfold out0_22
  refine View.canon_apply_of_pieces (Val := Elt Ideal) (e := .f32)
    (fun y : S256x1024.Idx => residualBlk (i 0).val x0 x1 x2 x3 x4 x5 x6 x7 x8 x9 x10 x11 x12 x13 x14 x15 x16 x17 x18 (y 0) (y 1))
    _ ?_ y (cover0_22 _ _ y)
  intro p hp
  rcases List.mem_cons.mp hp with rfl | hp
  · intro x
    refine (residual_second x0 x1 x2 x3 x4 x5 x6 x7 x8 x9 x10 x11 x12 x13 x14 x15 x16 x17 x18 x19 x20 x21 i x).trans ?_
    refine congrArg₂ (residualBlk (i 0).val x0 x1 x2 x3 x4 x5 x6 x7 x8 x9 x10 x11 x12 x13 x14 x15 x16 x17 x18) (Fin.ext ?_) (Fin.ext ?_)
    · simp [Rect.emb_apply]
    · simp [Rect.emb_apply]
  · obtain rfl := List.mem_singleton.mp hp
    intro x
    refine (residual_first x0 x1 x2 x3 x4 x5 x6 x7 x8 x9 x10 x11 x12 x13 x14 x15 x16 x17 x18 x19 x20 x21 i x).trans ?_
    refine congrArg₂ (residualBlk (i 0).val x0 x1 x2 x3 x4 x5 x6 x7 x8 x9 x10 x11 x12 x13 x14 x15 x16 x17 x18) (Fin.ext ?_) (Fin.ext ?_)
    · simp [Rect.emb_apply]
    · simp [Rect.emb_apply]

/-- The normed rows of the first half. -/
theorem normed_first (i : grid0.Coords) (y : S128x1024.Idx) :
    k0_pay25 (k0_pay24 (k0_pay155 i x0 x1 x2 x3 x4 x5 x6 x7 x8 x9 x10 x11 x12 x13 x14 x15 x16 x17 x18 x19 x20 x21) (View.ld x0 r0_11) (View.ld x18 r0_14))
        (View.ld x19 r0_15) (View.ld x18 r0_16) (View.ld x18 r0_17) y
      = normedBlk (i 0).val x0 x1 x2 x3 x4 x5 x6 x7 x8 x9 x10 x11 x12 x13 x14 x15 x16 x17 x18 x19
          ⟨(y 0).val, by have h : (y 0).val < 128 := (y 0).isLt; omega⟩ (y 1) := by
  rw [pay25_apply]
  simp only [residual_first]
  unfold normedBlk normed
  generalize residualBlk _ _ _ _ _ _ _ _ _ _ _ _ _ _ _ _ _ _ _ _ = u
  pointwise

/-- The normed rows of the second half. -/
theorem normed_second (i : grid0.Coords) (y : S128x1024.Idx) :
    k0_pay25 (k0_pay24 (k0_pay156 i x0 x1 x2 x3 x4 x5 x6 x7 x8 x9 x10 x11 x12 x13 x14 x15 x16 x17 x18 x19 x20 x21) (View.ld x0 r0_13) (View.ld x18 r0_14))
        (View.ld x19 r0_15) (View.ld x18 r0_16) (View.ld x18 r0_17) y
      = normedBlk (i 0).val x0 x1 x2 x3 x4 x5 x6 x7 x8 x9 x10 x11 x12 x13 x14 x15 x16 x17 x18 x19
          ⟨128 + (y 0).val, by have h : (y 0).val < 128 := (y 0).isLt; omega⟩ (y 1) := by
  rw [pay25_apply]
  simp only [residual_second]
  unfold normedBlk normed
  generalize residualBlk _ _ _ _ _ _ _ _ _ _ _ _ _ _ _ _ _ _ _ _ = u
  pointwise

/-- What a point writes of the normed rows. -/
theorem out23 (i : grid0.Coords) (y : S256x1024.Idx) :
    out0_23 i x0 x1 x2 x3 x4 x5 x6 x7 x8 x9 x10 x11 x12 x13 x14 x15 x16 x17 x18 x19 x20 x21 y
      = normedBlk (i 0).val x0 x1 x2 x3 x4 x5 x6 x7 x8 x9 x10 x11 x12 x13 x14 x15 x16 x17 x18 x19 (y 0) (y 1) := by
  unfold out0_23 k0_pay159 k0_pay157
  refine View.canon_apply_of_pieces (Val := Elt Ideal) (e := .f32)
    (fun y : S256x1024.Idx => normedBlk (i 0).val x0 x1 x2 x3 x4 x5 x6 x7 x8 x9 x10 x11 x12 x13 x14 x15 x16 x17 x18 x19 (y 0) (y 1))
    _ ?_ y (cover0_23 _ _ y)
  intro p hp
  rcases List.mem_cons.mp hp with rfl | hp
  · intro x
    refine (normed_second x0 x1 x2 x3 x4 x5 x6 x7 x8 x9 x10 x11 x12 x13 x14 x15 x16 x17 x18 x19 x20 x21 i x).trans ?_
    refine congrArg₂ (normedBlk (i 0).val x0 x1 x2 x3 x4 x5 x6 x7 x8 x9 x10 x11 x12 x13 x14 x15 x16 x17 x18 x19) (Fin.ext ?_) (Fin.ext ?_)
    · simp [Rect.emb_apply]
    · simp [Rect.emb_apply]
  · obtain rfl := List.mem_singleton.mp hp
    intro x
    refine Eq.trans (congrFun (pay21_eq _ _ _ _ _ _) x) ?_
    refine (normed_first x0 x1 x2 x3 x4 x5 x6 x7 x8 x9 x10 x11 x12 x13 x14 x15 x16 x17 x18 x19 x20 x21 i x).trans ?_
    refine congrArg₂ (normedBlk (i 0).val x0 x1 x2 x3 x4 x5 x6 x7 x8 x9 x10 x11 x12 x13 x14 x15 x16 x17 x18 x19) (Fin.ext ?_) (Fin.ext ?_)
    · simp [Rect.emb_apply]
    · simp [Rect.emb_apply]

end Cert.Kernel4Ideal.Merge

end
-- ==== Proof.Merge.Blocks.lean ====
/- The blocks that the pipeline hands to a grid point of the merge, from the arguments. Point `t` works on the row block of 256 rows
   number `t`; 65 of them make a batch entry, whose first is the context's. -/
module

public import proofs.«01_k».proof.Proof.Gen.Kernel4Ideal.Value
public import proofs.«01_k».proof.Proof.Merge.Values
public import Idealize.ShloMosaic.Lib.StableHlo.ReadAt

@[expose] public section

set_option maxRecDepth 16384

noncomputable section

namespace Cert.Kernel4Ideal.Merge

open Cert.Kernel4Ideal.Gen
open Idealize.ShloMosaic Idealize.ShloMosaic.TcCoe Idealize.ShloMosaic.Tactic
open Cert.MergeRef

variable (m : (ℓ : Loc nD τ sig) → Buf (Elt Ideal) ℓ)

/-- The index maps. -/
theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 1] := by decide +kernel
theorem idx3 : ∀ t : Fin cfg0.N, win0_3.index t = ![t.val, 2] := by decide +kernel
theorem idx4 : ∀ t : Fin cfg0.N, win0_4.index t = ![t.val, 6] := by decide +kernel
theorem idx5 : ∀ t : Fin cfg0.N, win0_5.index t = ![t.val, 7] := by decide +kernel
theorem idx6 : ∀ t : Fin cfg0.N, win0_6.index t = ![t.val, 8] := by decide +kernel
theorem idx7 : ∀ t : Fin cfg0.N, win0_7.index t = ![16 * t.val - 1, 6] := by decide +kernel
theorem idx8 : ∀ t : Fin cfg0.N, win0_8.index t = ![16 * t.val - 1, 8] := by decide +kernel
theorem idx9 : ∀ t : Fin cfg0.N, win0_9.index t = ![min (16 * t.val + 16) 2079, 6] := by decide +kernel
theorem idx10 : ∀ t : Fin cfg0.N, win0_10.index t = ![min (16 * t.val + 16) 2079, 8] := by decide +kernel
theorem idx11 : ∀ t : Fin cfg0.N, win0_11.index t = ![t.val, 0] := by decide +kernel
theorem idx12 : ∀ t : Fin cfg0.N, win0_12.index t = ![0, t.val] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![0, 0] := by decide +kernel
theorem idx17 : ∀ t : Fin cfg0.N, win0_17.index t = ![0, 0] := by decide +kernel
theorem idx18 : ∀ t : Fin cfg0.N, win0_18.index t = ![t.val / 65, if t.val % 65 = 0 then 0 else 1, 0, 0] := by decide +kernel
theorem idx19 : ∀ t : Fin cfg0.N, win0_19.index t = ![0, 0] := by decide +kernel
theorem idx22 : ∀ t : Fin cfg0.N, win0_22.index t = ![t.val, 0] := by decide +kernel
theorem idx23 : ∀ t : Fin cfg0.N, win0_23.index t = ![t.val, 0] := by decide +kernel

/-- The arguments as launched. -/
abbrev argH (c : Dev nD) : S33280x1024.Idx → EReal := m ((c : Thread nD τ).loc main_arg0)
abbrev argZ (c : Dev nD) : S33280x8192.Idx → EReal := m ((c : Thread nD τ).loc main_arg1)
abbrev argYb (c : Dev nD) : S33280x512.Idx → EReal := m ((c : Thread nD τ).loc main_arg2)
abbrev argYc (c : Dev nD) : S512x33280.Idx → EReal := m ((c : Thread nD τ).loc main_arg3)
abbrev argConv (c : Dev nD) : S3x512.Idx → EReal := m ((c : Thread nD τ).loc main_arg4)
abbrev argWa (c : Dev nD) : S512x1024.Idx → EReal := m ((c : Thread nD τ).loc main_arg5)
abbrev argWb (c : Dev nD) : S512x1024.Idx → EReal := m ((c : Thread nD τ).loc main_arg6)
abbrev argWc (c : Dev nD) : S512x1024.Idx → EReal := m ((c : Thread nD τ).loc main_arg7)
abbrev argWo (c : Dev nD) : S1024x1024.Idx → EReal := m ((c : Thread nD τ).loc main_arg8)
abbrev argMods (c : Dev nD) : S2x2x6x1024.Idx → EReal := m ((c : Thread nD τ).loc main_arg9)
abbrev argG (c : Dev nD) : S1024.Idx → EReal := m ((c : Thread nD τ).loc main_arg10)

/-- A row of the row block of point `t`. -/
abbrev rowOf (t : Fin cfg0.N) (r : Fin 256) : Fin 33280 := ⟨t.val * 256 + r.val, by have ht : t.val < 130 := t.isLt; omega⟩

theorem blk0 (c : Dev nD) (t : Fin cfg0.N) (r : Fin 256) (d : Fin 1024) : iblk m c 0 t (ix2 r d) = argH m c (ix2 (rowOf t r) d) := by
  have ht : t.val < 130 := t.isLt
  refine Eq.trans ?_ (congrFun (V_main_arg0 m c) _)
  blk_ext [iblk, idx0 t]

theorem blk1 (c : Dev nD) (t : Fin cfg0.N) (r : Fin 256) (d : Fin 1024) :
    iblk m c 1 t (ix2 r d) = argZ m c (ix2 (rowOf t r) ⟨d.val, by omega⟩) := by
  have ht : t.val < 130 := t.isLt
  refine Eq.trans ?_ (congrFun (V_main_arg1 m c) _)
  blk_ext [iblk, idx1 t]

theorem blk2 (c : Dev nD) (t : Fin cfg0.N) (r : Fin 256) (d : Fin 1024) :
    iblk m c 2 t (ix2 r d) = argZ m c (ix2 (rowOf t r) ⟨1024 + d.val, by omega⟩) := by
  have ht : t.val < 130 := t.isLt
  refine Eq.trans ?_ (congrFun (V_main_arg1 m c) _)
  blk_ext [iblk, idx2 t]

theorem blk3 (c : Dev nD) (t : Fin cfg0.N) (r : Fin 256) (d : Fin 1024) :
    iblk m c 3 t (ix2 r d) = argZ m c (ix2 (rowOf t r) ⟨2048 + d.val, by omega⟩) := by
  have ht : t.val < 130 := t.isLt
  refine Eq.trans ?_ (congrFun (V_main_arg1 m c) _)
  blk_ext [iblk, idx3 t]

theorem blk4 (c : Dev nD) (t : Fin cfg0.N) (r : Fin 256) (d : Fin 512) :
    iblk m c 4 t (ix2 r d) = argZ m c (ix2 (rowOf t r) ⟨3072 + d.val, by omega⟩) := by
  have ht : t.val < 130 := t.isLt
  refine Eq.trans ?_ (congrFun (V_main_arg1 m c) _)
  blk_ext [iblk, idx4 t]

theorem blk5 (c : Dev nD) (t : Fin cfg0.N) (r : Fin 256) (d : Fin 512) :
    iblk m c 5 t (ix2 r d) = argZ m c (ix2 (rowOf t r) ⟨3584 + d.val, by omega⟩) := by
  have ht : t.val < 130 := t.isLt
  refine Eq.trans ?_ (congrFun (V_main_arg1 m c) _)
  blk_ext [iblk, idx5 t]

theorem blk6 (c : Dev nD) (t : Fin cfg0.N) (r : Fin 256) (d : Fin 512) :
    iblk m c 6 t (ix2 r d) = argZ m c (ix2 (rowOf t r) ⟨4096 + d.val, by omega⟩) := by
  have ht : t.val < 130 := t.isLt
  refine Eq.trans ?_ (congrFun (V_main_arg1 m c) _)
  blk_ext [iblk, idx6 t]

/-- The row before a row block, read where there is one. -/
theorem blk7 (c : Dev nD) (t : Fin cfg0.N) (h : 0 < t.val) (d : Fin 512) :
    iblk m c 7 t (ix2 15 d) = argZ m c (ix2 ⟨t.val * 256 - 1, by have ht : t.val < 130 := t.isLt; omega⟩ ⟨3072 + d.val, by omega⟩) := by
  have ht : t.val < 130 := t.isLt
  refine Eq.trans ?_ (congrFun (V_main_arg1 m c) _)
  blk_ext [iblk, idx7 t]

theorem blk8 (c : Dev nD) (t : Fin cfg0.N) (h : 0 < t.val) (d : Fin 512) :
    iblk m c 8 t (ix2 15 d) = argZ m c (ix2 ⟨t.val * 256 - 1, by have ht : t.val < 130 := t.isLt; omega⟩ ⟨4096 + d.val, by omega⟩) := by
  have ht : t.val < 130 := t.isLt
  refine Eq.trans ?_ (congrFun (V_main_arg1 m c) _)
  blk_ext [iblk, idx8 t]

/-- The row after a row block, read where there is one. -/
theorem blk9 (c : Dev nD) (t : Fin cfg0.N) (h : t.val < 129) (d : Fin 512) :
    iblk m c 9 t (ix2 0 d) = argZ m c (ix2 ⟨t.val * 256 + 256, by omega⟩ ⟨3072 + d.val, by omega⟩) := by
  have e : min (16 * t.val + 16) 2079 = 16 * t.val + 16 := by omega
  refine Eq.trans ?_ (congrFun (V_main_arg1 m c) _)
  blk_ext [iblk, (idx9 t).trans (by rw [e])]

theorem blk10 (c : Dev nD) (t : Fin cfg0.N) (h : t.val < 129) (d : Fin 512) :
    iblk m c 10 t (ix2 0 d) = argZ m c (ix2 ⟨t.val * 256 + 256, by omega⟩ ⟨4096 + d.val, by omega⟩) := by
  have e : min (16 * t.val + 16) 2079 = 16 * t.val + 16 := by omega
  refine Eq.trans ?_ (congrFun (V_main_arg1 m c) _)
  blk_ext [iblk, (idx10 t).trans (by rw [e])]

theorem blk11 (c : Dev nD) (t : Fin cfg0.N) (r : Fin 256) (d : Fin 512) : iblk m c 11 t (ix2 r d) = argYb m c (ix2 (rowOf t r) d) := by
  have ht : t.val < 130 := t.isLt
  refine Eq.trans ?_ (congrFun (V_main_arg2 m c) _)
  blk_ext [iblk, idx11 t]

theorem blk12 (c : Dev nD) (t : Fin cfg0.N) (r : Fin 256) (d : Fin 512) : iblk m c 12 t (ix2 d r) = argYc m c (ix2 d (rowOf t r)) := by
  have ht : t.val < 130 := t.isLt
  refine Eq.trans ?_ (congrFun (V_main_arg3 m c) _)
  blk_ext [iblk, idx12 t]

theorem blk13 (c : Dev nD) (t : Fin cfg0.N) (y : S3x512.Idx) : iblk m c 13 t y = argConv m c y := by
  have ht : t.val < 130 := t.isLt
  refine Eq.trans ?_ (congrFun (V_main_arg4 m c) _)
  blk_ext [iblk, idx13 t]

theorem arr14 (c : Dev nD) (y : S512x1024.Idx) : V m c main_v2 y = argWa m c y := by
  entry_read
  pointwise

theorem blk14 (c : Dev nD) (t : Fin cfg0.N) (y : S512x1024.Idx) : iblk m c 14 t y = argWa m c y := by
  have ht : t.val < 130 := t.isLt
  refine Eq.trans ?_ (arr14 m c y)
  blk_ext [iblk, idx14 t]

theorem arr15 (c : Dev nD) (y : S512x1024.Idx) : V m c main_v3 y = argWb m c y := by
  entry_read
  pointwise

theorem blk15 (c : Dev nD) (t : Fin cfg0.N) (y : S512x1024.Idx) : iblk m c 15 t y = argWb m c y := by
  have ht : t.val < 130 := t.isLt
  refine Eq.trans ?_ (arr15 m c y)
  blk_ext [iblk, idx15 t]

theorem arr16 (c : Dev nD) (y : S512x1024.Idx) : V m c main_v4 y = argWc m c y := by
  entry_read
  pointwise

theorem blk16 (c : Dev nD) (t : Fin cfg0.N) (y : S512x1024.Idx) : iblk m c 16 t y = argWc m c y := by
  have ht : t.val < 130 := t.isLt
  refine Eq.trans ?_ (arr16 m c y)
  blk_ext [iblk, idx16 t]

theorem arr17 (c : Dev nD) (y : S1024x1024.Idx) : V m c main_v5 y = argWo m c y := by
  entry_read
  pointwise

theorem blk17 (c : Dev nD) (t : Fin cfg0.N) (y : S1024x1024.Idx) : iblk m c 17 t y = argWo m c y := by
  have ht : t.val < 130 := t.isLt
  refine Eq.trans ?_ (arr17 m c y)
  blk_ext [iblk, idx17 t]

/-- The vectors that modulate a row block. -/
theorem blk18 (c : Dev nD) (t : Fin cfg0.N) (q : Fin 6) (d : Fin 1024) :
    iblk m c 18 t (ix4 0 0 q d)
      = argMods m c (ix4 ⟨t.val / 65, by have ht : t.val < 130 := t.isLt; omega⟩ (if t.val % 65 = 0 then 0 else 1) q d) := by
  have ht : t.val < 130 := t.isLt
  refine Eq.trans ?_ (congrFun (V_main_arg9 m c) _)
  by_cases h : t.val % 65 = 0
  · rw [if_pos h]
    blk_ext [iblk, (idx18 t).trans (by rw [if_pos h])]
  · rw [if_neg h]
    blk_ext [iblk, (idx18 t).trans (by rw [if_neg h])]

theorem arr19 (c : Dev nD) (y : S1x1024.Idx) : V m c main_v6 y = argG m c (ix1 (y 1)) := by
  entry_read
  pointwise

theorem blk19 (c : Dev nD) (t : Fin cfg0.N) (d : Fin 1024) : iblk m c 19 t (ix2 0 d) = argG m c (ix1 d) := by
  have ht : t.val < 130 := t.isLt
  refine Eq.trans ?_ (arr19 m c (ix2 0 d))
  blk_ext [iblk, idx19 t]

end Cert.Kernel4Ideal.Merge

end
-- ==== Proof.Merge.Goal.lean ====
/- The merge's results at an index, from the arguments: what both programs are shown to compute. -/
module

public import proofs.«01_k».proof.Proof.Merge.Row
public import proofs.«01_k».proof.Proof.Gen.Reference4Ideal
public import Idealize.ShloMosaic.Lib.Pipeline.Value
public import Idealize.ShloMosaic.Lib.Pipeline.ValueKit

@[expose] public section

noncomputable section

namespace Cert.MergeRef

open Cert.Reference4Ideal
open Idealize.ShloMosaic Idealize.ShloMosaic.TcCoe Idealize.ShloMosaic.Tactic

variable (x0 : S33280x1024.Idx → EReal) (x1 : S33280x8192.Idx → EReal) (x2 : S33280x512.Idx → EReal) (x3 : S512x33280.Idx → EReal)
  (x4 : S3x512.Idx → EReal) (x5 x6 x7 : S512x1024.Idx → EReal) (x8 : S1024x1024.Idx → EReal) (x9 : S2x2x6x1024.Idx → EReal) (x10 : S1024.Idx → EReal)

/-- The convolved channels of row `r`. -/
def chan (r : Fin 33280) (c : Fin 512) : EReal := x1 (ix2 r ⟨4096 + c.val, by omega⟩) * x1 (ix2 r ⟨3072 + c.val, by omega⟩)

/-- The convolution over positions of row `r`: nothing lies before the first context and the first latent token of a batch entry,
    nor after the last ones. -/
def conv (r : Fin 33280) (c : Fin 512) : EReal :=
  (if r.val % 16640 = 0 ∨ r.val % 16640 = 256 then 0 else chan x1 ⟨(r.val + 33279) % 33280, Nat.mod_lt _ (by decide)⟩ c) * x4 (ix2 0 c)
    + chan x1 r c * x4 (ix2 1 c)
    + (if r.val % 16640 = 255 ∨ r.val % 16640 = 16639 then 0 else chan x1 ⟨(r.val + 1) % 33280, Nat.mod_lt _ (by decide)⟩ c) * x4 (ix2 2 c)

/-- The merged row `r`. -/
def mergedRow (r : Fin 33280) (k : Fin 1024) : EReal :=
  merged (fun k => x1 (ix2 r ⟨k.val, by omega⟩)) (fun k => x1 (ix2 r ⟨1024 + k.val, by omega⟩)) (fun k => x1 (ix2 r ⟨2048 + k.val, by omega⟩))
    (fun c => x1 (ix2 r ⟨3584 + c.val, by omega⟩) * conv x1 x4 r c) (fun c => x2 (ix2 r c)) (fun c => x3 (ix2 c r))
    (fun c k => x5 (ix2 c k)) (fun c k => x6 (ix2 c k)) (fun c k => x7 (ix2 c k)) k

/-- Vector `q` of those that modulate row `r`: the context tokens' or the latent tokens'. -/
def vec (r : Fin 33280) (q : Fin 6) (d : Fin 1024) : EReal :=
  x9 (ix4 ⟨r.val / 16640, by omega⟩ (if r.val % 16640 < 256 then 0 else 1) q d)

/-- The residual row `r`. -/
def goalRes (r : Fin 33280) (d : Fin 1024) : EReal :=
  resRow (fun d => x0 (ix2 r d)) (vec x9 r 2) (mergedRow x1 x2 x3 x4 x5 x6 x7 r) (fun k d => x8 (ix2 k d)) d

/-- The normed row `r`. -/
def goalNorm (r : Fin 33280) (d : Fin 1024) : EReal :=
  normed (goalRes x0 x1 x2 x3 x4 x5 x6 x7 x8 x9 r) (fun d => x10 (ix1 d)) (vec x9 r 4) (vec x9 r 3) d

end Cert.MergeRef

end
-- ==== Proof.Merge.Rows.lean ====
/- What a grid point of the merge writes is its row block of the results. -/
module

public import proofs.«01_k».proof.Proof.Merge.Blocks
public import proofs.«01_k».proof.Proof.Merge.Goal

@[expose] public section

set_option maxRecDepth 16384

noncomputable section

namespace Cert.Kernel4Ideal.Merge

open Cert.Kernel4Ideal.Gen
open Idealize.ShloMosaic Idealize.ShloMosaic.TcCoe Idealize.ShloMosaic.Tactic
open Cert.MergeRef

variable (m : (ℓ : Loc nD τ sig) → Buf (Elt Ideal) ℓ)

/-- The row block of a grid point. -/
theorem coord0 : ∀ t : Fin cfg0.N, ((grid0.coords t) 0).val = t.val := by decide +kernel

/-- The channel before a row: in the row block, or the last row of the one before. -/
theorem before_row (c : Dev nD) (t : Fin cfg0.N) (r : Fin 256) (k : Fin 512) :
    (if r.val = 0 then (if 1 < t.val % 65 then @HMul.hMul EReal EReal EReal _ (iblk m c 8 t (ix2 15 k)) (iblk m c 7 t (ix2 15 k)) else 0)
      else @HMul.hMul EReal EReal EReal _ (iblk m c 6 t (ix2 ⟨(r.val + 255) % 256, Nat.mod_lt _ (by decide)⟩ k)) (iblk m c 4 t (ix2 ⟨(r.val + 255) % 256, Nat.mod_lt _ (by decide)⟩ k)))
    = if (rowOf t r).val % 16640 = 0 ∨ (rowOf t r).val % 16640 = 256 then 0
        else chan (argZ m c) ⟨((rowOf t r).val + 33279) % 33280, Nat.mod_lt _ (by decide)⟩ k := by
  have ht : t.val < 130 := t.isLt
  have hr : r.val < 256 := r.isLt
  have e : (rowOf t r).val = t.val * 256 + r.val := rfl
  unfold chan
  by_cases h0 : r.val = 0
  · rw [if_pos h0]
    by_cases h1 : 1 < t.val % 65
    · rw [if_pos h1, if_neg (by omega), blk8 m c t (by omega), blk7 m c t (by omega)]
      have q : (⟨t.val * 256 - 1, by omega⟩ : Fin 33280) = ⟨((rowOf t r).val + 33279) % 33280, Nat.mod_lt _ (by decide)⟩ := Fin.ext (by show _ = _; simp only [e]; omega)
      rw [q]
    · rw [if_neg h1, if_pos (by omega)]
  · rw [if_neg h0, if_neg (by omega), blk6, blk4]
    have q : rowOf t ⟨(r.val + 255) % 256, Nat.mod_lt _ (by decide)⟩ = ⟨((rowOf t r).val + 33279) % 33280, Nat.mod_lt _ (by decide)⟩ := Fin.ext (by show t.val * 256 + (r.val + 255) % 256 = _; simp only [e]; omega)
    rw [q]

/-- The channel after a row: in the row block, or the first row of the next one. -/
theorem after_row (c : Dev nD) (t : Fin cfg0.N) (r : Fin 256) (k : Fin 512) :
    (if r.val = 255 then (if 0 < t.val % 65 ∧ t.val % 65 < 64 then @HMul.hMul EReal EReal EReal _ (iblk m c 10 t (ix2 0 k)) (iblk m c 9 t (ix2 0 k)) else 0)
      else @HMul.hMul EReal EReal EReal _ (iblk m c 6 t (ix2 ⟨(r.val + 1) % 256, Nat.mod_lt _ (by decide)⟩ k)) (iblk m c 4 t (ix2 ⟨(r.val + 1) % 256, Nat.mod_lt _ (by decide)⟩ k)))
    = if (rowOf t r).val % 16640 = 255 ∨ (rowOf t r).val % 16640 = 16639 then 0
        else chan (argZ m c) ⟨((rowOf t r).val + 1) % 33280, Nat.mod_lt _ (by decide)⟩ k := by
  have ht : t.val < 130 := t.isLt
  have hr : r.val < 256 := r.isLt
  have e : (rowOf t r).val = t.val * 256 + r.val := rfl
  unfold chan
  by_cases h0 : r.val = 255
  · rw [if_pos h0]
    by_cases h1 : 0 < t.val % 65 ∧ t.val % 65 < 64
    · rw [if_pos h1, if_neg (by omega), blk10 m c t (by omega), blk9 m c t (by omega)]
      have q : (⟨t.val * 256 + 256, by omega⟩ : Fin 33280) = ⟨((rowOf t r).val + 1) % 33280, Nat.mod_lt _ (by decide)⟩ := Fin.ext (by show _ = _; simp only [e]; omega)
      rw [q]
    · rw [if_neg h1, if_pos (by omega)]
  · rw [if_neg h0, if_neg (by omega), blk6, blk4]
    have q : rowOf t ⟨(r.val + 1) % 256, Nat.mod_lt _ (by decide)⟩ = ⟨((rowOf t r).val + 1) % 33280, Nat.mod_lt _ (by decide)⟩ := Fin.ext (by show t.val * 256 + (r.val + 1) % 256 = _; simp only [e]; omega)
    rw [q]

/-- The gated convolution of a row. -/
theorem conv_row (c : Dev nD) (t : Fin cfg0.N) (r : Fin 256) (k : Fin 512) :
    convBlk t.val (iblk m c 4 t) (iblk m c 5 t) (iblk m c 6 t) (iblk m c 7 t) (iblk m c 8 t) (iblk m c 9 t) (iblk m c 10 t) (iblk m c 13 t) r k
      = argZ m c (ix2 (rowOf t r) ⟨3584 + k.val, by omega⟩) * conv (argZ m c) (argConv m c) (rowOf t r) k := by
  unfold convBlk conv
  rw [before_row, after_row, blk5, blk4, blk6, blk13, blk13, blk13]
  rfl

/-- The vectors of a row. -/
theorem vec_row (c : Dev nD) (t : Fin cfg0.N) (r : Fin 256) (q : Fin 6) (d : Fin 1024) :
    iblk m c 18 t (ix4 0 0 q d) = vec (argMods m c) (rowOf t r) q d := by
  have ht : t.val < 130 := t.isLt
  have hr : r.val < 256 := r.isLt
  have e : (rowOf t r).val = t.val * 256 + r.val := rfl
  rw [blk18]
  unfold vec
  have e1 : (⟨t.val / 65, by omega⟩ : Fin 2) = ⟨(rowOf t r).val / 16640, by omega⟩ := Fin.ext (by show _ = _; simp only [e]; omega)
  have e2 : (if t.val % 65 = 0 then (0 : Fin 2) else 1) = if (rowOf t r).val % 16640 < 256 then 0 else 1 := by
    by_cases h : t.val % 65 = 0
    · rw [if_pos h, if_pos (by omega)]
    · rw [if_neg h, if_neg (by omega)]
  rw [e1, e2]

/-- A residual row. -/
theorem res_row (c : Dev nD) (t : Fin cfg0.N) (r : Fin 256) (d : Fin 1024) :
    residualBlk t.val (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) (iblk m c 16 t)
        (iblk m c 17 t) (iblk m c 18 t) r d
      = goalRes (argH m c) (argZ m c) (argYb m c) (argYc m c) (argConv m c) (argWa m c) (argWb m c) (argWc m c) (argWo m c) (argMods m c) (rowOf t r) d := by
  have e18 := fun d => vec_row m c t r 2 d
  unfold residualBlk goalRes resRow mergedBlk mergedRow merged
  simp only [blk0, blk1, blk2, blk3, conv_row, blk11, blk12, blk14, blk15, blk16, blk17, e18]

/-- A normed row. -/
theorem norm_row (c : Dev nD) (t : Fin cfg0.N) (r : Fin 256) (d : Fin 1024) :
    normedBlk t.val (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) (iblk m c 16 t)
        (iblk m c 17 t) (iblk m c 18 t) (iblk m c 19 t) r d
      = goalNorm (argH m c) (argZ m c) (argYb m c) (argYc m c) (argConv m c) (argWa m c) (argWb m c) (argWc m c) (argWo m c) (argMods m c) (argG m c)
          (rowOf t r) d := by
  have e3 := fun d => vec_row m c t r 3 d
  have e4 := fun d => vec_row m c t r 4 d
  unfold normedBlk goalNorm normed
  simp only [res_row, blk19, e3, e4]

/-- The residual array after the run. -/
theorem arr_res (c : Dev nD) : (dats m 0 c).arrAt 22 cfg0.N = fun i : S33280x1024.Idx =>
    goalRes (argH m c) (argZ m c) (argYb m c) (argYc m c) (argConv m c) (argWa m c) (argWb m c) (argWc m c) (argWo m c) (argMods m c) (i 0) (i 1) := by
  refine (dats m 0 c).arrAt_eq_of_covers 22 _ (by decide +kernel) fun t hf y => ?_
  have ht : t.val < 130 := t.isLt
  have h0 : (y 0).val < 256 := (y 0).isLt
  have h1 : (y 1).val < 1024 := (y 1).isLt
  blk_simp
  rw [after0_22]
  refine (out22 _ _ _ _ _ _ _ _ _ _ _ _ _ _ _ _ _ _ _ _ _ _ _ y).trans ?_
  rw [coord0 t]
  refine (res_row m c t (y 0) (y 1)).trans ?_
  refine congrArg₂ (goalRes _ _ _ _ _ _ _ _ _ _) (Fin.ext ?_) (Fin.ext ?_)
  · blk_simp [idx22 t]
  · blk_simp [idx22 t]

/-- The normed array after the run. -/
theorem arr_norm (c : Dev nD) : (dats m 0 c).arrAt 23 cfg0.N = fun i : S33280x1024.Idx =>
    goalNorm (argH m c) (argZ m c) (argYb m c) (argYc m c) (argConv m c) (argWa m c) (argWb m c) (argWc m c) (argWo m c) (argMods m c) (argG m c)
      (i 0) (i 1) := by
  refine (dats m 0 c).arrAt_eq_of_covers 23 _ (by decide +kernel) fun t hf y => ?_
  have ht : t.val < 130 := t.isLt
  have h0 : (y 0).val < 256 := (y 0).isLt
  have h1 : (y 1).val < 1024 := (y 1).isLt
  blk_simp
  rw [after0_23]
  refine (out23 _ _ _ _ _ _ _ _ _ _ _ _ _ _ _ _ _ _ _ _ _ _ _ y).trans ?_
  rw [coord0 t]
  refine (norm_row m c t (y 0) (y 1)).trans ?_
  refine congrArg₂ (goalNorm _ _ _ _ _ _ _ _ _ _ _) (Fin.ext ?_) (Fin.ext ?_)
  · blk_simp [idx23 t]
  · blk_simp [idx23 t]

end Cert.Kernel4Ideal.Merge

end
-- ==== Proof.Merge.Ref.lean ====
/- The reference's results at an index: the merged row of a token, its residual and its normed row. -/
module

public import proofs.«01_k».proof.Proof.Gen.Reference4Ideal.Read
public import proofs.«01_k».proof.Proof.Merge.Goal
public import Idealize.ShloMosaic.Lib.Pipeline.Value
public import Idealize.ShloMosaic.Lib.Pipeline.ValueKit

@[expose] public section

set_option maxRecDepth 16384

noncomputable section

namespace Cert.MergeRef

open Cert.Reference4Ideal Cert.Reference4Ideal.Read
open Idealize.ShloMosaic Idealize.ShloMosaic.TcCoe Idealize.ShloMosaic.Tactic

variable (x0 : S33280x1024.Idx → EReal) (x1 : S33280x8192.Idx → EReal) (x2 : S33280x512.Idx → EReal) (x3 : S512x33280.Idx → EReal)
  (x4 : S3x512.Idx → EReal) (x5 x6 x7 : S512x1024.Idx → EReal) (x8 : S1024x1024.Idx → EReal) (x9 : S2x2x6x1024.Idx → EReal) (x10 : S1024.Idx → EReal)

/-- Row of token `s` of batch entry `b`. -/
abbrev at_ (b : Fin 2) (s : Fin 16640) : Fin 33280 := ⟨b.val * 16640 + s.val, by omega⟩

/-- A channel of a token. -/
theorem chan_eq (b : Fin 2) (s : Fin 16640) (c : Fin 512) : val_main_v11 (F := Ideal) x1 (ix3 b s c) = chan x1 (at_ b s) c := by
  unfold chan
  pointwise [val_main_v11, val_main_v10, val_main_v8, val_main_v2, val_main_v1]

/-- The channel before a token: zero before the first context and the first latent token. -/
theorem before_eq (b : Fin 2) (s : Fin 16640) (c : Fin 512) :
    val_main_v15 (F := Ideal) x1 (ix3 b s c)
      = if (at_ b s).val % 16640 = 0 ∨ (at_ b s).val % 16640 = 256 then 0
        else chan x1 ⟨((at_ b s).val + 33279) % 33280, Nat.mod_lt _ (by decide)⟩ c := by
  pointwise [val_main_v15, val_main_v14, val_main_v13, val_main_v12, val_main_cst]
  simp only [chan_eq]
  split_ifs
  all_goals first
    | (exfalso; omega)
    | exact (if_pos (by omega)).symm
    | rfl
    | (refine Eq.trans ?_ (if_neg (by omega)).symm
       refine congrArg (fun n => chan x1 n c) (Fin.ext ?_)
       dsimp only [at_]
       omega)

/-- The channel after a token: zero after the last context and the last latent token. -/
theorem after_eq (b : Fin 2) (s : Fin 16640) (c : Fin 512) :
    val_main_v18 (F := Ideal) x1 (ix3 b s c)
      = if (at_ b s).val % 16640 = 255 ∨ (at_ b s).val % 16640 = 16639 then 0
        else chan x1 ⟨((at_ b s).val + 1) % 33280, Nat.mod_lt _ (by decide)⟩ c := by
  pointwise [val_main_v18, val_main_v17, val_main_v16, val_main_v12, val_main_cst]
  simp only [chan_eq]
  split_ifs
  all_goals first
    | (exfalso; omega)
    | exact (if_pos (by omega)).symm
    | rfl
    | (refine Eq.trans ?_ (if_neg (by omega)).symm
       refine congrArg (fun n => chan x1 n c) (Fin.ext ?_)
       dsimp only [at_]
       omega)

/-- The convolution of a token. -/
theorem conv_eq (b : Fin 2) (s : Fin 16640) (c : Fin 512) : val_main_v35 (F := Ideal) x1 x4 (ix3 b s c) = conv x1 x4 (at_ b s) c := by
  unfold conv
  pointwise [val_main_v35, val_main_v34, val_main_v33, val_main_v32, val_main_v31, val_main_v30, val_main_v29, val_main_v28, val_main_v27,
    val_main_v26, val_main_v25, val_main_v24, val_main_v23, val_main_v22, val_main_v21, val_main_v20, val_main_v19]
  simp only [before_eq, after_eq, chan_eq]

/-- A vector of the context tokens or of the latent tokens of a batch entry, given to each token, is the token's vector. -/
theorem vec_token (b : Fin 2) (s : Fin 16640) (q : Fin 6) (d : Fin 1024) :
    (if h : s.val < 256 then x9 (ix4 b 0 q d) else x9 (ix4 b 1 q d)) = vec x9 (at_ b s) q d := by
  unfold vec
  have e : b = ⟨(b.val * 16640 + s.val) / 16640, by omega⟩ := Fin.ext (by show b.val = (b.val * 16640 + s.val) / 16640; omega)
  by_cases h : s.val < 256
  · rw [dif_pos h, if_pos (by show (b.val * 16640 + s.val) % 16640 < 256; omega)]
    exact congrArg (fun n => x9 (ix4 n 0 q d)) e
  · rw [dif_neg h, if_neg (by show ¬ (b.val * 16640 + s.val) % 16640 < 256; omega)]
    exact congrArg (fun n => x9 (ix4 n 1 q d)) e

/-- The residual's scale of a token. -/
theorem vec_g1 (b : Fin 2) (s : Fin 16640) (d : Fin 1024) : val_main_v62 (F := Ideal) x9 (ix3 b s d) = vec x9 (at_ b s) 2 d := by
  pointwise [val_main_v62, val_main_v61, val_main_v60, val_main_v59, val_main_v58, val_main_v57, val_main_v56, val_main_v55]
  have e : (⟨2 + d.val / 1024, by omega⟩ : Fin 6) = 2 := Fin.ext (by show 2 + d.val / 1024 = 2; omega)
  have e' : (⟨d.val % 1024, by omega⟩ : Fin 1024) = d := Fin.ext (by show d.val % 1024 = d.val; omega)
  rw [e, e']
  exact vec_token x9 b s 2 d

/-- The shift of a token. -/
theorem vec_sh (b : Fin 2) (s : Fin 16640) (d : Fin 1024) : val_main_v63 (F := Ideal) x9 (ix3 b s d) = vec x9 (at_ b s) 3 d := by
  pointwise [val_main_v63, val_main_v61, val_main_v60, val_main_v59, val_main_v58, val_main_v57, val_main_v56, val_main_v55]
  have e : (⟨2 + (1024 + d.val) / 1024, by omega⟩ : Fin 6) = 3 := Fin.ext (by show 2 + (1024 + d.val) / 1024 = 3; omega)
  rw [e]
  exact vec_token x9 b s 3 d

/-- The scale of a token. -/
theorem vec_sc (b : Fin 2) (s : Fin 16640) (d : Fin 1024) : val_main_v64 (F := Ideal) x9 (ix3 b s d) = vec x9 (at_ b s) 4 d := by
  pointwise [val_main_v64, val_main_v61, val_main_v60, val_main_v59, val_main_v58, val_main_v57, val_main_v56, val_main_v55]
  have e : (⟨2 + (2048 + d.val) / 1024, by omega⟩ : Fin 6) = 4 := Fin.ext (by show 2 + (2048 + d.val) / 1024 = 4; omega)
  rw [e]
  exact vec_token x9 b s 4 d

/-- The merged row of a token. -/
theorem merged_eq (b : Fin 2) (s : Fin 16640) (k : Fin 1024) :
    val_main_v54 (F := Ideal) x1 x2 x3 x4 x5 x6 x7 (ix3 b s k) = mergedRow x1 x2 x3 x4 x5 x6 x7 (at_ b s) k := by
  unfold mergedRow merged Ideal.logistic
  pointwise [val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_v36,
    val_main_v9, val_main_v7, val_main_v6, val_main_v5, val_main_v4, val_main_v3, val_main_v2, val_main_v1, val_main_cst_0, val_main_cst_1]
  simp only [conv_eq]

/-- The residual row of a token. -/
theorem res_eq (b : Fin 2) (s : Fin 16640) (d : Fin 1024) :
    val_main_v67 (F := Ideal) x0 x1 x2 x3 x4 x5 x6 x7 x8 x9 (ix3 b s d) = goalRes x0 x1 x2 x3 x4 x5 x6 x7 x8 x9 (at_ b s) d := by
  unfold goalRes resRow
  pointwise [val_main_v67, val_main_v66, val_main_v65, val_main_v0]
  simp only [vec_g1, merged_eq]

/-- The normed row of a token. -/
theorem norm_eq (b : Fin 2) (s : Fin 16640) (d : Fin 1024) :
    val_main_v84 (F := Ideal) x0 x1 x2 x3 x4 x5 x6 x7 x8 x9 x10 (ix3 b s d) = goalNorm x0 x1 x2 x3 x4 x5 x6 x7 x8 x9 x10 (at_ b s) d := by
  unfold goalNorm normed
  pointwise [val_main_v84, val_main_v83, val_main_v82, val_main_v81, val_main_v80, val_main_v79, val_main_v78, val_main_v77, val_main_v76,
    val_main_v75, val_main_v74, val_main_v73, val_main_v72, val_main_v71, val_main_v70, val_main_v69, val_main_v68, val_main_cst_2, val_main_cst_3,
    val_main_cst_4, val_main_cst_5]
  simp only [vec_sh, vec_sc, res_eq]

/-- A row is the row of its batch entry's token. -/
theorem at_split (r : Fin 33280) : at_ ⟨r.val / 16640, by omega⟩ ⟨r.val % 16640, by omega⟩ = r :=
  Fin.ext (by show r.val / 16640 * 16640 + r.val % 16640 = r.val; omega)

/-- The residual result at an index. -/
theorem result_res (i : S33280x1024.Idx) :
    val_main_v85 (F := Ideal) x0 x1 x2 x3 x4 x5 x6 x7 x8 x9 i = goalRes x0 x1 x2 x3 x4 x5 x6 x7 x8 x9 (i 0) (i 1) := by
  have h0 : (i 0).val < 33280 := (i 0).isLt
  have h1 : (i 1).val < 1024 := (i 1).isLt
  rw [val_main_v85_apply]
  have e : idx_main_v85 i = ix3 (⟨(i 0).val / 16640, by omega⟩ : Fin 2) (⟨(i 0).val % 16640, by omega⟩ : Fin 16640) (i 1) := by
    funext a
    match a with
    | ⟨0, _⟩ => exact Fin.ext (by show ((i 0).val * 1024 + (i 1).val) / 17039360 = (i 0).val / 16640; omega)
    | ⟨1, _⟩ => exact Fin.ext (by show ((i 0).val * 1024 + (i 1).val) / 1024 % 16640 = (i 0).val % 16640; omega)
    | ⟨2, _⟩ => exact Fin.ext (by show ((i 0).val * 1024 + (i 1).val) % 1024 = (i 1).val; omega)
  rw [e]
  refine (res_eq _ _ _ _ _ _ _ _ _ _ _ _ _).trans ?_
  exact congrArg (fun r => goalRes x0 x1 x2 x3 x4 x5 x6 x7 x8 x9 r (i 1)) (at_split (i 0))

/-- The normed result at an index. -/
theorem result_norm (i : S33280x1024.Idx) :
    val_main_v86 (F := Ideal) x0 x1 x2 x3 x4 x5 x6 x7 x8 x9 x10 i = goalNorm x0 x1 x2 x3 x4 x5 x6 x7 x8 x9 x10 (i 0) (i 1) := by
  have h0 : (i 0).val < 33280 := (i 0).isLt
  have h1 : (i 1).val < 1024 := (i 1).isLt
  rw [val_main_v86_apply]
  have e : idx_main_v86 i = ix3 (⟨(i 0).val / 16640, by omega⟩ : Fin 2) (⟨(i 0).val % 16640, by omega⟩ : Fin 16640) (i 1) := by
    funext a
    match a with
    | ⟨0, _⟩ => exact Fin.ext (by show ((i 0).val * 1024 + (i 1).val) / 17039360 = (i 0).val / 16640; omega)
    | ⟨1, _⟩ => exact Fin.ext (by show ((i 0).val * 1024 + (i 1).val) / 1024 % 16640 = (i 0).val % 16640; omega)
    | ⟨2, _⟩ => exact Fin.ext (by show ((i 0).val * 1024 + (i 1).val) % 1024 = (i 1).val; omega)
  rw [e]
  refine (norm_eq _ _ _ _ _ _ _ _ _ _ _ _ _ _).trans ?_
  exact congrArg (fun r => goalNorm x0 x1 x2 x3 x4 x5 x6 x7 x8 x9 x10 r (i 1)) (at_split (i 0))

end Cert.MergeRef

end
-- ==== Proof.Merge.Result.lean ====
/- The merge and its reference end with equal residual rows and equal normed rows. -/
module

public import proofs.«01_k».proof.Proof.Merge.Rows
public import proofs.«01_k».proof.Proof.Merge.Ref
public import proofs.«01_k».proof.Proof.Gen.Kernel4Ideal.Value
public import proofs.«01_k».proof.Defs
public import Idealize.ShloMosaic.Lib.Claim

@[expose] public section

set_option maxRecDepth 16384

noncomputable section

namespace Cert.Proof

open Idealize.ShloMosaic Idealize.ShloMosaic.TcCoe Idealize.ShloMosaic.Tactic Idealize.SL.Sem

/-- The merge and its reference agree over the reals, in both results. -/
theorem algebraic4 : Cert.algebraic_Kernel4Ideal_Reference4Ideal := by
  intro m g m' g' hpre hagree
  refine ⟨fun c => _, fun c => _,
    (θ_run Cert.Kernel4Ideal.defs _ _).mono (fun r h c => ⟨(h c).1, (h c).2.1, (h c).2.2.2.2⟩) (Cert.Kernel4Ideal.Value.run_blocks m g), ?_⟩
  refine (θ_run Cert.Reference4Ideal.defs _ _).mono (fun r h c => ⟨(h c).1.trans ?_, (h c).2.1.trans ?_, (h c).2.2⟩)
    (Cert.Reference4Ideal.Value.run (F := Ideal) m' g')
  · rw [Cert.Reference4Ideal.Read.val_main_v85_eq]
    obtain ⟨h0, h1, h2, h3, h4, h5, h6, h7, h8, h9, _⟩ := hagree c
    rw [h0, h1, h2, h3, h4, h5, h6, h7, h8, h9]
    refine Eq.trans ?_ (Cert.Kernel4Ideal.Merge.arr_res m c).symm
    funext i
    exact Cert.MergeRef.result_res _ _ _ _ _ _ _ _ _ _ i
  · rw [Cert.Reference4Ideal.Read.val_main_v86_eq]
    obtain ⟨h0, h1, h2, h3, h4, h5, h6, h7, h8, h9, h10, _⟩ := hagree c
    rw [h0, h1, h2, h3, h4, h5, h6, h7, h8, h9, h10]
    refine Eq.trans ?_ (Cert.Kernel4Ideal.Merge.arr_norm m c).symm
    funext i
    exact Cert.MergeRef.result_norm _ _ _ _ _ _ _ _ _ _ _ i

/-- The reference runs and keeps its arguments; it has no counter. -/
theorem frameRef4 : Cert.quiescent_Reference4Ideal := by
  intro m g _
  exact (θ_run Cert.Reference4Ideal.defs _ _).mono (fun r h => ⟨fun c => (h c).2.2, sem_eq_zero_of_no_sems (by decide) r.2⟩)
    (Cert.Reference4Ideal.Value.run (F := Ideal) m g)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_qk
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_in_range
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Attention.Bits
public import proofs.«01_k».proof.Proof.Attention.Result
public import proofs.«01_k».proof.Proof.Projection.Bits
public import proofs.«01_k».proof.Proof.Projection.Result
public import proofs.«01_k».proof.Proof.Experts.Bits
public import proofs.«01_k».proof.Proof.Experts.Result
public import proofs.«01_k».proof.Proof.Merge.Bits
public import proofs.«01_k».proof.Proof.Merge.Result

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite_qk.Gen.facts, Cert.Pre_in_range.Gen.facts,
    Cert.Kernel.Att.frame, (fun m g _ => Cert.KernelIdeal.Att.frame m g), (fun m g _ => Cert.KernelIdeal.Att.frame m g),
    frameRef, (fun m g _ => frameRef m g trivial),
    Cert.Kernel2.Proj.frame, (fun m g _ => Cert.Kernel2Ideal.Gen.frame m g), frameRef2,
    Cert.Kernel3.Experts.frame, frame3Ideal, frameRef3, (fun m g _ => frameRef3 m g trivial),
    Cert.Kernel4.Merge.frame, (fun m g _ => Cert.Kernel4Ideal.Gen.frame m g), frameRef4,
    trivial, algebraic, trivial, algebraic2, trivial, algebraic3, trivial, algebraic4⟩

end Cert.Proof

end
